-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v21) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S16384x12288 : Shape := ⟨2, ![16384, 12288]⟩
abbrev S16384x128 : Shape := ⟨2, ![16384, 128]⟩
abbrev S4x8192 : Shape := ⟨2, ![4, 8192]⟩
abbrev S32 : Shape := ⟨1, ![32]⟩
abbrev S128 : Shape := ⟨1, ![128]⟩
abbrev S16384x4096 : Shape := ⟨2, ![16384, 4096]⟩
abbrev S_ : Shape := ⟨0, ![]⟩
abbrev S16384x32 : Shape := ⟨2, ![16384, 32]⟩
abbrev S4x4096 : Shape := ⟨2, ![4, 4096]⟩

class Facts : Prop where
  slices_S16384x12288_S16384x4096_0_4096 : S16384x12288.Slices ![0, 4096] S16384x4096
  bcast_S_S16384x4096 : S_.BroadcastsInDim S16384x4096 (![] : Fin 0 → Fin S16384x4096.rank)
  slices_S16384x128_S16384x32_0_0 : S16384x128.Slices ![0, 0] S16384x32
  bcast_S_S16384x32 : S_.BroadcastsInDim S16384x32 (![] : Fin 0 → Fin S16384x32.rank)
  slices_S4x8192_S4x4096_0_4096 : S4x8192.Slices ![0, 4096] S4x4096
  bcast_S_S4x4096 : S_.BroadcastsInDim S4x4096 (![] : Fin 0 → Fin S4x4096.rank)
  bcast_S_S32 : S_.BroadcastsInDim S32 (![] : Fin 0 → Fin S32.rank)

variable [Facts]

def fn {F : FTy → Type} [FloatOps F] (main_arg0 : FVec F S16384x12288 .f32) (main_arg1 : FVec F S16384x128 .f32) (main_arg2 : FVec F S4x8192 .f32) (main_arg3 : FVec F S32 .f32) (main_arg4 : FVec F S32 .f32) (main_arg5 : FVec F S128 .f32) : IVec S16384x4096 1 × IVec S16384x32 1 × IVec S4x4096 1 × IVec S32 1 × IVec S32 1 :=
  let main_v0 : FVec F S16384x4096 .f32 := (extractStridedSlice S16384x4096 ![0, 4096] · slices_S16384x12288_S16384x4096_0_4096) main_arg0
  let main_v1 : FVec F S16384x4096 .f32 := Host.absf main_v0
  let main_cst : FVec F S_ .f32 := constant S_ .f32 0x7F800000#32
  let main_v2 : FVec F S16384x4096 .f32 := broadcastInDim S16384x4096 ![] bcast_S_S16384x4096 main_cst
  let main_v3 : IVec S16384x4096 1 := cmpf .olt main_v1 main_v2
  let main_v4 : FVec F S16384x32 .f32 := (extractStridedSlice S16384x32 ![0, 0] · slices_S16384x128_S16384x32_0_0) main_arg1
  let main_cst_0 : FVec F S_ .f32 := constant S_ .f32 0x7F800000#32
  let main_v5 : FVec F S16384x32 .f32 := broadcastInDim S16384x32 ![] bcast_S_S16384x32 main_cst_0
  let main_v6 : IVec S16384x32 1 := cmpf .olt main_v4 main_v5
  let main_v7 : FVec F S4x4096 .f32 := (extractStridedSlice S4x4096 ![0, 4096] · slices_S4x8192_S4x4096_0_4096) main_arg2
  let main_v8 : FVec F S4x4096 .f32 := Host.absf main_v7
  let main_cst_1 : FVec F S_ .f32 := constant S_ .f32 0x7F800000#32
  let main_v9 : FVec F S4x4096 .f32 := broadcastInDim S4x4096 ![] bcast_S_S4x4096 main_cst_1
  let main_v10 : IVec S4x4096 1 := cmpf .olt main_v8 main_v9
  let main_cst_2 : FVec F S_ .f32 := constant S_ .f32 0x7F800000#32
  let main_v11 : FVec F S32 .f32 := broadcastInDim S32 ![] bcast_S_S32 main_cst_2
  let main_v12 : IVec S32 1 := cmpf .olt main_arg3 main_v11
  let main_cst_3 : FVec F S_ .f32 := constant S_ .f32 0x7F800000#32
  let main_v13 : FVec F S32 .f32 := broadcastInDim S32 ![] bcast_S_S32 main_cst_3
  let main_v14 : IVec S32 1 := cmpf .olt main_arg4 main_v13
  (main_v3, main_v6, main_v10, main_v12, main_v14)
-- ==== Kernel.lean ====
abbrev S16384x12288 : Shape := ⟨2, ![16384, 12288]⟩
abbrev S16384x128 : Shape := ⟨2, ![16384, 128]⟩
abbrev S4x8192 : Shape := ⟨2, ![4, 8192]⟩
abbrev S32 : Shape := ⟨1, ![32]⟩
abbrev S128 : Shape := ⟨1, ![128]⟩
abbrev S16384x32 : Shape := ⟨2, ![16384, 32]⟩
abbrev S4x4096x16x2 : Shape := ⟨4, ![4, 4096, 16, 2]⟩
abbrev S4x16x2x4096 : Shape := ⟨4, ![4, 16, 2, 4096]⟩
abbrev S16x2x1 : Shape := ⟨3, ![16, 2, 1]⟩
abbrev S16x2x256 : Shape := ⟨3, ![16, 2, 256]⟩
abbrev S1x128 : Shape := ⟨2, ![1, 128]⟩
abbrev S16384x4096 : Shape := ⟨2, ![16384, 4096]⟩
abbrev S4096x128 : Shape := ⟨2, ![4096, 128]⟩
abbrev S4096x256 : Shape := ⟨2, ![4096, 256]⟩
abbrev S4x128 : Shape := ⟨2, ![4, 128]⟩
abbrev S4x256 : Shape := ⟨2, ![4, 256]⟩
abbrev S1x1x2x4096 : Shape := ⟨4, ![1, 1, 2, 4096]⟩
abbrev S1x2x256 : Shape := ⟨3, ![1, 2, 256]⟩
abbrev S256x256 : Shape := ⟨2, ![256, 256]⟩
abbrev S128x128 : Shape := ⟨2, ![128, 128]⟩
abbrev S256x128 : Shape := ⟨2, ![256, 128]⟩
abbrev S8x128 : Shape := ⟨2, ![8, 128]⟩
abbrev S264x128 : Shape := ⟨2, ![264, 128]⟩
abbrev S256 : Shape := ⟨1, ![256]⟩
abbrev S256x1 : Shape := ⟨2, ![256, 1]⟩
abbrev S8x256 : Shape := ⟨2, ![8, 256]⟩
abbrev S264x256 : Shape := ⟨2, ![264, 256]⟩
abbrev S1x256 : Shape := ⟨2, ![1, 256]⟩
abbrev S1x1x1x256 : Shape := ⟨4, ![1, 1, 1, 256]⟩
abbrev S1x1x256 : Shape := ⟨3, ![1, 1, 256]⟩
abbrev S128x256 : Shape := ⟨2, ![128, 256]⟩
abbrev S16x256 : Shape := ⟨2, ![16, 256]⟩
abbrev S32x256 : Shape := ⟨2, ![32, 256]⟩
abbrev S64x256 : Shape := ⟨2, ![64, 256]⟩
abbrev S256x768 : Shape := ⟨2, ![256, 768]⟩
abbrev S768x256 : Shape := ⟨2, ![768, 256]⟩
abbrev S1x1 : Shape := ⟨2, ![1, 1]⟩

abbrev nBuf : Space → Nat
  | .hbm => 18
  | .vmem => 25
  | .smem => 0
  | _ => 0

abbrev bufTy : (tb : Table) → Fin (tcTables nBuf tb) → BufTy
  | .hbm, ⟨0, _⟩ => ⟨S16384x12288, .f32⟩
  | .hbm, ⟨1, _⟩ => ⟨S16384x128, .f32⟩
  | .hbm, ⟨2, _⟩ => ⟨S4x8192, .f32⟩
  | .hbm, ⟨3, _⟩ => ⟨S32, .f32⟩
  | .hbm, ⟨4, _⟩ => ⟨S32, .f32⟩
  | .hbm, ⟨5, _⟩ => ⟨S128, .f32⟩
  | .hbm, ⟨6, _⟩ => ⟨S16384x32, .f32⟩
  | .hbm, ⟨7, _⟩ => ⟨S4x4096x16x2, .f32⟩
  | .hbm, ⟨8, _⟩ => ⟨S4x16x2x4096, .f32⟩
  | .hbm, ⟨9, _⟩ => ⟨S16384x32, .f32⟩
  | .hbm, ⟨10, _⟩ => ⟨S4x4096x16x2, .f32⟩
  | .hbm, ⟨11, _⟩ => ⟨S4x16x2x4096, .f32⟩
  | .hbm, ⟨12, _⟩ => ⟨S16x2x1, .f32⟩
  | .hbm, ⟨13, _⟩ => ⟨S16x2x256, .f32⟩
  | .hbm, ⟨14, _⟩ => ⟨S16x2x1, .f32⟩
  | .hbm, ⟨15, _⟩ => ⟨S16x2x256, .f32⟩
  | .hbm, ⟨16, _⟩ => ⟨S1x128, .f32⟩
  | .hbm, ⟨17, _⟩ => ⟨S16384x4096, .bf16⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x256, .f32⟩
  | .local _ .vmem, ⟨5, _⟩ => ⟨S4096x256, .f32⟩
  | .local _ .vmem, ⟨6, _⟩ => ⟨S4096x256, .f32⟩
  | .local _ .vmem, ⟨7, _⟩ => ⟨S4096x256, .f32⟩
  | .local _ .vmem, ⟨8, _⟩ => ⟨S4x128, .f32⟩
  | .local _ .vmem, ⟨9, _⟩ => ⟨S4x128, .f32⟩
  | .local _ .vmem, ⟨10, _⟩ => ⟨S4x128, .f32⟩
  | .local _ .vmem, ⟨11, _⟩ => ⟨S4x128, .f32⟩
  | .local _ .vmem, ⟨12, _⟩ => ⟨S4x256, .f32⟩
  | .local _ .vmem, ⟨13, _⟩ => ⟨S4x256, .f32⟩
  | .local _ .vmem, ⟨14, _⟩ => ⟨S1x1x2x4096, .f32⟩
  | .local _ .vmem, ⟨15, _⟩ => ⟨S1x1x2x4096, .f32⟩
  | .local _ .vmem, ⟨16, _⟩ => ⟨S1x1x2x4096, .f32⟩
  | .local _ .vmem, ⟨17, _⟩ => ⟨S1x1x2x4096, .f32⟩
  | .local _ .vmem, ⟨18, _⟩ => ⟨S1x2x256, .f32⟩
  | .local _ .vmem, ⟨19, _⟩ => ⟨S1x2x256, .f32⟩
  | .local _ .vmem, ⟨20, _⟩ => ⟨S1x2x256, .f32⟩
  | .local _ .vmem, ⟨21, _⟩ => ⟨S1x2x256, .f32⟩
  | .local _ .vmem, ⟨22, _⟩ => ⟨S1x128, .f32⟩
  | .local _ .vmem, ⟨23, _⟩ => ⟨S4096x256, .bf16⟩
  | .local _ .vmem, ⟨24, _⟩ => ⟨S4096x256, .bf16⟩
  | _, _ => ⟨S16384x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32 : BitVec 32 := 0#32
  let c4_i32 : BitVec 32 := 4#32
  let v10 : BitVec 32 := Scalar.addi c0_i32 c4_i32
  let c1_i32 : BitVec 32 := 1#32
  ⟨c0_i32, v10, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c4_i32_2 : BitVec 32 := 4#32
  let v12 : BitVec 32 := Scalar.muli arg15 c4_i32_2
  let c0_i32_3 : BitVec 32 := 0#32
  let v13 : BitVec 32 := Scalar.addi v12 c0_i32_3
  let c256_i32 : BitVec 32 := 256#32
  let v14 : BitVec 32 := Scalar.muli v13 c256_i32
  v14
def k0_off1 (k0_t1 : Fin k0_t1_loop.trips) (c0_i32_3 : BitVec 32) : Fin 2 → Nat :=
  let c0_i32 : BitVec 32 := 0#32
  let c1_i32 : BitVec 32 := 1#32
  let arg15 : BitVec 32 := Scf.iv c0_i32 c1_i32 k0_t1
  let c4_i32_2 : BitVec 32 := 4#32
  let v12 : BitVec 32 := Scalar.muli arg15 c4_i32_2
  let v13 : BitVec 32 := Scalar.addi v12 c0_i32_3
  let c256_i32 : BitVec 32 := 256#32
  let v14 : BitVec 32 := Scalar.muli v13 c256_i32
  let v15 : BitVec 32 := v14
  let v16 : Index := Scalar.indexCast v15
  let c0 : Index := 0#32
  ![v16.toNat, 0]
def k0_mult2 (k0_t1 : Fin k0_t1_loop.trips) : BitVec 32 :=
  let c0_i32 : BitVec 32 := 0#32
  let c1_i32 : BitVec 32 := 1#32
  let arg15 : BitVec 32 := Scf.iv c0_i32 c1_i32 k0_t1
  let c4_i32_2 : BitVec 32 := 4#32
  let v12 : BitVec 32 := Scalar.muli arg15 c4_i32_2
  let c0_i32_3 : BitVec 32 := 0#32
  let v13 : BitVec 32 := Scalar.addi v12 c0_i32_3
  let c256_i32 : BitVec 32 := 256#32
  let v14 : BitVec 32 := Scalar.muli v13 c256_i32
  let v15 : BitVec 32 := v14
  let c8_i32 : BitVec 32 := 8#32
  let v18 : BitVec 32 := Scalar.subi v15 c8_i32
  let c0_i32_4 : BitVec 32 := 0#32
  let v19 : BitVec 32 := Scalar.maxsi v18 c0_i32_4
  v19
def k0_off2 (k0_t1 : Fin k0_t1_loop.trips) (c0_i32_3 : BitVec 32) : Fin 2 → Nat :=
  let c0_i32 : BitVec 32 := 0#32
  let c1_i32 : BitVec 32 := 1#32
  let arg15 : BitVec 32 := Scf.iv c0_i32 c1_i32 k0_t1
  let c4_i32_2 : BitVec 32 := 4#32
  let v12 : BitVec 32 := Scalar.muli arg15 c4_i32_2
  let v13 : BitVec 32 := Scalar.addi v12 c0_i32_3
  let c256_i32 : BitVec 32 := 256#32
  let v14 : BitVec 32 := Scalar.muli v13 c256_i32
  let v15 : BitVec 32 := v14
  let c8_i32 : BitVec 32 := 8#32
  let v18 : BitVec 32 := Scalar.subi v15 c8_i32
  let c0_i32_4 : BitVec 32 := 0#32
  let v19 : BitVec 32 := Scalar.maxsi v18 c0_i32_4
  let v20 : BitVec 32 := v19
  let v21 : Index := Scalar.indexCast v20
  let c0_5 : Index := 0#32
  ![v21.toNat, 0]
def k0_mult3 (k0_t1 : Fin k0_t1_loop.trips) : BitVec 32 :=
  let c0_i32 : BitVec 32 := 0#32
  let c1_i32 : BitVec 32 := 1#32
  let arg15 : BitVec 32 := Scf.iv c0_i32 c1_i32 k0_t1
  let c4_i32_2 : BitVec 32 := 4#32
  let v12 : BitVec 32 := Scalar.muli arg15 c4_i32_2
  let c0_i32_3 : BitVec 32 := 0#32
  let v13 : BitVec 32 := Scalar.addi v12 c0_i32_3
  let c256_i32 : BitVec 32 := 256#32
  let v14 : BitVec 32 := Scalar.muli v13 c256_i32
  let v15 : BitVec 32 := v14
  let c8_i32_21 : BitVec 32 := 8#32
  let v68 : BitVec 32 := Scalar.subi v15 c8_i32_21
  let c0_i32_22 : BitVec 32 := 0#32
  let v69 : BitVec 32 := Scalar.maxsi v68 c0_i32_22
  v69
def k0_off3 (k0_t1 : Fin k0_t1_loop.trips) (c0_i32_3 : BitVec 32) : Fin 2 → Nat :=
  let c0_i32 : BitVec 32 := 0#32
  let c1_i32 : BitVec 32 := 1#32
  let arg15 : BitVec 32 := Scf.iv c0_i32 c1_i32 k0_t1
  let c4_i32_2 : BitVec 32 := 4#32
  let v12 : BitVec 32 := Scalar.muli arg15 c4_i32_2
  let v13 : BitVec 32 := Scalar.addi v12 c0_i32_3
  let c256_i32 : BitVec 32 := 256#32
  let v14 : BitVec 32 := Scalar.muli v13 c256_i32
  let v15 : BitVec 32 := v14
  let v115 : Index := Scalar.indexCast v15
  let c0_42 : Index := 0#32
  ![v115.toNat, 0]
def k0_mult4 (k0_t1 : Fin k0_t1_loop.trips) : BitVec 32 :=
  let c0_i32 : BitVec 32 := 0#32
  let c1_i32 : BitVec 32 := 1#32
  let arg15 : BitVec 32 := Scf.iv c0_i32 c1_i32 k0_t1
  let c4_i32_2 : BitVec 32 := 4#32
  let v12 : BitVec 32 := Scalar.muli arg15 c4_i32_2
  let c0_i32_3 : BitVec 32 := 0#32
  let v13 : BitVec 32 := Scalar.addi v12 c0_i32_3
  let c256_i32 : BitVec 32 := 256#32
  let v14 : BitVec 32 := Scalar.muli v13 c256_i32
  let v15 : BitVec 32 := v14
  let c8_i32_43 : BitVec 32 := 8#32
  let v117 : BitVec 32 := Scalar.subi v15 c8_i32_43
  let c0_i32_44 : BitVec 32 := 0#32
  let v118 : BitVec 32 := Scalar.maxsi v117 c0_i32_44
  v118
def k0_off4 (k0_t1 : Fin k0_t1_loop.trips) (c0_i32_3 : BitVec 32) : Fin 2 → Nat :=
  let c0_i32 : BitVec 32 := 0#32
  let c1_i32 : BitVec 32 := 1#32
  let arg15 : BitVec 32 := Scf.iv c0_i32 c1_i32 k0_t1
  let c4_i32_2 : BitVec 32 := 4#32
  let v12 : BitVec 32 := Scalar.muli arg15 c4_i32_2
  let v13 : BitVec 32 := Scalar.addi v12 c0_i32_3
  let c256_i32 : BitVec 32 := 256#32
  let v14 : BitVec 32 := Scalar.muli v13 c256_i32
  let v15 : BitVec 32 := v14
  let c8_i32_43 : BitVec 32 := 8#32
  let v117 : BitVec 32 := Scalar.subi v15 c8_i32_43
  let c0_i32_44 : BitVec 32 := 0#32
  let v118 : BitVec 32 := Scalar.maxsi v117 c0_i32_44
  let v119 : BitVec 32 := v118
  let v120 : Index := Scalar.indexCast v119
  let c0_45 : Index := 0#32
  ![v120.toNat, 0]
def k0_mult5 (k0_t1 : Fin k0_t1_loop.trips) : BitVec 32 :=
  let c0_i32 : BitVec 32 := 0#32
  let c1_i32 : BitVec 32 := 1#32
  let arg15 : BitVec 32 := Scf.iv c0_i32 c1_i32 k0_t1
  let c4_i32_64 : BitVec 32 := 4#32
  let v158 : BitVec 32 := Scalar.muli arg15 c4_i32_64
  let c1_i32_65 : BitVec 32 := 1#32
  let v159 : BitVec 32 := Scalar.addi v158 c1_i32_65
  let c256_i32_66 : BitVec 32 := 256#32
  let v160 : BitVec 32 := Scalar.muli v159 c256_i32_66
  v160
def k0_mult6 (k0_t1 : Fin k0_t1_loop.trips) : BitVec 32 :=
  let c0_i32 : BitVec 32 := 0#32
  let c1_i32 : BitVec 32 := 1#32
  let arg15 : BitVec 32 := Scf.iv c0_i32 c1_i32 k0_t1
  let c4_i32_64 : BitVec 32 := 4#32
  let v158 : BitVec 32 := Scalar.muli arg15 c4_i32_64
  let c1_i32_65 : BitVec 32 := 1#32
  let v159 : BitVec 32 := Scalar.addi v158 c1_i32_65
  let c256_i32_66 : BitVec 32 := 256#32
  let v160 : BitVec 32 := Scalar.muli v159 c256_i32_66
  let v161 : BitVec 32 := v160
  let c8_i32_68 : BitVec 32 := 8#32
  let v164 : BitVec 32 := Scalar.subi v161 c8_i32_68
  let c0_i32_69 : BitVec 32 := 0#32
  let v165 : BitVec 32 := Scalar.maxsi v164 c0_i32_69
  v165
def k0_mult7 (k0_t1 : Fin k0_t1_loop.trips) : BitVec 32 :=
  let c0_i32 : BitVec 32 := 0#32
  let c1_i32 : BitVec 32 := 1#32
  let arg15 : BitVec 32 := Scf.iv c0_i32 c1_i32 k0_t1
  let c4_i32_64 : BitVec 32 := 4#32
  let v158 : BitVec 32 := Scalar.muli arg15 c4_i32_64
  let c1_i32_65 : BitVec 32 := 1#32
  let v159 : BitVec 32 := Scalar.addi v158 c1_i32_65
  let c256_i32_66 : BitVec 32 := 256#32
  let v160 : BitVec 32 := Scalar.muli v159 c256_i32_66
  let v161 : BitVec 32 := v160
  let c8_i32_91 : BitVec 32 := 8#32
  let v214 : BitVec 32 := Scalar.subi v161 c8_i32_91
  let c0_i32_92 : BitVec 32 := 0#32
  let v215 : BitVec 32 := Scalar.maxsi v214 c0_i32_92
  v215
def k0_mult8 (k0_t1 : Fin k0_t1_loop.trips) : BitVec 32 :=
  let c0_i32 : BitVec 32 := 0#32
  let c1_i32 : BitVec 32 := 1#32
  let arg15 : BitVec 32 := Scf.iv c0_i32 c1_i32 k0_t1
  let c4_i32_64 : BitVec 32 := 4#32
  let v158 : BitVec 32 := Scalar.muli arg15 c4_i32_64
  let c1_i32_65 : BitVec 32 := 1#32
  let v159 : BitVec 32 := Scalar.addi v158 c1_i32_65
  let c256_i32_66 : BitVec 32 := 256#32
  let v160 : BitVec 32 := Scalar.muli v159 c256_i32_66
  let v161 : BitVec 32 := v160
  let c8_i32_113 : BitVec 32 := 8#32
  let v263 : BitVec 32 := Scalar.subi v161 c8_i32_113
  let c0_i32_114 : BitVec 32 := 0#32
  let v264 : BitVec 32 := Scalar.maxsi v263 c0_i32_114
  v264
def k0_mult9 (k0_t1 : Fin k0_t1_loop.trips) : BitVec 32 :=
  let c0_i32 : BitVec 32 := 0#32
  let c1_i32 : BitVec 32 := 1#32
  let arg15 : BitVec 32 := Scf.iv c0_i32 c1_i32 k0_t1
  let c4_i32_134 : BitVec 32 := 4#32
  let v304 : BitVec 32 := Scalar.muli arg15 c4_i32_134
  let c2_i32_135 : BitVec 32 := 2#32
  let v305 : BitVec 32 := Scalar.addi v304 c2_i32_135
  let c256_i32_136 : BitVec 32 := 256#32
  let v306 : BitVec 32 := Scalar.muli v305 c256_i32_136
  v306
def k0_mult10 (k0_t1 : Fin k0_t1_loop.trips) : BitVec 32 :=
  let c0_i32 : BitVec 32 := 0#32
  let c1_i32 : BitVec 32 := 1#32
  let arg15 : BitVec 32 := Scf.iv c0_i32 c1_i32 k0_t1
  let c4_i32_134 : BitVec 32 := 4#32
  let v304 : BitVec 32 := Scalar.muli arg15 c4_i32_134
  let c2_i32_135 : BitVec 32 := 2#32
  let v305 : BitVec 32 := Scalar.addi v304 c2_i32_135
  let c256_i32_136 : BitVec 32 := 256#32
  let v306 : BitVec 32 := Scalar.muli v305 c256_i32_136
  let v307 : BitVec 32 := v306
  let c8_i32_138 : BitVec 32 := 8#32
  let v310 : BitVec 32 := Scalar.subi v307 c8_i32_138
  let c0_i32_139 : BitVec 32 := 0#32
  let v311 : BitVec 32 := Scalar.maxsi v310 c0_i32_139
  v311
def k0_mult11 (k0_t1 : Fin k0_t1_loop.trips) : BitVec 32 :=
  let c0_i32 : BitVec 32 := 0#32
  let c1_i32 : BitVec 32 := 1#32
  let arg15 : BitVec 32 := Scf.iv c0_i32 c1_i32 k0_t1
  let c4_i32_134 : BitVec 32 := 4#32
  let v304 : BitVec 32 := Scalar.muli arg15 c4_i32_134
  let c2_i32_135 : BitVec 32 := 2#32
  let v305 : BitVec 32 := Scalar.addi v304 c2_i32_135
  let c256_i32_136 : BitVec 32 := 256#32
  let v306 : BitVec 32 := Scalar.muli v305 c256_i32_136
  let v307 : BitVec 32 := v306
  let c8_i32_161 : BitVec 32 := 8#32
  let v360 : BitVec 32 := Scalar.subi v307 c8_i32_161
  let c0_i32_162 : BitVec 32 := 0#32
  let v361 : BitVec 32 := Scalar.maxsi v360 c0_i32_162
  v361
def k0_mult12 (k0_t1 : Fin k0_t1_loop.trips) : BitVec 32 :=
  let c0_i32 : BitVec 32 := 0#32
  let c1_i32 : BitVec 32 := 1#32
  let arg15 : BitVec 32 := Scf.iv c0_i32 c1_i32 k0_t1
  let c4_i32_134 : BitVec 32 := 4#32
  let v304 : BitVec 32 := Scalar.muli arg15 c4_i32_134
  let c2_i32_135 : BitVec 32 := 2#32
  let v305 : BitVec 32 := Scalar.addi v304 c2_i32_135
  let c256_i32_136 : BitVec 32 := 256#32
  let v306 : BitVec 32 := Scalar.muli v305 c256_i32_136
  let v307 : BitVec 32 := v306
  let c8_i32_183 : BitVec 32 := 8#32
  let v409 : BitVec 32 := Scalar.subi v307 c8_i32_183
  let c0_i32_184 : BitVec 32 := 0#32
  let v410 : BitVec 32 := Scalar.maxsi v409 c0_i32_184
  v410
def k0_mult13 (k0_t1 : Fin k0_t1_loop.trips) : BitVec 32 :=
  let c0_i32 : BitVec 32 := 0#32
  let c1_i32 : BitVec 32 := 1#32
  let arg15 : BitVec 32 := Scf.iv c0_i32 c1_i32 k0_t1
  let c4_i32_204 : BitVec 32 := 4#32
  let v450 : BitVec 32 := Scalar.muli arg15 c4_i32_204
  let c3_i32_205 : BitVec 32 := 3#32
  let v451 : BitVec 32 := Scalar.addi v450 c3_i32_205
  let c256_i32_206 : BitVec 32 := 256#32
  let v452 : BitVec 32 := Scalar.muli v451 c256_i32_206
  v452
def k0_mult14 (k0_t1 : Fin k0_t1_loop.trips) : BitVec 32 :=
  let c0_i32 : BitVec 32 := 0#32
  let c1_i32 : BitVec 32 := 1#32
  let arg15 : BitVec 32 := Scf.iv c0_i32 c1_i32 k0_t1
  let c4_i32_204 : BitVec 32 := 4#32
  let v450 : BitVec 32 := Scalar.muli arg15 c4_i32_204
  let c3_i32_205 : BitVec 32 := 3#32
  let v451 : BitVec 32 := Scalar.addi v450 c3_i32_205
  let c256_i32_206 : BitVec 32 := 256#32
  let v452 : BitVec 32 := Scalar.muli v451 c256_i32_206
  let v453 : BitVec 32 := v452
  let c8_i32_208 : BitVec 32 := 8#32
  let v456 : BitVec 32 := Scalar.subi v453 c8_i32_208
  let c0_i32_209 : BitVec 32 := 0#32
  let v457 : BitVec 32 := Scalar.maxsi v456 c0_i32_209
  v457
def k0_mult15 (k0_t1 : Fin k0_t1_loop.trips) : BitVec 32 :=
  let c0_i32 : BitVec 32 := 0#32
  let c1_i32 : BitVec 32 := 1#32
  let arg15 : BitVec 32 := Scf.iv c0_i32 c1_i32 k0_t1
  let c4_i32_204 : BitVec 32 := 4#32
  let v450 : BitVec 32 := Scalar.muli arg15 c4_i32_204
  let c3_i32_205 : BitVec 32 := 3#32
  let v451 : BitVec 32 := Scalar.addi v450 c3_i32_205
  let c256_i32_206 : BitVec 32 := 256#32
  let v452 : BitVec 32 := Scalar.muli v451 c256_i32_206
  let v453 : BitVec 32 := v452
  let c8_i32_231 : BitVec 32 := 8#32
  let v506 : BitVec 32 := Scalar.subi v453 c8_i32_231
  let c0_i32_232 : BitVec 32 := 0#32
  let v507 : BitVec 32 := Scalar.maxsi v506 c0_i32_232
  v507
def k0_mult16 (k0_t1 : Fin k0_t1_loop.trips) : BitVec 32 :=
  let c0_i32 : BitVec 32 := 0#32
  let c1_i32 : BitVec 32 := 1#32
  let arg15 : BitVec 32 := Scf.iv c0_i32 c1_i32 k0_t1
  let c4_i32_204 : BitVec 32 := 4#32
  let v450 : BitVec 32 := Scalar.muli arg15 c4_i32_204
  let c3_i32_205 : BitVec 32 := 3#32
  let v451 : BitVec 32 := Scalar.addi v450 c3_i32_205
  let c256_i32_206 : BitVec 32 := 256#32
  let v452 : BitVec 32 := Scalar.muli v451 c256_i32_206
  let v453 : BitVec 32 := v452
  let c8_i32_253 : BitVec 32 := 8#32
  let v555 : BitVec 32 := Scalar.subi v453 c8_i32_253
  let c0_i32_254 : BitVec 32 := 0#32
  let v556 : BitVec 32 := Scalar.maxsi v555 c0_i32_254
  v556
def k0_off5 (k0_t1 : Fin k0_t1_loop.trips) (c0_i32_3 : BitVec 32) : Fin 4 → Nat :=
  let c0_274 : Index := 0#32
  let c0_275 : Index := 0#32
  let c0_276 : Index := 0#32
  let c0_i32 : BitVec 32 := 0#32
  let c1_i32 : BitVec 32 := 1#32
  let arg15 : BitVec 32 := Scf.iv c0_i32 c1_i32 k0_t1
  let c4_i32_2 : BitVec 32 := 4#32
  let v12 : BitVec 32 := Scalar.muli arg15 c4_i32_2
  let v13 : BitVec 32 := Scalar.addi v12 c0_i32_3
  let c256_i32 : BitVec 32 := 256#32
  let v14 : BitVec 32 := Scalar.muli v13 c256_i32
  let v15 : BitVec 32 := v14
  let v596 : Index := Scalar.indexCast v15
  ![0, 0, 0, v596.toNat]
def k0_off6 (k0_t1 : Fin k0_t1_loop.trips) (c0_i32_3 : BitVec 32) : Fin 4 → Nat :=
  let c0_301 : Index := 0#32
  let c0_302 : Index := 0#32
  let c1_303 : Index := 1#32
  let c0_i32 : BitVec 32 := 0#32
  let c1_i32 : BitVec 32 := 1#32
  let arg15 : BitVec 32 := Scf.iv c0_i32 c1_i32 k0_t1
  let c4_i32_2 : BitVec 32 := 4#32
  let v12 : BitVec 32 := Scalar.muli arg15 c4_i32_2
  let v13 : BitVec 32 := Scalar.addi v12 c0_i32_3
  let c256_i32 : BitVec 32 := 256#32
  let v14 : BitVec 32 := Scalar.muli v13 c256_i32
  let v15 : BitVec 32 := v14
  let v657 : Index := Scalar.indexCast v15
  ![0, 0, 1, v657.toNat]
def k0_off7 (k0_t1 : Fin k0_t1_loop.trips) (c0_i32_3 : BitVec 32) : Fin 2 → Nat :=
  let c0_i32 : BitVec 32 := 0#32
  let c1_i32 : BitVec 32 := 1#32
  let arg15 : BitVec 32 := Scf.iv c0_i32 c1_i32 k0_t1
  let c4_i32_2 : BitVec 32 := 4#32
  let v12 : BitVec 32 := Scalar.muli arg15 c4_i32_2
  let v13 : BitVec 32 := Scalar.addi v12 c0_i32_3
  let c256_i32 : BitVec 32 := 256#32
  let v14 : BitVec 32 := Scalar.muli v13 c256_i32
  let v15 : BitVec 32 := v14
  let v3923 : Index := Scalar.indexCast v15
  let c0_763 : Index := 0#32
  ![v3923.toNat, 0]
def k0_off8 (k0_t1 : Fin k0_t1_loop.trips) (c0_i32_3 : BitVec 32) : Fin 2 → Nat :=
  let c0_i32 : BitVec 32 := 0#32
  let c1_i32 : BitVec 32 := 1#32
  let arg15 : BitVec 32 := Scf.iv c0_i32 c1_i32 k0_t1
  let c4_i32_2 : BitVec 32 := 4#32
  let v12 : BitVec 32 := Scalar.muli arg15 c4_i32_2
  let v13 : BitVec 32 := Scalar.addi v12 c0_i32_3
  let c256_i32 : BitVec 32 := 256#32
  let v14 : BitVec 32 := Scalar.muli v13 c256_i32
  let v15 : BitVec 32 := v14
  let v3962 : Index := Scalar.indexCast v15
  let c128 : Index := 128#32
  ![v3962.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x2x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x2x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x2x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S4096x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S16384x12288 : Shape := ⟨2, ![16384, 12288]⟩
abbrev S16384x128 : Shape := ⟨2, ![16384, 128]⟩
abbrev S4x8192 : Shape := ⟨2, ![4, 8192]⟩
abbrev S32 : Shape := ⟨1, ![32]⟩
abbrev S128 : Shape := ⟨1, ![128]⟩
abbrev S4x4096x128 : Shape := ⟨3, ![4, 4096, 128]⟩
abbrev S16384x8192 : Shape := ⟨2, ![16384, 8192]⟩
abbrev S4x4096x8192 : Shape := ⟨3, ![4, 4096, 8192]⟩
abbrev S_ : Shape := ⟨0, ![]⟩
abbrev S4x4099x8192 : Shape := ⟨3, ![4, 4099, 8192]⟩
abbrev S1x8192 : Shape := ⟨2, ![1, 8192]⟩
abbrev S8192 : Shape := ⟨1, ![8192]⟩
abbrev S1x1x8192 : Shape := ⟨3, ![1, 1, 8192]⟩
abbrev S4x4096x2048 : Shape := ⟨3, ![4, 4096, 2048]⟩
abbrev S4x4096x16x128 : Shape := ⟨4, ![4, 4096, 16, 128]⟩
abbrev S4x4096x16 : Shape := ⟨3, ![4, 4096, 16]⟩
abbrev S4x4096x16x1 : Shape := ⟨4, ![4, 4096, 16, 1]⟩
abbrev S4x4096x4096 : Shape := ⟨3, ![4, 4096, 4096]⟩
abbrev S4x4096x16x2x128 : Shape := ⟨5, ![4, 4096, 16, 2, 128]⟩
abbrev S4x4096x32 : Shape := ⟨3, ![4, 4096, 32]⟩
abbrev S1x1x32 : Shape := ⟨3, ![1, 1, 32]⟩
abbrev S4x4096x16x2 : Shape := ⟨4, ![4, 4096, 16, 2]⟩
abbrev S4x16x2x128x128 : Shape := ⟨5, ![4, 16, 2, 128, 128]⟩
abbrev S4096x4x16x128 : Shape := ⟨4, ![4096, 4, 16, 128]⟩
abbrev S4096x4x16x2x128 : Shape := ⟨5, ![4096, 4, 16, 2, 128]⟩
abbrev S4096x4x16x2 : Shape := ⟨4, ![4096, 4, 16, 2]⟩
abbrev S1x4x16x128 : Shape := ⟨4, ![1, 4, 16, 128]⟩
abbrev S4x16x128 : Shape := ⟨3, ![4, 16, 128]⟩
abbrev S1x4x16x2x128 : Shape := ⟨5, ![1, 4, 16, 2, 128]⟩
abbrev S4x16x2x128 : Shape := ⟨4, ![4, 16, 2, 128]⟩
abbrev S1x4x16x2 : Shape := ⟨4, ![1, 4, 16, 2]⟩
abbrev S4x16x2 : Shape := ⟨3, ![4, 16, 2]⟩
abbrev S4x16x2x1x1 : Shape := ⟨5, ![4, 16, 2, 1, 1]⟩
abbrev S4x16x2x1 : Shape := ⟨4, ![4, 16, 2, 1]⟩
abbrev S4x16x1x128x1 : Shape := ⟨5, ![4, 16, 1, 128, 1]⟩
abbrev S4x16x2x1x128 : Shape := ⟨5, ![4, 16, 2, 1, 128]⟩
abbrev S16384x4096 : Shape := ⟨2, ![16384, 4096]⟩
abbrev S4x4096x16x2x1 : Shape := ⟨5, ![4, 4096, 16, 2, 1]⟩
abbrev S1x1x1x1x128 : Shape := ⟨5, ![1, 1, 1, 1, 128]⟩

abbrev nBuf : Space → Nat
  | .hbm => 215
  | .vmem => 0
  | .smem => 0
  | _ => 0

abbrev hbmTy0_0 (i : Nat) : BufTy := match i % 128 with
  | 0 => ⟨S16384x12288, .f32⟩
  | 1 => ⟨S16384x128, .f32⟩
  | 2 => ⟨S4x8192, .f32⟩
  | 3 => ⟨S32, .f32⟩
  | 4 => ⟨S32, .f32⟩
  | 5 => ⟨S128, .f32⟩
  | 6 => ⟨S4x4096x128, .f32⟩
  | 7 => ⟨S16384x8192, .f32⟩
  | 8 => ⟨S4x4096x8192, .f32⟩
  | 9 => ⟨S_, .i32⟩
  | 10 => ⟨S_, .f32⟩
  | 11 => ⟨S4x4099x8192, .f32⟩
  | 12 => ⟨S4x4096x8192, .f32⟩
  | 13 => ⟨S1x8192, .f32⟩
  | 14 => ⟨S8192, .f32⟩
  | 15 => ⟨S1x1x8192, .f32⟩
  | 16 => ⟨S4x4096x8192, .f32⟩
  | 17 => ⟨S4x4096x8192, .f32⟩
  | 18 => ⟨S_, .f32⟩
  | 19 => ⟨S4x4096x8192, .f32⟩
  | 20 => ⟨S4x4096x8192, .f32⟩
  | 21 => ⟨S4x4096x8192, .f32⟩
  | 22 => ⟨S1x8192, .f32⟩
  | 23 => ⟨S8192, .f32⟩
  | 24 => ⟨S1x1x8192, .f32⟩
  | 25 => ⟨S4x4096x8192, .f32⟩
  | 26 => ⟨S4x4096x8192, .f32⟩
  | 27 => ⟨S4x4096x8192, .f32⟩
  | 28 => ⟨S4x4096x8192, .f32⟩
  | 29 => ⟨S1x8192, .f32⟩
  | 30 => ⟨S8192, .f32⟩
  | 31 => ⟨S1x1x8192, .f32⟩
  | 32 => ⟨S4x4096x8192, .f32⟩
  | 33 => ⟨S4x4096x8192, .f32⟩
  | 34 => ⟨S4x4096x8192, .f32⟩
  | 35 => ⟨S4x4096x8192, .f32⟩
  | 36 => ⟨S1x8192, .f32⟩
  | 37 => ⟨S8192, .f32⟩
  | 38 => ⟨S1x1x8192, .f32⟩
  | 39 => ⟨S4x4096x8192, .f32⟩
  | 40 => ⟨S4x4096x8192, .f32⟩
  | 41 => ⟨S4x4096x8192, .f32⟩
  | 42 => ⟨S4x4096x8192, .f32⟩
  | 43 => ⟨S4x4096x8192, .f32⟩
  | 44 => ⟨S_, .f32⟩
  | 45 => ⟨S4x4096x8192, .f32⟩
  | 46 => ⟨S4x4096x8192, .f32⟩
  | 47 => ⟨S_, .f32⟩
  | 48 => ⟨S4x4096x8192, .f32⟩
  | 49 => ⟨S4x4096x8192, .f32⟩
  | 50 => ⟨S4x4096x8192, .f32⟩
  | 51 => ⟨S4x4096x2048, .f32⟩
  | 52 => ⟨S4x4096x16x128, .f32⟩
  | 53 => ⟨S4x4096x16x128, .f32⟩
  | 54 => ⟨S_, .f32⟩
  | 55 => ⟨S4x4096x16, .f32⟩
  | 56 => ⟨S4x4096x16x1, .f32⟩
  | 57 => ⟨S_, .f32⟩
  | 58 => ⟨S4x4096x16x1, .f32⟩
  | 59 => ⟨S4x4096x16x1, .f32⟩
  | 60 => ⟨S4x4096x16x1, .f32⟩
  | 61 => ⟨S4x4096x16x128, .f32⟩
  | 62 => ⟨S4x4096x16x128, .f32⟩
  | 63 => ⟨S_, .f32⟩
  | 64 => ⟨S4x4096x16x128, .f32⟩
  | 65 => ⟨S4x4096x16x128, .f32⟩
  | 66 => ⟨S4x4096x2048, .f32⟩
  | 67 => ⟨S4x4096x16x128, .f32⟩
  | 68 => ⟨S4x4096x16x128, .f32⟩
  | 69 => ⟨S_, .f32⟩
  | 70 => ⟨S4x4096x16, .f32⟩
  | 71 => ⟨S4x4096x16x1, .f32⟩
  | 72 => ⟨S_, .f32⟩
  | 73 => ⟨S4x4096x16x1, .f32⟩
  | 74 => ⟨S4x4096x16x1, .f32⟩
  | 75 => ⟨S4x4096x16x1, .f32⟩
  | 76 => ⟨S4x4096x16x128, .f32⟩
  | 77 => ⟨S4x4096x16x128, .f32⟩
  | 78 => ⟨S4x4096x4096, .f32⟩
  | 79 => ⟨S4x4096x16x2x128, .f32⟩
  | 80 => ⟨S32, .f32⟩
  | 81 => ⟨S32, .f32⟩
  | 82 => ⟨S4x4096x32, .f32⟩
  | 83 => ⟨S1x1x32, .f32⟩
  | 84 => ⟨S4x4096x32, .f32⟩
  | 85 => ⟨S4x4096x32, .f32⟩
  | 86 => ⟨S_, .f32⟩
  | 87 => ⟨S4x4096x32, .f32⟩
  | 88 => ⟨S4x4096x32, .f32⟩
  | 89 => ⟨S4x4096x32, .f32⟩
  | 90 => ⟨S4x4096x32, .f32⟩
  | 91 => ⟨S4x4096x32, .i1⟩
  | 92 => ⟨S4x4096x32, .f32⟩
  | 93 => ⟨S4x4096x32, .f32⟩
  | 94 => ⟨S4x4096x32, .f32⟩
  | 95 => ⟨S4x4096x32, .f32⟩
  | 96 => ⟨S4x4096x32, .f32⟩
  | 97 => ⟨S4x4096x32, .f32⟩
  | 98 => ⟨S4x4096x32, .f32⟩
  | 99 => ⟨S4x4096x32, .f32⟩
  | 100 => ⟨S1x1x32, .f32⟩
  | 101 => ⟨S4x4096x32, .f32⟩
  | 102 => ⟨S4x4096x32, .f32⟩
  | 103 => ⟨S4x4096x32, .f32⟩
  | 104 => ⟨S4x4096x32, .f32⟩
  | 105 => ⟨S4x4096x32, .f32⟩
  | 106 => ⟨S_, .f32⟩
  | 107 => ⟨S4x4096x32, .f32⟩
  | 108 => ⟨S4x4096x32, .f32⟩
  | 109 => ⟨S_, .f32⟩
  | 110 => ⟨S4x4096x32, .f32⟩
  | 111 => ⟨S4x4096x32, .f32⟩
  | 112 => ⟨S4x4096x16x2, .f32⟩
  | 113 => ⟨S4x4096x16x2, .f32⟩
  | 114 => ⟨S_, .f32⟩
  | 115 => ⟨S4x16x2x128x128, .f32⟩
  | 116 => ⟨S4096x4x16x128, .f32⟩
  | 117 => ⟨S4096x4x16x128, .f32⟩
  | 118 => ⟨S4096x4x16x2x128, .f32⟩
  | 119 => ⟨S4096x4x16x2, .f32⟩
  | 120 => ⟨S4096x4x16x2, .f32⟩
  | 121 => ⟨S_, .f32⟩
  | 122 => ⟨S4096x4x16x2x128, .f32⟩
  | 123 => ⟨S_, .i32⟩
  | 124 => ⟨S4096x4x16x128, .f32⟩
  | 125 => ⟨S4096x4x16x128, .f32⟩
  | 126 => ⟨S4096x4x16x2x128, .f32⟩
  | 127 => ⟨S4096x4x16x2, .f32⟩
  | _ => ⟨S16384x12288, .f32⟩

abbrev hbmTy0_1 (i : Nat) : BufTy := match i % 128 with
  | 0 => ⟨S4096x4x16x2, .f32⟩
  | 1 => ⟨S_, .i32⟩
  | 2 => ⟨S4x16x2x128x128, .f32⟩
  | 3 => ⟨S4096x4x16x2x128, .f32⟩
  | 4 => ⟨S_, .i32⟩
  | 5 => ⟨S_, .i1⟩
  | 6 => ⟨S_, .i32⟩
  | 7 => ⟨S_, .i32⟩
  | 8 => ⟨S_, .i32⟩
  | 9 => ⟨S1x4x16x128, .f32⟩
  | 10 => ⟨S4x16x128, .f32⟩
  | 11 => ⟨S_, .i32⟩
  | 12 => ⟨S_, .i32⟩
  | 13 => ⟨S_, .i32⟩
  | 14 => ⟨S1x4x16x128, .f32⟩
  | 15 => ⟨S4x16x128, .f32⟩
  | 16 => ⟨S_, .i32⟩
  | 17 => ⟨S_, .i32⟩
  | 18 => ⟨S_, .i32⟩
  | 19 => ⟨S_, .i32⟩
  | 20 => ⟨S1x4x16x2x128, .f32⟩
  | 21 => ⟨S4x16x2x128, .f32⟩
  | 22 => ⟨S_, .i32⟩
  | 23 => ⟨S_, .i32⟩
  | 24 => ⟨S_, .i32⟩
  | 25 => ⟨S1x4x16x2, .f32⟩
  | 26 => ⟨S4x16x2, .f32⟩
  | 27 => ⟨S_, .i32⟩
  | 28 => ⟨S_, .i32⟩
  | 29 => ⟨S_, .i32⟩
  | 30 => ⟨S1x4x16x2, .f32⟩
  | 31 => ⟨S4x16x2, .f32⟩
  | 32 => ⟨S4x16x2, .f32⟩
  | 33 => ⟨S4x16x2x1x1, .f32⟩
  | 34 => ⟨S4x16x2x128x128, .f32⟩
  | 35 => ⟨S4x16x2x128x128, .f32⟩
  | 36 => ⟨S4x16x2x1, .f32⟩
  | 37 => ⟨S4x16x2x128, .f32⟩
  | 38 => ⟨S4x16x2x128, .f32⟩
  | 39 => ⟨S4x16x2x128, .f32⟩
  | 40 => ⟨S4x16x2x128, .f32⟩
  | 41 => ⟨S4x16x1x128x1, .f32⟩
  | 42 => ⟨S4x16x2x1x128, .f32⟩
  | 43 => ⟨S4x16x2x128x128, .f32⟩
  | 44 => ⟨S4x16x2x128x128, .f32⟩
  | 45 => ⟨S4x16x2x128x128, .f32⟩
  | 46 => ⟨S4x16x2x128x128, .f32⟩
  | 47 => ⟨S4x16x2x128, .f32⟩
  | 48 => ⟨S1x4x16x2x128, .f32⟩
  | 49 => ⟨S_, .i32⟩
  | 50 => ⟨S_, .i32⟩
  | 51 => ⟨S_, .i32⟩
  | 52 => ⟨S_, .i32⟩
  | 53 => ⟨S4096x4x16x2x128, .f32⟩
  | 54 => ⟨S_, .i32⟩
  | 55 => ⟨S_, .i32⟩
  | 56 => ⟨S4x4096x16x2x128, .f32⟩
  | 57 => ⟨S16384x4096, .f32⟩
  | 58 => ⟨S4x4096x16x2x128, .f32⟩
  | 59 => ⟨S4x4096x16x2x128, .f32⟩
  | 60 => ⟨S_, .f32⟩
  | 61 => ⟨S4x4096x16x2, .f32⟩
  | 62 => ⟨S4x4096x16x2x1, .f32⟩
  | 63 => ⟨S_, .f32⟩
  | 64 => ⟨S4x4096x16x2x1, .f32⟩
  | 65 => ⟨S4x4096x16x2x1, .f32⟩
  | 66 => ⟨S_, .f32⟩
  | 67 => ⟨S4x4096x16x2x1, .f32⟩
  | 68 => ⟨S4x4096x16x2x1, .f32⟩
  | 69 => ⟨S4x4096x16x2x1, .f32⟩
  | 70 => ⟨S4x4096x16x2x128, .f32⟩
  | 71 => ⟨S4x4096x16x2x128, .f32⟩
  | 72 => ⟨S1x1x1x1x128, .f32⟩
  | 73 => ⟨S4x4096x16x2x128, .f32⟩
  | 74 => ⟨S4x4096x16x2x128, .f32⟩
  | 75 => ⟨S4x4096x16x2x128, .f32⟩
  | 76 => ⟨S4x4096x16x2x128, .f32⟩
  | 77 => ⟨S_, .f32⟩
  | 78 => ⟨S4x4096x16x2x128, .f32⟩
  | 79 => ⟨S4x4096x16x2x128, .f32⟩
  | 80 => ⟨S_, .f32⟩
  | 81 => ⟨S4x4096x16x2x128, .f32⟩
  | 82 => ⟨S4x4096x16x2x128, .f32⟩
  | 83 => ⟨S4x4096x16x2x128, .f32⟩
  | 84 => ⟨S4x4096x16x2x128, .f32⟩
  | 85 => ⟨S16384x4096, .f32⟩
  | 86 => ⟨S16384x4096, .bf16⟩
  | _ => ⟨S16384x12288, .f32⟩

abbrev hbmTy (i : Nat) : BufTy := match i / 128 with
  | 0 => hbmTy0_0 i
  | 1 => hbmTy0_1 i
  | _ => ⟨S16384x12288, .f32⟩

abbrev bufTy : (tb : Table) → Fin (tcTables nBuf tb) → BufTy
  | .hbm, ⟨i, _⟩ => hbmTy i
  | _, _ => ⟨S16384x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_0 : Ref sig .tc := ⟨.hbm, 54, rfl⟩
abbrev main_v37 : Ref sig .tc := ⟨.hbm, 55, rfl⟩
abbrev main_v38 : Ref sig .tc := ⟨.hbm, 56, rfl⟩
abbrev main_cst_1 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_2 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_3 : Ref sig .tc := ⟨.hbm, 69, rfl⟩
abbrev main_v49 : Ref sig .tc := ⟨.hbm, 70, rfl⟩
abbrev main_v50 : Ref sig .tc := ⟨.hbm, 71, rfl⟩
abbrev main_cst_4 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_call2_cst : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_v6 : Ref sig .tc := ⟨.hbm, 93, rfl⟩
abbrev main_call2_v7 : Ref sig .tc := ⟨.hbm, 94, rfl⟩
abbrev main_call2_v8 : Ref sig .tc := ⟨.hbm, 95, rfl⟩
abbrev main_call2_v9 : Ref sig .tc := ⟨.hbm, 96, rfl⟩
abbrev main_call2_v10 : Ref sig .tc := ⟨.hbm, 97, rfl⟩
abbrev main_call2_v11 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_5 : Ref sig .tc := ⟨.hbm, 106, rfl⟩
abbrev main_v71 : Ref sig .tc := ⟨.hbm, 107, rfl⟩
abbrev main_v72 : Ref sig .tc := ⟨.hbm, 108, rfl⟩
abbrev main_cst_6 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_7 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_8 : Ref sig .tc := ⟨.hbm, 121, rfl⟩
abbrev main_v83 : Ref sig .tc := ⟨.hbm, 122, rfl⟩
abbrev main_c_9 : Ref sig .tc := ⟨.hbm, 123, rfl⟩
abbrev main_v84_0 : Ref sig .tc := ⟨.hbm, 124, rfl⟩
abbrev main_v84_1 : Ref sig .tc := ⟨.hbm, 125, rfl⟩
abbrev main_v84_2 : Ref sig .tc := ⟨.hbm, 126, rfl⟩
abbrev main_v84_3 : Ref sig .tc := ⟨.hbm, 127, rfl⟩
abbrev main_v84_4 : Ref sig .tc := ⟨.hbm, 128, rfl⟩
abbrev main_v84_5 : Ref sig .tc := ⟨.hbm, 129, rfl⟩
abbrev main_v84_6 : Ref sig .tc := ⟨.hbm, 130, rfl⟩
abbrev main_v84_7 : Ref sig .tc := ⟨.hbm, 131, rfl⟩
abbrev main_while0c_c_20 : Ref sig .tc := ⟨.hbm, 132, rfl⟩
abbrev main_while0c_v105 : Ref sig .tc := ⟨.hbm, 133, rfl⟩
abbrev main_while0b_call3_c : Ref sig .tc := ⟨.hbm, 134, rfl⟩
abbrev main_while0b_call3_c_0 : Ref sig .tc := ⟨.hbm, 135, rfl⟩
abbrev main_while0b_call3_c_1 : Ref sig .tc := ⟨.hbm, 136, rfl⟩
abbrev main_while0b_call3_v0 : Ref sig .tc := ⟨.hbm, 137, rfl⟩
abbrev main_while0b_v105 : Ref sig .tc := ⟨.hbm, 138, rfl⟩
abbrev main_while0b_call4_c : Ref sig .tc := ⟨.hbm, 139, rfl⟩
abbrev main_while0b_call4_c_0 : Ref sig .tc := ⟨.hbm, 140, rfl⟩
abbrev main_while0b_call4_c_1 : Ref sig .tc := ⟨.hbm, 141, rfl⟩
abbrev main_while0b_call4_v0 : Ref sig .tc := ⟨.hbm, 142, rfl⟩
abbrev main_while0b_v106 : Ref sig .tc := ⟨.hbm, 143, rfl⟩
abbrev main_while0b_call5_c : Ref sig .tc := ⟨.hbm, 144, rfl⟩
abbrev main_while0b_call5_c_0 : Ref sig .tc := ⟨.hbm, 145, rfl⟩
abbrev main_while0b_call5_c_1 : Ref sig .tc := ⟨.hbm, 146, rfl⟩
abbrev main_while0b_call5_c_2 : Ref sig .tc := ⟨.hbm, 147, rfl⟩
abbrev main_while0b_call5_v0 : Ref sig .tc := ⟨.hbm, 148, rfl⟩
abbrev main_while0b_v107 : Ref sig .tc := ⟨.hbm, 149, rfl⟩
abbrev main_while0b_call6_c : Ref sig .tc := ⟨.hbm, 150, rfl⟩
abbrev main_while0b_call6_c_0 : Ref sig .tc := ⟨.hbm, 151, rfl⟩
abbrev main_while0b_call6_c_1 : Ref sig .tc := ⟨.hbm, 152, rfl⟩
abbrev main_while0b_call6_v0 : Ref sig .tc := ⟨.hbm, 153, rfl⟩
abbrev main_while0b_v108 : Ref sig .tc := ⟨.hbm, 154, rfl⟩
abbrev main_while0b_call7_c : Ref sig .tc := ⟨.hbm, 155, rfl⟩
abbrev main_while0b_call7_c_0 : Ref sig .tc := ⟨.hbm, 156, rfl⟩
abbrev main_while0b_call7_c_1 : Ref sig .tc := ⟨.hbm, 157, rfl⟩
abbrev main_while0b_call7_v0 : Ref sig .tc := ⟨.hbm, 158, rfl⟩
abbrev main_while0b_v109 : Ref sig .tc := ⟨.hbm, 159, rfl⟩
abbrev main_while0b_v110 : Ref sig .tc := ⟨.hbm, 160, rfl⟩
abbrev main_while0b_v111 : Ref sig .tc := ⟨.hbm, 161, rfl⟩
abbrev main_while0b_v112 : Ref sig .tc := ⟨.hbm, 162, rfl⟩
abbrev main_while0b_v113 : Ref sig .tc := ⟨.hbm, 163, rfl⟩
abbrev main_while0b_v114 : Ref sig .tc := ⟨.hbm, 164, rfl⟩
abbrev main_while0b_v115 : Ref sig .tc := ⟨.hbm, 165, rfl⟩
abbrev main_while0b_v116 : Ref sig .tc := ⟨.hbm, 166, rfl⟩
abbrev main_while0b_v117 : Ref sig .tc := ⟨.hbm, 167, rfl⟩
abbrev main_while0b_v118 : Ref sig .tc := ⟨.hbm, 168, rfl⟩
abbrev main_while0b_v119 : Ref sig .tc := ⟨.hbm, 169, rfl⟩
abbrev main_while0b_v120 : Ref sig .tc := ⟨.hbm, 170, rfl⟩
abbrev main_while0b_v121 : Ref sig .tc := ⟨.hbm, 171, rfl⟩
abbrev main_while0b_v122 : Ref sig .tc := ⟨.hbm, 172, rfl⟩
abbrev main_while0b_v123 : Ref sig .tc := ⟨.hbm, 173, rfl⟩
abbrev main_while0b_v124 : Ref sig .tc := ⟨.hbm, 174, rfl⟩
abbrev main_while0b_v125 : Ref sig .tc := ⟨.hbm, 175, rfl⟩
abbrev main_while0b_call8_v0 : Ref sig .tc := ⟨.hbm, 176, rfl⟩
abbrev main_while0b_call8_c : Ref sig .tc := ⟨.hbm, 177, rfl⟩
abbrev main_while0b_call8_c_0 : Ref sig .tc := ⟨.hbm, 178, rfl⟩
abbrev main_while0b_call8_c_1 : Ref sig .tc := ⟨.hbm, 179, rfl⟩
abbrev main_while0b_call8_c_2 : Ref sig .tc := ⟨.hbm, 180, rfl⟩
abbrev main_while0b_v126 : Ref sig .tc := ⟨.hbm, 181, rfl⟩
abbrev main_while0b_c_20 : Ref sig .tc := ⟨.hbm, 182, rfl⟩
abbrev main_while0b_v127 : Ref sig .tc := ⟨.hbm, 183, rfl⟩
abbrev main_v85 : Ref sig .tc := ⟨.hbm, 184, rfl⟩
abbrev main_v86 : Ref sig .tc := ⟨.hbm, 185, rfl⟩
abbrev main_v87 : Ref sig .tc := ⟨.hbm, 186, rfl⟩
abbrev main_v88 : Ref sig .tc := ⟨.hbm, 187, rfl⟩
abbrev main_cst_10 : Ref sig .tc := ⟨.hbm, 188, rfl⟩
abbrev main_v89 : Ref sig .tc := ⟨.hbm, 189, rfl⟩
abbrev main_v90 : Ref sig .tc := ⟨.hbm, 190, rfl⟩
abbrev main_cst_11 : Ref sig .tc := ⟨.hbm, 191, rfl⟩
abbrev main_v91 : Ref sig .tc := ⟨.hbm, 192, rfl⟩
abbrev main_v92 : Ref sig .tc := ⟨.hbm, 193, rfl⟩
abbrev main_cst_12 : Ref sig .tc := ⟨.hbm, 194, rfl⟩
abbrev main_v93 : Ref sig .tc := ⟨.hbm, 195, rfl⟩
abbrev main_v94 : Ref sig .tc := ⟨.hbm, 196, rfl⟩
abbrev main_v95 : Ref sig .tc := ⟨.hbm, 197, rfl⟩
abbrev main_v96 : Ref sig .tc := ⟨.hbm, 198, rfl⟩
abbrev main_v97 : Ref sig .tc := ⟨.hbm, 199, rfl⟩
abbrev main_v98 : Ref sig .tc := ⟨.hbm, 200, rfl⟩
abbrev main_v99 : Ref sig .tc := ⟨.hbm, 201, rfl⟩
abbrev main_v100 : Ref sig .tc := ⟨.hbm, 202, rfl⟩
abbrev main_call9_v0 : Ref sig .tc := ⟨.hbm, 203, rfl⟩
abbrev main_call9_v1 : Ref sig .tc := ⟨.hbm, 204, rfl⟩
abbrev main_call9_cst : Ref sig .tc := ⟨.hbm, 205, rfl⟩
abbrev main_call9_v2 : Ref sig .tc := ⟨.hbm, 206, rfl⟩
abbrev main_call9_v3 : Ref sig .tc := ⟨.hbm, 207, rfl⟩
abbrev main_call9_cst_0 : Ref sig .tc := ⟨.hbm, 208, rfl⟩
abbrev main_call9_v4 : Ref sig .tc := ⟨.hbm, 209, rfl⟩
abbrev main_call9_v5 : Ref sig .tc := ⟨.hbm, 210, rfl⟩
abbrev main_v101 : Ref sig .tc := ⟨.hbm, 211, rfl⟩
abbrev main_v102 : Ref sig .tc := ⟨.hbm, 212, rfl⟩
abbrev main_v103 : Ref sig .tc := ⟨.hbm, 213, rfl⟩
abbrev main_v104 : Ref sig .tc := ⟨.hbm, 214, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S16384x4096 : Shape := ⟨2, ![16384, 4096]⟩
abbrev S4096x11008 : Shape := ⟨2, ![4096, 11008]⟩
abbrev S16384x11008 : Shape := ⟨2, ![16384, 11008]⟩
abbrev S1024x4096 : Shape := ⟨2, ![1024, 4096]⟩
abbrev S4096x256 : Shape := ⟨2, ![4096, 256]⟩
abbrev S1024x256 : Shape := ⟨2, ![1024, 256]⟩

abbrev nBuf : Space → Nat
  | .hbm => 4
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x11008, .f32⟩
  | .hbm, ⟨2, _⟩ => ⟨S4096x11008, .f32⟩
  | .hbm, ⟨3, _⟩ => ⟨S16384x11008, .bf16⟩
  | .local _ .vmem, ⟨0, _⟩ => ⟨S1024x4096, .bf16⟩
  | .local _ .vmem, ⟨1, _⟩ => ⟨S1024x4096, .bf16⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S1024x256, .bf16⟩
  | .local _ .vmem, ⟨7, _⟩ => ⟨S1024x256, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16384x4096 : Shape := ⟨2, ![16384, 4096]⟩
abbrev S4096x11008 : Shape := ⟨2, ![4096, 11008]⟩
abbrev S16384x11008 : Shape := ⟨2, ![16384, 11008]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x11008, .f32⟩
  | .hbm, ⟨2, _⟩ => ⟨S4096x11008, .f32⟩
  | .hbm, ⟨3, _⟩ => ⟨S16384x4096, .f32⟩
  | .hbm, ⟨4, _⟩ => ⟨S16384x11008, .f32⟩
  | .hbm, ⟨5, _⟩ => ⟨S16384x11008, .f32⟩
  | .hbm, ⟨6, _⟩ => ⟨S16384x11008, .f32⟩
  | .hbm, ⟨7, _⟩ => ⟨S_, .f32⟩
  | .hbm, ⟨8, _⟩ => ⟨S16384x11008, .f32⟩
  | .hbm, ⟨9, _⟩ => ⟨S16384x11008, .f32⟩
  | .hbm, ⟨10, _⟩ => ⟨S_, .f32⟩
  | .hbm, ⟨11, _⟩ => ⟨S16384x11008, .f32⟩
  | .hbm, ⟨12, _⟩ => ⟨S16384x11008, .f32⟩
  | .hbm, ⟨13, _⟩ => ⟨S16384x11008, .f32⟩
  | .hbm, ⟨14, _⟩ => ⟨S16384x4096, .f32⟩
  | .hbm, ⟨15, _⟩ => ⟨S16384x11008, .f32⟩
  | .hbm, ⟨16, _⟩ => ⟨S16384x11008, .f32⟩
  | .hbm, ⟨17, _⟩ => ⟨S16384x11008, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel3.lean ====
abbrev S16384x11008 : Shape := ⟨2, ![16384, 11008]⟩
abbrev S11008x4096 : Shape := ⟨2, ![11008, 4096]⟩
abbrev S16384x4096 : Shape := ⟨2, ![16384, 4096]⟩
abbrev S512x11008 : Shape := ⟨2, ![512, 11008]⟩
abbrev S11008x512 : Shape := ⟨2, ![11008, 512]⟩
abbrev S512x512 : Shape := ⟨2, ![512, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .f32⟩
  | .hbm, ⟨2, _⟩ => ⟨S16384x4096, .f32⟩
  | .hbm, ⟨3, _⟩ => ⟨S11008x4096, .bf16⟩
  | .hbm, ⟨4, _⟩ => ⟨S16384x4096, .f32⟩
  | .local _ .vmem, ⟨0, _⟩ => ⟨S512x11008, .bf16⟩
  | .local _ .vmem, ⟨1, _⟩ => ⟨S512x11008, .bf16⟩
  | .local _ .vmem, ⟨2, _⟩ => ⟨S11008x512, .bf16⟩
  | .local _ .vmem, ⟨3, _⟩ => ⟨S11008x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16384x11008 : Shape := ⟨2, ![16384, 11008]⟩
abbrev S11008x4096 : Shape := ⟨2, ![11008, 4096]⟩
abbrev S16384x4096 : Shape := ⟨2, ![16384, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .f32⟩
  | .hbm, ⟨2, _⟩ => ⟨S16384x4096, .f32⟩
  | .hbm, ⟨3, _⟩ => ⟨S16384x11008, .f32⟩
  | .hbm, ⟨4, _⟩ => ⟨S16384x4096, .f32⟩
  | .hbm, ⟨5, _⟩ => ⟨S_, .f32⟩
  | .hbm, ⟨6, _⟩ => ⟨S16384x4096, .f32⟩
  | .hbm, ⟨7, _⟩ => ⟨S16384x4096, .f32⟩
  | .hbm, ⟨8, _⟩ => ⟨S16384x4096, .f32⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel4.lean ====
abbrev S16384x4096 : Shape := ⟨2, ![16384, 4096]⟩
abbrev S4096x26688 : Shape := ⟨2, ![4096, 26688]⟩
abbrev S26688x4096 : Shape := ⟨2, ![26688, 4096]⟩
abbrev S16384x12288 : Shape := ⟨2, ![16384, 12288]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x26688, .f32⟩
  | .hbm, ⟨2, _⟩ => ⟨S26688x4096, .f32⟩
  | .hbm, ⟨3, _⟩ => ⟨S16384x12288, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S1024x512, .f32⟩
  | .local _ .vmem, ⟨5, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 24], ![false, false]⟩

def k0_mult1 (i : grid0.Coords) : BitVec 32 :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S16384x4096 : Shape := ⟨2, ![16384, 4096]⟩
abbrev S4096x26688 : Shape := ⟨2, ![4096, 26688]⟩
abbrev S16384x26688 : Shape := ⟨2, ![16384, 26688]⟩
abbrev S16384x12288 : Shape := ⟨2, ![16384, 12288]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x26688, .f32⟩
  | .hbm, ⟨2, _⟩ => ⟨S16384x4096, .f32⟩
  | .hbm, ⟨3, _⟩ => ⟨S16384x26688, .f32⟩
  | .hbm, ⟨4, _⟩ => ⟨S16384x12288, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S16384x4096 : Shape := ⟨2, ![16384, 4096]⟩
abbrev S4096x26688 : Shape := ⟨2, ![4096, 26688]⟩
abbrev S26688x4096 : Shape := ⟨2, ![26688, 4096]⟩
abbrev S16384x14336 : Shape := ⟨2, ![16384, 14336]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x26688, .f32⟩
  | .hbm, ⟨2, _⟩ => ⟨S26688x4096, .f32⟩
  | .hbm, ⟨3, _⟩ => ⟨S16384x14336, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S1024x512, .f32⟩
  | .local _ .vmem, ⟨5, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 28], ![false, false]⟩

def k0_mult1 (i : grid0.Coords) : BitVec 32 :=
  let c12352_i32 : BitVec 32 := 12352#32
  let arg1 : BitVec 32 := BitVec.ofNat 32 (i 1).val
  let c512_i32 : BitVec 32 := 512#32
  let v0 : BitVec 32 := Scalar.muli arg1 c512_i32
  let v1 : BitVec 32 := Scalar.addi c12352_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c12352_i32 : BitVec 32 := 12352#32
  let v1 : BitVec 32 := Scalar.addi c12352_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S16384x4096 : Shape := ⟨2, ![16384, 4096]⟩
abbrev S4096x26688 : Shape := ⟨2, ![4096, 26688]⟩
abbrev S16384x26688 : Shape := ⟨2, ![16384, 26688]⟩
abbrev S16384x14336 : Shape := ⟨2, ![16384, 14336]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x26688, .f32⟩
  | .hbm, ⟨2, _⟩ => ⟨S16384x4096, .f32⟩
  | .hbm, ⟨3, _⟩ => ⟨S16384x26688, .f32⟩
  | .hbm, ⟨4, _⟩ => ⟨S16384x14336, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S16384x4096 : Shape := ⟨2, ![16384, 4096]⟩
abbrev S16384x2048 : Shape := ⟨2, ![16384, 2048]⟩
abbrev S4096x4096 : Shape := ⟨2, ![4096, 4096]⟩
abbrev S2048x4096 : Shape := ⟨2, ![2048, 4096]⟩
abbrev S16384x14336 : Shape := ⟨2, ![16384, 14336]⟩
abbrev S1024x4096 : Shape := ⟨2, ![1024, 4096]⟩
abbrev S1024x2048 : Shape := ⟨2, ![1024, 2048]⟩
abbrev S4096x512 : Shape := ⟨2, ![4096, 512]⟩
abbrev S2048x512 : Shape := ⟨2, ![2048, 512]⟩
abbrev S1024x512 : Shape := ⟨2, ![1024, 512]⟩

abbrev nBuf : Space → Nat
  | .hbm => 8
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S16384x2048, .bf16⟩
  | .hbm, ⟨2, _⟩ => ⟨S4096x4096, .f32⟩
  | .hbm, ⟨3, _⟩ => ⟨S2048x4096, .f32⟩
  | .hbm, ⟨4, _⟩ => ⟨S16384x14336, .f32⟩
  | .hbm, ⟨5, _⟩ => ⟨S4096x4096, .bf16⟩
  | .hbm, ⟨6, _⟩ => ⟨S2048x4096, .bf16⟩
  | .hbm, ⟨7, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x2048, .bf16⟩
  | .local _ .vmem, ⟨3, _⟩ => ⟨S1024x2048, .bf16⟩
  | .local _ .vmem, ⟨4, _⟩ => ⟨S4096x512, .bf16⟩
  | .local _ .vmem, ⟨5, _⟩ => ⟨S4096x512, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S16384x4096 : Shape := ⟨2, ![16384, 4096]⟩
abbrev S16384x2048 : Shape := ⟨2, ![16384, 2048]⟩
abbrev S4096x4096 : Shape := ⟨2, ![4096, 4096]⟩
abbrev S2048x4096 : Shape := ⟨2, ![2048, 4096]⟩
abbrev S16384x14336 : Shape := ⟨2, ![16384, 14336]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x2048, .bf16⟩
  | .hbm, ⟨2, _⟩ => ⟨S4096x4096, .f32⟩
  | .hbm, ⟨3, _⟩ => ⟨S2048x4096, .f32⟩
  | .hbm, ⟨4, _⟩ => ⟨S16384x14336, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S_, .f32⟩
  | .hbm, ⟨21, _⟩ => ⟨S16384x4096, .f32⟩
  | .hbm, ⟨22, _⟩ => ⟨S16384x4096, .f32⟩
  | .hbm, ⟨23, _⟩ => ⟨S_, .f32⟩
  | .hbm, ⟨24, _⟩ => ⟨S16384x4096, .f32⟩
  | .hbm, ⟨25, _⟩ => ⟨S16384x4096, .f32⟩
  | .hbm, ⟨26, _⟩ => ⟨S16384x2048, .f32⟩
  | .hbm, ⟨27, _⟩ => ⟨S16384x4096, .f32⟩
  | .hbm, ⟨28, _⟩ => ⟨S16384x4096, .f32⟩
  | .hbm, ⟨29, _⟩ => ⟨S16384x4096, .f32⟩
  | .hbm, ⟨30, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel7.lean ====
abbrev S16384x4096 : Shape := ⟨2, ![16384, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S4096x4096, .bf16⟩
  | .hbm, ⟨4, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S16384x4096 : Shape := ⟨2, ![16384, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S16384x4096, .f32⟩
  | .hbm, ⟨4, _⟩ => ⟨S16384x4096, .f32⟩
  | .hbm, ⟨5, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S16384x4096 : Shape := ⟨2, ![16384, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel9.lean ====
abbrev S16384x4096 : Shape := ⟨2, ![16384, 4096]⟩
abbrev S4096x26688 : Shape := ⟨2, ![4096, 26688]⟩
abbrev S4096x64 : Shape := ⟨2, ![4096, 64]⟩
abbrev S_ : Shape := ⟨0, ![]⟩
abbrev S4096x128 : Shape := ⟨2, ![4096, 128]⟩
abbrev S16384x128 : Shape := ⟨2, ![16384, 128]⟩
abbrev S1024x4096 : Shape := ⟨2, ![1024, 4096]⟩
abbrev S1024x128 : Shape := ⟨2, ![1024, 128]⟩

abbrev nBuf : Space → Nat
  | .hbm => 8
  | .vmem => 5
  | .smem => 0
  | _ => 0

abbrev bufTy : (tb : Table) → Fin (tcTables nBuf tb) → BufTy
  | .hbm, ⟨0, _⟩ => ⟨S16384x4096, .bf16⟩
  | .hbm, ⟨1, _⟩ => ⟨S4096x26688, .f32⟩
  | .hbm, ⟨2, _⟩ => ⟨S4096x64, .f32⟩
  | .hbm, ⟨3, _⟩ => ⟨S_, .i32⟩
  | .hbm, ⟨4, _⟩ => ⟨S_, .f32⟩
  | .hbm, ⟨5, _⟩ => ⟨S4096x128, .f32⟩
  | .hbm, ⟨6, _⟩ => ⟨S4096x128, .bf16⟩
  | .hbm, ⟨7, _⟩ => ⟨S16384x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x128, .bf16⟩
  | .local _ .vmem, ⟨3, _⟩ => ⟨S1024x128, .f32⟩
  | .local _ .vmem, ⟨4, _⟩ => ⟨S1024x128, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S16384x4096 : Shape := ⟨2, ![16384, 4096]⟩
abbrev S4096x26688 : Shape := ⟨2, ![4096, 26688]⟩
abbrev S4096x64 : Shape := ⟨2, ![4096, 64]⟩
abbrev S16384x64 : Shape := ⟨2, ![16384, 64]⟩
abbrev S_ : Shape := ⟨0, ![]⟩
abbrev S16384x128 : Shape := ⟨2, ![16384, 128]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x26688, .f32⟩
  | .hbm, ⟨2, _⟩ => ⟨S16384x4096, .f32⟩
  | .hbm, ⟨3, _⟩ => ⟨S4096x64, .f32⟩
  | .hbm, ⟨4, _⟩ => ⟨S16384x64, .f32⟩
  | .hbm, ⟨5, _⟩ => ⟨S_, .i32⟩
  | .hbm, ⟨6, _⟩ => ⟨S_, .f32⟩
  | .hbm, ⟨7, _⟩ => ⟨S16384x128, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.GdnSpec.lean ====
module

public import proofs.«01_k».proof.Proof.Gen.KernelIdeal.Loops

@[expose] public section

noncomputable section

/-! What one trip of the gated delta kernel computes, written as functions of the blocks it loads: the convolutions, the
normalised rows, the decays, the inverse of the unit lower triangular matrix by doubling blocks, the corrected values,
the state's update and the gated output. -/

namespace Cert.Proof.Gdn

open Cert.KernelIdeal Cert.KernelIdeal.Gen Idealize.ShloMosaic Idealize.ShloMosaic.TcCoe

variable {F : FTy → Type} [FloatOps F] {α : Type}

/-- The shape of a matrix. -/
abbrev Sh (a b : ℕ) : Shape := ⟨2, ![a, b]⟩

def zer : F .f32 := Scalar.ofBits .f32 0x00000000#32
def uno : F .f32 := Scalar.ofBits .f32 0x3F800000#32
def eps : F .f32 := Scalar.ofBits .f32 0x358637BD#32

def zeros (s : Shape) : FVec F s .f32 := broadcast s zer

/-- The logistic function of an array. -/
def sigm {s : Shape} (x : FVec F s .f32) : FVec F s .f32 :=
  divf (broadcast s uno) (addf (broadcast s uno) (exp (subf (zeros s) x)))

/-- `m` blocks of `n` rows stack to `N` rows. -/
theorem piled {w N : ℕ} (n m : ℕ) (hm : 2 ≤ m) (hN : m * n = N) (f : Fin m → (Sh n w).Idx → α) :
    Shape.Concatenates ((List.ofFn fun i => (⟨Sh n w, f i⟩ : (s : Shape) × (s.Idx → α))).map (·.1)) (Sh N w) 0 := by
  refine ⟨by simpa using hm, ?_, ?_⟩
  · intro s hs
    simp only [List.map_ofFn, List.mem_ofFn, Function.comp] at hs
    obtain ⟨i, rfl⟩ := hs
    refine ⟨rfl, fun b hb => ?_⟩
    fin_cases b
    · exact absurd rfl hb
    · rfl
  · rw [List.map_ofFn, List.map_ofFn]
    simp [List.sum_ofFn, Function.comp_def, hN]

/-- Blocks of `n` rows, one under the other. -/
def pile {w N : ℕ} (n m : ℕ) (hm : 2 ≤ m) (hN : m * n = N) (f : Fin m → (Sh n w).Idx → α) : (Sh N w).Idx → α :=
  concatenate (Sh N w) 0 (List.ofFn fun i => ⟨Sh n w, f i⟩) (piled n m hm hN f)

theorem fits {i m n N : ℕ} (h : i + 1 ≤ m) (hN : m * n = N) : i * n + n ≤ N := by
  rw [← hN, ← Nat.succ_mul]; exact Nat.mul_le_mul_right n h

theorem twice {m n : ℕ} (hN : m * n = 128) : 2 * m * n = 256 := by rw [Nat.mul_assoc, hN]

theorem rowsFit {w N n o : ℕ} (h : o + n ≤ N) : (Sh N w).Slices ![o, 0] (Sh n w) :=
  ⟨rfl, fun a => by fin_cases a <;> simp <;> omega⟩

/-- `n` rows from row `o`. -/
def rowsAt {w N : ℕ} (n o : ℕ) (h : o + n ≤ N) (x : (Sh N w).Idx → α) : (Sh n w).Idx → α :=
  extractStridedSlice (Sh n w) ![o, 0] x (rowsFit h)

/-- The odd ones of the blocks of `n` rows. -/
def oddBlocks (n m : ℕ) (hm : 2 ≤ m) (hN : m * n = 128) (x : (Sh 256 256).Idx → α) : (Sh 128 256).Idx → α :=
  pile n m hm hN fun i => rowsAt n ((2 * i.val + 1) * n) (fits (m := 2 * m) (by omega) (twice hN)) x

/-- Blocks of zeros and the blocks of `y`, taken in turn. -/
def zeroEven (n m : ℕ) (hm : 2 ≤ m) (hN : m * n = 128) (y : FVec F (Sh 128 256) .f32) : FVec F (Sh 256 256) .f32 :=
  pile n (2 * m) (by omega) (twice hN) fun i =>
    if i.val % 2 = 0 then zeros (Sh n 256)
    else rowsAt n (i.val / 2 * n) (fits (m := m) (by omega) hN) y

/-- `y` taken from the odd blocks of `x`. -/
def subOdd (n m : ℕ) (hm : 2 ≤ m) (hN : m * n = 128) (x : FVec F (Sh 256 256) .f32) (y : FVec F (Sh 128 256) .f32) :
    FVec F (Sh 256 256) .f32 :=
  pile n (2 * m) (by omega) (twice hN) fun i =>
    if i.val % 2 = 0 then rowsAt n (i.val * n) (fits i.isLt (twice hN)) x
    else subf (rowsAt n (i.val * n) (fits i.isLt (twice hN)) x)
      (rowsAt n (i.val / 2 * n) (fits (m := m) (by omega) hN) y)

def iota0 : IVec S256x256 32 := iota .tc S256x256 32 [0] iota_S256x256_d0_w32
def iota1 : IVec S256x256 32 := iota .tc S256x256 32 [1] iota_S256x256_d1_w32
def lower : IVec S256x256 1 := cmpi .sge iota0 iota1
def strict : IVec S256x256 1 := cmpi .sgt iota0 iota1
def diag : IVec S256x256 1 := cmpi .eq iota0 iota1
def eye : FVec F S256x256 .f32 := sitofp .f32 (extui 32 diag natLt_1_32)
def xorIx : IVec S256x256 32 := xori iota0 iota1

def half {s : Shape} (x : FVec F s .f32) : FVec F s .bf16 := truncf .bf16 x bitsLt_bf16_f32

/-- The product of two square matrices. -/
def mm (a b : FVec F S256x256 .bf16) : FVec F S256x256 .f32 :=
  matmul dot_S256x256_S256x256_S256x256_1_0_0_1_n_n none a b (constant S256x256 .f32 0x00000000#32)

/-- The product of 128 rows with a square matrix. -/
def mmHalf (a : FVec F S128x256 .bf16) (b : FVec F S256x256 .bf16) : FVec F S128x256 .f32 :=
  matmul dot_S128x256_S256x256_S128x256_1_0_0_1_n_n none a b (constant S128x256 .f32 0x00000000#32)

/-- Where the indices' exclusive or, shifted by `l`, is one. -/
def level {s : Shape} (x : IVec s 32) (l : BitVec 32) : IVec s 1 := cmpi .eq (shrsi x (broadcast s l)) (broadcast s 1#32)

/-- The first inverse: of the blocks of two rows. -/
def inv0 (lm : FVec F S256x256 .f32) : FVec F S256x256 .f32 :=
  subf eye (select (cmpi .eq xorIx (broadcast S256x256 1#32)) lm (zeros _))

/-- A doubling on whole matrices. -/
def invLow (l : BitVec 32) (lm d : FVec F S256x256 .f32) : FVec F S256x256 .f32 :=
  subf d (mm (half d) (half (mm (half (select (level xorIx l) lm (zeros _))) (half d))))

/-- A doubling that touches the odd blocks' rows only. -/
def invHigh (n m : ℕ) (hm : 2 ≤ m) (hN : m * n = 128) (l : BitVec 32) (lm d : FVec F S256x256 .f32) : FVec F S256x256 .f32 :=
  subOdd n m hm hN d (mmHalf (half (oddBlocks n m hm hN d)) (half (zeroEven n m hm hN
    (mmHalf (half (select (level (oddBlocks n m hm hN xorIx) l) (oddBlocks n m hm hN lm) (zeros _))) (half d)))))

/-- The last doubling: the lower half of the rows. -/
def invTop (lm d : FVec F S256x256 .f32) : FVec F S256x256 .f32 :=
  let u := mmHalf (half (rowsAt 128 128 (by omega) d)) (half (pile 128 2 (by omega) (by omega) ![zeros (Sh 128 256),
    mmHalf (half (select (level (rowsAt 128 128 (by omega) xorIx) 7#32) (rowsAt 128 128 (by omega) lm) (zeros _))) (half d)]))
  pile 128 2 (by omega) (by omega) ![rowsAt 128 0 (by omega) d, subf (rowsAt 128 128 (by omega) d) u]

/-- The inverse of the unit lower triangular matrix `1 + lm` by doubling. -/
def invLevels (lm : FVec F S256x256 .f32) : FVec F S256x256 .f32 :=
  invTop lm (invHigh 64 2 (by omega) (by omega) 6#32 lm (invHigh 32 4 (by omega) (by omega) 5#32 lm
    (invHigh 16 8 (by omega) (by omega) 4#32 lm (invHigh 8 16 (by omega) (by omega) 3#32 lm
      (invLow 2#32 lm (invLow 1#32 lm (inv0 lm)))))))

/-- What rounding to bf16 leaves. -/
def rest (a : FVec F S256x256 .f32) : FVec F S256x256 .bf16 := half (subf a (extf .f32 (half a) bitsLt_bf16_f32))

/-- A product in three passes. -/
def mm3 (a b : FVec F S256x256 .f32) : FVec F S256x256 .f32 :=
  matmul dot_S256x768_S768x256_S256x256_1_0_0_1_n_n none
    (concatenate S256x768 1 [⟨S256x256, half a⟩, ⟨S256x256, half a⟩, ⟨S256x256, rest a⟩] concatenates_S256x256_S256x256_S256x256_S256x768_d1)
    (concatenate S768x256 0 [⟨S256x256, half b⟩, ⟨S256x256, rest b⟩, ⟨S256x256, half b⟩] concatenates_S256x256_S256x256_S256x256_S768x256_d0)
    (constant S256x256 .f32 0x00000000#32)

/-- The inverse with one step of correction. -/
def inverse (lm : FVec F S256x256 .f32) : FVec F S256x256 .f32 :=
  addf (invLevels lm) (mm (half (invLevels lm)) (half (subf (subf eye (invLevels lm)) (mm3 lm (invLevels lm)))))

/-- The causal convolution of 256 rows with the 8 before them, through `x · sigmoid x`. -/
def conv {n : ℕ} (hc : Shape.Concatenates [Sh 8 n, Sh 256 n] (Sh 264 n) 0) (hr : (Sh 264 n).Rotates 0 none)
    (hs : (Sh 264 n).Slices ![8, 0] (Sh 256 n)) (hb : (Sh 1 n).Broadcasts (Sh 256 n)) (first : BitVec 1)
    (x : FVec F (Sh 256 n) .f32) (p : FVec F (Sh 8 n) .f32) (w0 w1 w2 w3 : FVec F (Sh 1 n) .f32) : FVec F (Sh 256 n) .f32 :=
  let xx := concatenate (Sh 264 n) 0 [⟨Sh 8 n, Scalar.select first p (zeros _)⟩, ⟨Sh 256 n, x⟩] hc
  let tap (r : BitVec 32) (w : FVec F (Sh 1 n) .f32) : FVec F (Sh 256 n) .f32 :=
    mulf (extractStridedSlice (Sh 256 n) ![8, 0] (dynamicRotate 0 r none xx hr) hs) (broadcastTo (Sh 256 n) w hb)
  let acc := addf (addf (addf (mulf x (broadcastTo (Sh 256 n) w3 hb)) (tap 3#32 w0)) (tap 2#32 w1)) (tap 1#32 w2)
  mulf acc (sigm acc)

def conv128 := @conv F _ 128 concatenates_S8x128_S256x128_S264x128_d0 rotates_S264x128_d0 slices_S264x128_o8_0_S256x128
  broadcasts_S1x128_S256x128
def conv256 := @conv F _ 256 concatenates_S8x256_S256x256_S264x256_d0 rotates_S264x256_d0 slices_S264x256_o8_0_S256x256
  broadcasts_S1x256_S256x256

/-- A row divided by its length. -/
def unit (x : FVec F S256x128 .f32) : FVec F S256x128 .f32 :=
  mulf x (broadcastTo S256x128 (rsqrt (addf (shapeCast S256x1 (multiReduction .add [1] S256 (mulf x x) 0x00000000#32
    reduces_S256x128_S256 (.inl rfl) rfl) shapeCasts_S256_S256x1) (broadcast S256x1 eps))) broadcasts_S256x1_S256x128)

/-- The scale `128 ^ (-1/2)` on the queries. -/
def scaled (x : FVec F S256x128 .f32) : FVec F S256x128 .f32 := mulf x (broadcast S256x128 (Scalar.ofBits .f32 0x3DB504F3#32))

/-- The products of rows with rows. -/
def gram (a b : FVec F S256x128 .f32) : FVec F S256x256 .f32 :=
  matmul dot_S256x128_S256x128_S256x256_1_1_0_0_n_n none (half a) (half b) (constant S256x256 .f32 0x00000000#32)

/-- The log-decays of 256 tokens. -/
def gRow (a : FVec F S1x1x1x256 .f32) (dtb alog : FVec F S1x1x256 .f32) : FVec F S1x256 .f32 :=
  let x := addf (shapeCast S1x256 a shapeCasts_S1x1x1x256_S1x256) (shapeCast S1x256 dtb shapeCasts_S1x1x256_S1x256)
  mulf (subf (zeros _) (exp (shapeCast S1x256 alog shapeCasts_S1x1x256_S1x256)))
    (addf (maximumf x (zeros _)) (log1p (exp (subf (zeros _) (absf x)))))

/-- The row under a mask, summed along the row: a column. -/
def colOf (mask : IVec S256x256 1) (g : FVec F S1x256 .f32) : FVec F S256x1 .f32 :=
  shapeCast S256x1 (multiReduction .add [1] S256 (select mask (broadcastTo S256x256 (shapeCast S1x256 g shapeCasts_S1x256_S1x256)
    broadcasts_S1x256_S256x256) (zeros _)) 0x00000000#32 reduces_S256x256_S256 (.inl rfl) rfl) shapeCasts_S256_S256x1

/-- A column turned into a row. -/
def rowOf (g : FVec F S256x1 .f32) : FVec F S1x256 .f32 :=
  shapeCast S1x256 (multiReduction .add [0] S256 (select diag (broadcastTo S256x256 (shapeCast S256x1 g (by decide)) (by decide)) (zeros _)) 0x00000000#32
    reduces_S256x256_S256_2 (.inl rfl) rfl) shapeCasts_S256_S1x256

/-- The decay from token `j` to token `i`. -/
def decay (gc : FVec F S256x1 .f32) : FVec F S256x256 .f32 :=
  select lower (exp (select lower (subf (broadcastTo S256x256 gc (by decide)) (broadcastTo S256x256 (rowOf gc) (by decide))) (zeros _))) (zeros _)

/-- The strictly lower triangular matrix of the delta rule. -/
def lmat (bc : FVec F S256x1 .f32) (kk dec : FVec F S256x256 .f32) : FVec F S256x256 .f32 :=
  select strict (mulf (mulf (broadcastTo S256x256 bc (by decide)) kk) dec) (zeros _)

def betaRow (b : FVec F S1x1x1x256 .f32) : FVec F S1x256 .f32 := sigm (shapeCast S1x256 b shapeCasts_S1x1x1x256_S1x256)

/-- A column over the 128 columns of a block. -/
def wide (g : FVec F S256x1 .f32) : FVec F S256x128 .f32 := broadcastTo S256x128 g broadcasts_S256x1_S256x128

/-- The inverse times the values and the keys, weighted. -/
def uw (t : FVec F S256x256 .f32) (bc gc : FVec F S256x1 .f32) (v k : FVec F S256x128 .f32) : FVec F S256x256 .f32 :=
  mm (half t) (half (mulf (broadcastTo S256x256 bc (by decide))
    (concatenate S256x256 1 [⟨S256x128, v⟩, ⟨S256x128, mulf k (wide (exp gc))⟩] concatenates_S256x128_S256x128_S256x256_d1)))

def left (x : FVec F S256x256 .f32) : FVec F S256x128 .f32 := extractStridedSlice S256x128 ![0, 0] x (by decide)
def right (x : FVec F S256x256 .f32) : FVec F S256x128 .f32 := extractStridedSlice S256x128 ![0, 128] x (by decide)

def attn (qk dec : FVec F S256x256 .f32) : FVec F S256x256 .f32 := select lower (mulf qk dec) (zeros _)

def lastOf (gc : FVec F S256x1 .f32) : FVec F S1x1 .f32 := extractStridedSlice S1x1 ![255, 0] gc (by decide)

def kDec (k : FVec F S256x128 .f32) (gc : FVec F S256x1 .f32) : FVec F S256x128 .f32 :=
  mulf k (wide (exp (subf (broadcastTo S256x1 (lastOf gc) (by decide)) gc)))

def mmState (a : FVec F S256x128 .bf16) (s : FVec F S128x128 .bf16) : FVec F S256x128 .f32 :=
  matmul dot_S256x128_S128x128_S256x128_1_0_0_1_n_n none a s (constant S256x128 .f32 0x00000000#32)

/-- The corrected values. -/
def vNew (u : FVec F S256x128 .f32) (w : FVec F S256x128 .f32) (s : FVec F S128x128 .f32) : FVec F S256x128 .f32 :=
  subf u (mmState (half w) (half s))

def outp (q : FVec F S256x128 .f32) (gc : FVec F S256x1 .f32) (at_ : FVec F S256x256 .f32) (s : FVec F S128x128 .f32)
    (vn : FVec F S256x128 .f32) : FVec F S256x128 .f32 :=
  addf (mmState (half (mulf q (wide (exp gc)))) (half s))
    (matmul dot_S256x256_S256x128_S256x128_1_0_0_1_n_n none (half at_) (half vn) (constant S256x128 .f32 0x00000000#32))

def nextState (s : FVec F S128x128 .f32) (gc : FVec F S256x1 .f32) (k vn : FVec F S256x128 .f32) : FVec F S128x128 .f32 :=
  addf (mulf s (broadcastTo S128x128 (exp (lastOf gc)) (by decide)))
    (matmul dot_S256x128_S256x128_S128x128_0_0_1_1_n_n none (half (kDec k gc)) (half vn) (constant S128x128 .f32 0x00000000#32))

/-- The normalised and gated output. -/
def gated (o z : FVec F S256x128 .f32) (on : FVec F S1x128 .f32) : FVec F S256x128 .bf16 :=
  half (mulf (mulf (mulf o (wide (rsqrt (addf (divf (shapeCast S256x1 (multiReduction .add [1] S256 (mulf o o) 0x00000000#32
    reduces_S256x128_S256 (.inl rfl) rfl) shapeCasts_S256_S256x1) (broadcast S256x1 (Scalar.ofBits .f32 0x43000000#32)))
    (broadcast S256x1 eps))))) (broadcastTo S256x128 (shapeCast S1x128 on shapeCasts_S1x128_S1x128) broadcasts_S1x128_S256x128))
    (mulf z (sigm z)))

/-- What one head needs of a group of 256 tokens. -/
structure Prob (F : FTy → Type) where
  q : FVec F S256x128 .f32
  k : FVec F S256x128 .f32
  v : FVec F S256x128 .f32
  z : FVec F S256x128 .f32
  g : FVec F S1x256 .f32
  b : FVec F S1x256 .f32

namespace Prob
variable (p : Prob F)
def gc : FVec F S256x1 .f32 := colOf lower p.g
def bc : FVec F S256x1 .f32 := colOf diag p.b
def lm : FVec F S256x256 .f32 := lmat p.bc (gram p.k p.k) (decay p.gc)
def uw : FVec F S256x256 .f32 := Gdn.uw (inverse p.lm) p.bc p.gc p.v p.k
def vn (s : FVec F S128x128 .f32) : FVec F S256x128 .f32 := vNew (left p.uw) (right p.uw) s
def out (s : FVec F S128x128 .f32) : FVec F S256x128 .f32 := outp p.q p.gc (attn (gram p.q p.k) (decay p.gc)) s (p.vn s)
def next (s : FVec F S128x128 .f32) : FVec F S128x128 .f32 := nextState s p.gc p.k (p.vn s)
def y (on : FVec F S1x128 .f32) (s : FVec F S128x128 .f32) : FVec F S256x128 .bf16 := gated (p.out s) p.z on
end Prob

end Cert.Proof.Gdn

end
-- ==== Proof.GdnInverse.lean ====
module

public import Mathlib.LinearAlgebra.Matrix.NonsingularInverse
public import Mathlib.Analysis.SpecialFunctions.Exp
public import Mathlib.Tactic.Linarith
public import Mathlib.Tactic.Ring
public import Mathlib.Tactic.Abel

@[expose] public section

noncomputable section

/-! The inverse of a unit lower triangular matrix by doubling diagonal blocks, over the reals. -/

namespace Cert.Proof.Gdn

/-- The part of `L` that joins an even block of `2 ^ l` columns to the odd block of rows below it. -/
def joins (l : ℕ) (L : Matrix (Fin 256) (Fin 256) ℝ) : Matrix (Fin 256) (Fin 256) ℝ :=
  fun i j => if i.val / 2 ^ l = j.val / 2 ^ l + 1 ∧ j.val / 2 ^ l % 2 = 0 then L i j else 0

/-- The inverse of the diagonal blocks of `2 ^ l` rows. -/
def doubled (L : Matrix (Fin 256) (Fin 256) ℝ) : ℕ → Matrix (Fin 256) (Fin 256) ℝ
  | 0 => 1
  | l + 1 => doubled L l - doubled L l * (joins l L * doubled L l)

/-- `1 + L` within the diagonal blocks of `2 ^ l` rows. -/
def within (l : ℕ) (L : Matrix (Fin 256) (Fin 256) ℝ) : Matrix (Fin 256) (Fin 256) ℝ :=
  fun i j => (1 : Matrix (Fin 256) (Fin 256) ℝ) i j + if i.val / 2 ^ l = j.val / 2 ^ l then L i j else 0

theorem half_pow (i l : ℕ) : i / 2 ^ (l + 1) = i / 2 ^ l / 2 := by rw [pow_succ, Nat.div_div_eq_div_mul]

variable (L : Matrix (Fin 256) (Fin 256) ℝ) (hL : ∀ i j, ¬ j < i → L i j = 0)

include hL in
theorem within_succ (l : ℕ) : within (l + 1) L = within l L + joins l L := by
  funext i j
  show _ = within l L i j + joins l L i j
  unfold within joins
  by_cases h : j < i
  · have h' : j.val / 2 ^ l ≤ i.val / 2 ^ l := Nat.div_le_div_right (le_of_lt h)
    rw [half_pow, half_pow]
    split_ifs <;> first | (exfalso; omega) | ring1
  · simp [hL i j h]

include hL in
theorem doubled_spec (l : ℕ) : within l L * doubled L l = 1 ∧
    ∀ i j : Fin 256, i.val / 2 ^ l ≠ j.val / 2 ^ l → doubled L l i j = 0 := by
  induction l with
  | zero =>
    refine ⟨?_, fun i j h => ?_⟩
    · have : within 0 L = 1 := by
        funext i j
        unfold within
        by_cases h : i = j
        · subst h; simp [hL i i (lt_irrefl i)]
        · simp [h, Fin.val_inj]
      rw [this]; exact one_mul _
    · have : i ≠ j := fun e => h (by rw [e])
      exact Matrix.one_apply_ne this
  | succ l ih =>
    obtain ⟨h1, h0⟩ := ih
    have hz : joins l L * (doubled L l * joins l L) = 0 := by
      funext i j
      show (joins l L * (doubled L l * joins l L)) i j = 0
      rw [Matrix.mul_apply]
      refine Finset.sum_eq_zero fun a _ => ?_
      rw [Matrix.mul_apply]
      by_cases ha : joins l L i a = 0
      · rw [ha, zero_mul]
      · rw [mul_eq_zero]; right
        refine Finset.sum_eq_zero fun b _ => ?_
        rw [mul_eq_zero]
        by_contra hn
        rw [not_or] at hn
        have hab : a.val / 2 ^ l = b.val / 2 ^ l := by
          by_contra hne; exact hn.1 (h0 a b hne)
        unfold joins at ha hn
        split_ifs at ha hn with h2 h3
        · omega
        · exact hn.2 rfl
        · exact ha rfl
        · exact ha rfl
    refine ⟨?_, fun i j h => ?_⟩
    · rw [within_succ L hL, doubled, add_mul, mul_sub, mul_sub, ← mul_assoc (within l L), h1, one_mul]
      have : joins l L * (doubled L l * (joins l L * doubled L l)) = 0 := by
        rw [← mul_assoc (doubled L l), ← mul_assoc (joins l L), hz, zero_mul]
      rw [this]; abel
    · rw [half_pow, half_pow] at h
      have hij : i.val / 2 ^ l ≠ j.val / 2 ^ l := fun e => h (by rw [e])
      show doubled L l i j - (doubled L l * (joins l L * doubled L l)) i j = 0
      rw [h0 i j hij, zero_sub, neg_eq_zero, Matrix.mul_apply]
      refine Finset.sum_eq_zero fun a _ => ?_
      rw [Matrix.mul_apply, mul_eq_zero]
      by_contra hn
      rw [not_or] at hn
      have ha : i.val / 2 ^ l = a.val / 2 ^ l := by by_contra hne; exact hn.1 (h0 i a hne)
      apply hn.2
      refine Finset.sum_eq_zero fun b _ => ?_
      rw [mul_eq_zero]
      by_contra hm
      rw [not_or] at hm
      have hb : b.val / 2 ^ l = j.val / 2 ^ l := by by_contra hne; exact hm.2 (h0 b j hne)
      have hm1 := hm.1
      unfold joins at hm1
      split_ifs at hm1 with h2
      · omega
      · exact hm1 rfl

include hL in
/-- Eight doublings give the inverse of `1 + L`. -/
theorem doubled_inverse : (1 + L) * doubled L 8 = 1 := by
  have h : within 8 L = 1 + L := by
    funext i j
    have hi : i.val / 2 ^ 8 = 0 := by have := i.isLt; omega
    have hj : j.val / 2 ^ 8 = 0 := by have := j.isLt; omega
    show within 8 L i j = (1 : Matrix (Fin 256) (Fin 256) ℝ) i j + L i j
    unfold within
    rw [hi, hj, if_pos rfl]
  rw [← h]; exact (doubled_spec L hL 8).1

include hL in
/-- On the rows of an even block a doubling changes nothing. -/
theorem doubled_even (l : ℕ) (i j : Fin 256) (h : i.val / 2 ^ l % 2 = 0) :
    (doubled L l * (joins l L * doubled L l)) i j = 0 := by
  rw [Matrix.mul_apply]
  refine Finset.sum_eq_zero fun a _ => ?_
  rw [Matrix.mul_apply, mul_eq_zero]
  by_cases ha : i.val / 2 ^ l = a.val / 2 ^ l
  · right
    refine Finset.sum_eq_zero fun b _ => ?_
    unfold joins
    split_ifs with h2
    · omega
    · exact zero_mul _
  · exact Or.inl ((doubled_spec L hL l).2 i a ha)

end Cert.Proof.Gdn

end
-- ==== Proof.GdnDelta.lean ====
module

public import Mathlib.LinearAlgebra.Matrix.NonsingularInverse
public import Mathlib.Analysis.SpecialFunctions.Exp
public import Mathlib.Tactic.Linarith
public import Mathlib.Tactic.Ring
public import Mathlib.Tactic.Abel

@[expose] public section

noncomputable section

/-! The gated delta rule over the reals: token by token, and 256 tokens at a time. -/

namespace Cert.Proof.Gdn

open Finset

variable {n m : ℕ}

/-- One token: the state decays, and the key is given the corrected value. -/
def token (k : Fin n → ℝ) (v : Fin m → ℝ) (g b : ℝ) (S : Fin n → Fin m → ℝ) : Fin n → Fin m → ℝ :=
  fun d e => S d e * Real.exp g + k d * (b * (v e - ∑ c, k c * (S c e * Real.exp g)))

variable (k : ℕ → Fin n → ℝ) (v : ℕ → Fin m → ℝ) (g b : ℕ → ℝ)

/-- The state before token `t`. -/
def state : ℕ → Fin n → Fin m → ℝ
  | 0 => fun _ _ => 0
  | t + 1 => token (k t) (v t) (g t) (b t) (state t)

/-- The decay of the first `t` tokens of a group, as a logarithm. -/
def logDecay (a : ℕ → ℝ) (t : ℕ) : ℝ := ∑ j ∈ range t, a j

/-- The corrected values of a group solve a unit lower triangular system. -/
def Solves (s : ℕ) (vn : Fin 256 → Fin m → ℝ) : Prop := ∀ (i : Fin 256) (e : Fin m),
  vn i e + (∑ j : Fin 256, (if j < i then b (s + i) * (∑ c, k (s + i) c * k (s + j) c) *
      Real.exp (logDecay (fun t => g (s + t)) (i + 1) - logDecay (fun t => g (s + t)) (j + 1)) else 0) * vn j e) =
    b (s + i) * v (s + i) e -
      ∑ c, b (s + i) * (k (s + i) c * Real.exp (logDecay (fun t => g (s + t)) (i + 1))) * state k v g b s c e

variable {k v g b}

/-- The state within a group. -/
theorem state_group {s : ℕ} {vn : Fin 256 → Fin m → ℝ} (h : Solves k v g b s vn) (t : ℕ) (ht : t ≤ 256) (d : Fin n) (e : Fin m) :
    state k v g b (s + t) d e = state k v g b s d e * Real.exp (logDecay (fun t => g (s + t)) t) +
      ∑ j : Fin 256, if j.val < t then Real.exp (logDecay (fun t => g (s + t)) t - logDecay (fun t => g (s + t)) (j + 1)) *
        k (s + j) d * vn j e else 0 := by
  induction t generalizing d with
  | zero => simp [logDecay]
  | succ t ih =>
    have ht' : t < 256 := ht
    have hG : logDecay (fun t => g (s + t)) (t + 1) = logDecay (fun t => g (s + t)) t + g (s + t) := by
      unfold logDecay; rw [sum_range_succ]
    set G := logDecay (fun t => g (s + t)) with hGdef
    have hS : ∀ d, state k v g b (s + t) d e * Real.exp (g (s + t)) = state k v g b s d e * Real.exp (G (t + 1)) +
        ∑ j : Fin 256, if j.val < t then Real.exp (G (t + 1) - G (j + 1)) * k (s + j) d * vn j e else 0 := by
      intro d
      rw [ih (le_of_lt ht') d, add_mul, hG, mul_assoc, ← Real.exp_add, sum_mul]
      congr 1
      refine sum_congr rfl fun j _ => ?_
      split_ifs
      · rw [show G t + g (s + t) - G (j + 1) = (G t - G (j + 1)) + g (s + t) by ring, Real.exp_add]; ring
      · rw [zero_mul]
    have hv : b (s + t) * (v (s + t) e - ∑ c, k (s + t) c * (state k v g b (s + t) c e * Real.exp (g (s + t)))) =
        vn ⟨t, ht'⟩ e := by
      have h1 := h ⟨t, ht'⟩ e
      simp only at h1
      have h2 : ∑ c, k (s + t) c * (state k v g b (s + t) c e * Real.exp (g (s + t))) =
          (∑ c, k (s + t) c * Real.exp (G (t + 1)) * state k v g b s c e) +
          ∑ j : Fin 256, if j.val < t then Real.exp (G (t + 1) - G (j + 1)) * (∑ c, k (s + t) c * k (s + j) c) * vn j e else 0 := by
        simp_rw [hS, mul_add, sum_add_distrib, mul_sum]
        congr 1
        · exact sum_congr rfl fun c _ => by ring
        · rw [sum_comm]
          refine sum_congr rfl fun j _ => ?_
          split_ifs
          · rw [sum_mul]; exact sum_congr rfl fun c _ => by ring
          · simp
      rw [h2, mul_sub, mul_add]
      have h3 : b (s + t) * (∑ c, k (s + t) c * Real.exp (G (t + 1)) * state k v g b s c e) =
          ∑ c, b (s + t) * (k (s + t) c * Real.exp (G (t + 1))) * state k v g b s c e := by
        rw [mul_sum]; exact sum_congr rfl fun c _ => by ring
      have h4 : b (s + t) * (∑ j : Fin 256, if j.val < t then Real.exp (G (t + 1) - G (j + 1)) *
          (∑ c, k (s + t) c * k (s + j) c) * vn j e else 0) =
          ∑ j : Fin 256, (if j < ⟨t, ht'⟩ then b (s + t) * (∑ c, k (s + t) c * k (s + j) c) *
            Real.exp (G (t + 1) - G (j + 1)) else 0) * vn j e := by
        rw [mul_sum]
        refine sum_congr rfl fun j _ => ?_
        by_cases hj : j.val < t
        · rw [if_pos hj, if_pos (show j < ⟨t, ht'⟩ from hj)]; ring
        · rw [if_neg hj, if_neg (show ¬ j < ⟨t, ht'⟩ from hj)]; ring
      rw [h3, h4]
      linarith
    rw [show s + (t + 1) = s + t + 1 from rfl, state, token, hS d, hv, add_assoc]
    congr 1
    have hsplit : ∀ j : Fin 256, (if j.val < t + 1 then Real.exp (G (t + 1) - G (j + 1)) * k (s + j) d * vn j e else 0) =
        (if j.val < t then Real.exp (G (t + 1) - G (j + 1)) * k (s + j) d * vn j e else 0) +
        (if j = ⟨t, ht'⟩ then k (s + t) d * vn j e else 0) := by
      intro j
      by_cases hj : j.val < t
      · rw [if_pos hj, if_pos (by omega), if_neg (fun e => by subst e; simp at hj), add_zero]
      · by_cases hj2 : j = ⟨t, ht'⟩
        · subst hj2; simp
        · rw [if_neg hj, if_neg hj2, if_neg (fun h3 => hj2 (Fin.ext (by simp; omega))), add_zero]
    simp_rw [hsplit, sum_add_distrib]
    congr 1
    rw [sum_ite_eq' univ (⟨t, ht'⟩ : Fin 256)]
    simp

/-- What a query reads after token `i` of a group. -/
theorem read_group {s : ℕ} {vn : Fin 256 → Fin m → ℝ} (h : Solves k v g b s vn) (q : Fin n → ℝ) (i : Fin 256) (e : Fin m) :
    ∑ d, q d * state k v g b (s + i + 1) d e =
      (∑ d, q d * Real.exp (logDecay (fun t => g (s + t)) (i + 1)) * state k v g b s d e) +
      ∑ j : Fin 256, (if j ≤ i then (∑ d, q d * k (s + j) d) *
        Real.exp (logDecay (fun t => g (s + t)) (i + 1) - logDecay (fun t => g (s + t)) (j + 1)) else 0) * vn j e := by
  rw [add_assoc]
  simp_rw [state_group h (i + 1) i.isLt, mul_add, sum_add_distrib, mul_sum]
  congr 1
  · exact sum_congr rfl fun d _ => by ring
  · rw [sum_comm]
    refine sum_congr rfl fun j _ => ?_
    by_cases hj : j ≤ i
    · have hj' : j.val < i.val + 1 := by have : j.val ≤ i.val := hj; omega
      simp_rw [if_pos hj, if_pos hj', sum_mul]
      exact sum_congr rfl fun d _ => by ring
    · have hj' : ¬ j.val < i.val + 1 := by have : ¬ j.val ≤ i.val := hj; omega
      simp_rw [if_neg hj, if_neg hj']; simp

/-- The state after a group. -/
theorem state_next {s : ℕ} {vn : Fin 256 → Fin m → ℝ} (h : Solves k v g b s vn) (d : Fin n) (e : Fin m) :
    state k v g b (s + 256) d e = state k v g b s d e * Real.exp (logDecay (fun t => g (s + t)) 256) +
      ∑ j : Fin 256, k (s + j) d * Real.exp (logDecay (fun t => g (s + t)) 256 - logDecay (fun t => g (s + t)) (j + 1)) * vn j e := by
  rw [state_group h 256 le_rfl]
  congr 1
  refine sum_congr rfl fun j _ => ?_
  rw [if_pos j.isLt]; ring

end Cert.Proof.Gdn

end
-- ==== Proof.GdnIdeal.lean ====
module

public import proofs.«01_k».proof.Proof.GdnSpec
public import proofs.«01_k».proof.Proof.GdnInverse
public import proofs.«01_k».proof.Proof.GdnDelta
public import Idealize.ShloMosaic.Lib.Pipeline.ValueKit

@[expose] public section

set_option maxRecDepth 16384

noncomputable section

/-! The trip's functions over the reals: on arrays whose elements are real numbers, the doubling computes the inverse of a
unit lower triangular matrix. -/

namespace Cert.Proof.Gdn

open Cert.KernelIdeal Cert.KernelIdeal.Gen Idealize.ShloMosaic Idealize.ShloMosaic.TcCoe

/-- A real matrix as an array of extended reals. -/
def up {m n : ℕ} (f : Matrix (Fin m) (Fin n) ℝ) : (Sh m n).Idx → EReal := fun i => ((f (i 0) (i 1) : ℝ) : EReal)

theorem up_ix2 {m n : ℕ} (f : Matrix (Fin m) (Fin n) ℝ) (i : Fin m) (j : Fin n) : up f (ix2 i j) = ((f i j : ℝ) : EReal) := rfl

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem ext2 {m n : ℕ} {x y : (Sh m n).Idx → EReal} (h : ∀ i j, x (ix2 i j) = y (ix2 i j)) : x = y := by
  funext i
  rw [eq_ix2 i]
  exact h _ _

theorem half_eq {s : Shape} (x : FVec Ideal s .f32) : half x = x := rfl

theorem mm_apply (a b : FVec Ideal S256x256 .bf16) (i j : Fin 256) :
    mm a b (ix2 i j) = ∑ k : Fin 256, a (ix2 i k) * b (ix2 k j) := by
  unfold mm
  pointwise

theorem mmHalf_apply (a : FVec Ideal S128x256 .bf16) (b : FVec Ideal S256x256 .bf16) (i : Fin 128) (j : Fin 256) :
    mmHalf a b (ix2 i j) = ∑ k : Fin 256, a (ix2 i k) * b (ix2 k j) := by
  unfold mmHalf
  pointwise

theorem mm_up (A B : Matrix (Fin 256) (Fin 256) ℝ) : mm (F := Ideal) (up A) (up B) = up (A * B) := by
  refine ext2 fun i j => ?_
  rw [mm_apply, up_ix2, Matrix.mul_apply, ← coe_sum]
  simp only [up_ix2, EReal.coe_mul]

theorem mmHalf_up (A : Matrix (Fin 128) (Fin 256) ℝ) (B : Matrix (Fin 256) (Fin 256) ℝ) :
    mmHalf (F := Ideal) (up A) (up B) = up (A * B) := by
  refine ext2 fun i j => ?_
  rw [mmHalf_apply, up_ix2, Matrix.mul_apply, ← coe_sum]
  simp only [up_ix2, EReal.coe_mul]

theorem subf_up {m n : ℕ} (A B : Matrix (Fin m) (Fin n) ℝ) : subf (F := Ideal) (φ := .f32) (up A) (up B) = up (A - B) := by
  refine ext2 fun i j => ?_
  pointwise
  simp only [up_ix2, Matrix.sub_apply, EReal.coe_sub]

theorem addf_up {m n : ℕ} (A B : Matrix (Fin m) (Fin n) ℝ) : addf (F := Ideal) (φ := .f32) (up A) (up B) = up (A + B) := by
  refine ext2 fun i j => ?_
  pointwise
  simp only [up_ix2, Matrix.add_apply, EReal.coe_add]

theorem zeros_up {m n : ℕ} : zeros (F := Ideal) (Sh m n) = up 0 := by
  refine ext2 fun i j => ?_
  unfold zeros zer
  pointwise
  simp [up_ix2]

/-- A selection by a mask that decides `P`. -/
theorem select_up {m n : ℕ} (P : Fin m → Fin n → Prop) [∀ i j, Decidable (P i j)] (c : IVec (Sh m n) 1)
    (hc : ∀ i j, c (ix2 i j) = if P i j then 1#1 else 0#1) (A B : Matrix (Fin m) (Fin n) ℝ) :
    select (α := EReal) c (up A) (up B) = up (fun i j => if P i j then A i j else B i j) := by
  refine ext2 fun i j => ?_
  pointwise
  rw [hc]
  show _ = ((ite (P i j) (A i j) (B i j) : ℝ) : EReal)
  by_cases h : P i j
  · rw [if_pos h, if_pos h]; rfl
  · rw [if_neg h, if_neg h]; rfl

theorem pile_apply {α : Type} {w N : ℕ} (n m : ℕ) (hm : 2 ≤ m) (hN : m * n = N) (f : Fin m → (Sh n w).Idx → α)
    (i : Fin N) (j : Fin w) : pile n m hm hN f (ix2 i j)
      = f ⟨i.val / n, Nat.div_lt_of_lt_mul (by rw [Nat.mul_comm, hN]; exact i.isLt)⟩
        (ix2 ⟨i.val % n, Nat.mod_lt _ (Nat.pos_of_ne_zero (by rintro rfl; have := i.isLt; omega))⟩ j) := by
  unfold pile
  refine concatenate_ofFn_apply (t := Sh N w) (s₁ := Sh n w) 0 f _ rfl n rfl (ix2 i j) _ rfl _ rfl fun b hb => ?_
  fin_cases b
  · exact absurd rfl hb
  · rfl

theorem rowsAt_apply {α : Type} {w N : ℕ} (n o : ℕ) (h : o + n ≤ N) (x : (Sh N w).Idx → α) (i : Fin n) (j : Fin w) :
    rowsAt n o h x (ix2 i j) = x (ix2 ⟨o + i.val, by omega⟩ j) := by
  unfold rowsAt extractStridedSlice
  congr 1
  funext a
  fin_cases a <;> simp <;> rfl

end Cert.Proof.Gdn

end
-- ==== Proof.GdnDoubling.lean ====
module

public import proofs.«01_k».proof.Proof.GdnIdeal

@[expose] public section

set_option maxRecDepth 16384

noncomputable section

/-! On a strictly lower triangular matrix of real numbers the kernel's doublings are those of `doubled`, so that its inverse is
the inverse of `1 + L`. -/

namespace Cert.Proof.Gdn

open Cert.KernelIdeal Cert.KernelIdeal.Gen Idealize.ShloMosaic Idealize.ShloMosaic.TcCoe

theorem word_toNat (i : Fin 256) : (BitVec.ofNat 32 i.val).toNat = i.val := by
  rw [BitVec.toNat_ofNat]; exact Nat.mod_eq_of_lt (by have := i.isLt; omega)

theorem word_toInt (i : Fin 256) : (BitVec.ofNat 32 i.val).toInt = i.val := by
  rw [BitVec.toInt_eq_toNat_of_lt (by rw [word_toNat]; have := i.isLt; omega), word_toNat]

theorem ofBool_ite (b : Bool) (P : Prop) [Decidable P] (h : b = true ↔ P) : BitVec.ofBool b = if P then 1#1 else 0#1 := by
  by_cases hp : P
  · rw [if_pos hp, h.mpr hp]; rfl
  · rw [if_neg hp, Bool.eq_false_iff.mpr fun hb => hp (h.mp hb)]; rfl

theorem lower_apply (i j : Fin 256) : lower (ix2 i j) = if j ≤ i then 1#1 else 0#1 := by
  unfold lower iota0 iota1
  pointwise
  refine ofBool_ite _ _ ?_
  rw [BitVec.sle_iff_toInt_le, word_toInt, word_toInt, Fin.le_def]
  omega

theorem strict_apply (i j : Fin 256) : strict (ix2 i j) = if j < i then 1#1 else 0#1 := by
  unfold strict iota0 iota1
  pointwise
  refine ofBool_ite _ _ ?_
  rw [BitVec.slt_iff_toInt_lt, word_toInt, word_toInt, Fin.lt_def]
  omega

theorem diag_apply (i j : Fin 256) : diag (ix2 i j) = if i = j then 1#1 else 0#1 := by
  unfold diag iota0 iota1
  pointwise
  refine ofBool_ite _ _ ?_
  rw [beq_iff_eq, ← BitVec.toNat_inj, word_toNat, word_toNat, Fin.ext_iff]

theorem eye_up : eye (F := Ideal) = up 1 := by
  refine ext2 fun i j => ?_
  rw [up_ix2, Matrix.one_apply]
  show (((BitVec.setWidth 32 (diag (ix2 i j))).toInt : ℝ) : EReal) = _
  rw [diag_apply]
  by_cases h : i = j
  · rw [if_pos h, if_pos h]; norm_num
  · rw [if_neg h, if_neg h]; norm_num

/-- The exclusive or, shifted, of two indices. -/
theorem level_word (l : ℕ) (hl : l < 8) (i j : Fin 256) :
    IntOp.cmpi .eq (IntOp.shrsi .vector (xorIx (ix2 i j)) (BitVec.ofNat 32 l)) 1#32
      = if (i.val / 2 ^ l) ^^^ (j.val / 2 ^ l) = 1 then 1#1 else 0#1 := by
  have hx : (i.val ^^^ j.val) < 2 ^ 8 := Nat.xor_lt_two_pow (by have := i.isLt; omega) (by have := j.isLt; omega)
  have hw : xorIx (ix2 i j) = BitVec.ofNat 32 (i.val ^^^ j.val) := by
    unfold xorIx iota0 iota1
    pointwise
    show BitVec.ofNat 32 i.val ^^^ BitVec.ofNat 32 j.val = _
    rw [← BitVec.toNat_inj, BitVec.toNat_xor, word_toNat, word_toNat, BitVec.toNat_ofNat, Nat.mod_eq_of_lt (by omega)]
  have hn : (BitVec.ofNat 32 l).toNat = l := by rw [BitVec.toNat_ofNat]; exact Nat.mod_eq_of_lt (by omega)
  have hm : (BitVec.ofNat 32 (i.val ^^^ j.val)).toNat = i.val ^^^ j.val := by
    rw [BitVec.toNat_ofNat]; exact Nat.mod_eq_of_lt (by omega)
  have hs : IntOp.shrsi .vector (xorIx (ix2 i j)) (BitVec.ofNat 32 l) = BitVec.ofNat 32 (i.val ^^^ j.val) >>> l := by
    rw [hw]
    unfold IntOp.shrsi
    rw [if_pos (by rw [hn]; omega), BitVec.sshiftRight', hn, BitVec.sshiftRight_eq_of_msb_false]
    rw [BitVec.msb_eq_false_iff_two_mul_lt, hm]
    omega
  rw [hs]
  refine ofBool_ite _ _ ?_
  rw [beq_iff_eq, ← BitVec.toNat_inj, BitVec.toNat_ushiftRight, hm, Nat.shiftRight_xor_distrib, Nat.shiftRight_eq_div_pow,
    Nat.shiftRight_eq_div_pow]
  rfl

/-- Indices below the diagonal that differ in one bit, and above it in none, belong to neighbouring blocks. -/
theorem xor_one {a b : ℕ} (h : b ≤ a) : a ^^^ b = 1 ↔ a = b + 1 ∧ b % 2 = 0 := by
  have key : a ^^^ b = 1 ↔ a = b ^^^ 1 := by
    constructor
    · intro h
      rw [← h, Nat.xor_comm a b, ← Nat.xor_assoc, Nat.xor_self, Nat.zero_xor]
    · rintro rfl
      rw [Nat.xor_comm b 1, Nat.xor_assoc, Nat.xor_self, Nat.xor_zero]
  rw [key]
  have e1 : (b ^^^ 1) / 2 = b / 2 := by
    rw [← Nat.shiftRight_one, Nat.shiftRight_xor_distrib, Nat.shiftRight_one, Nat.shiftRight_one]
    exact Nat.xor_zero _
  have e2 : (b ^^^ 1) % 2 = (b + 1) % 2 := by
    have := Nat.xor_mod_two_pow (a := b) (b := 1) (n := 1)
    rw [Nat.pow_one] at this
    rw [this]
    rcases Nat.mod_two_eq_zero_or_one b with hb | hb
    · rw [hb, Nat.add_mod, hb]; rfl
    · rw [hb, Nat.add_mod, hb]; rfl
  omega

variable (L : Matrix (Fin 256) (Fin 256) ℝ) (hL : ∀ i j, ¬ j < i → L i j = 0)

include hL in
theorem joins_eq (l : ℕ) (i j : Fin 256) :
    (if (i.val / 2 ^ l) ^^^ (j.val / 2 ^ l) = 1 then L i j else 0) = joins l L i j := by
  unfold joins
  by_cases h : j < i
  · have := xor_one (a := i.val / 2 ^ l) (b := j.val / 2 ^ l) (Nat.div_le_div_right (Nat.le_of_lt h))
    simp only [this]
  · simp [hL i j h]

include hL in
theorem level_up (l : ℕ) (hl : l < 8) :
    select (level xorIx (BitVec.ofNat 32 l)) (up L) (zeros (F := Ideal) S256x256) = up (joins l L) := by
  rw [zeros_up, select_up (fun i j => (i.val / 2 ^ l) ^^^ (j.val / 2 ^ l) = 1) _ (fun i j => level_word l hl i j)]
  congr 1
  funext i j
  exact joins_eq L hL l i j

include hL in
theorem inv0_up : inv0 (F := Ideal) (up L) = up (doubled L 1) := by
  have h0 : select (cmpi .eq xorIx (broadcast S256x256 1#32)) (up L) (zeros (F := Ideal) S256x256) = up (joins 0 L) := by
    rw [← level_up L hL 0 (by omega)]
    congr 1
    refine funext fun x => ?_
    rw [eq_ix2 x]
    show IntOp.cmpi .eq _ 1#32 = IntOp.cmpi .eq (IntOp.shrsi .vector _ (BitVec.ofNat 32 0)) 1#32
    congr 1
    simp [IntOp.shrsi, BitVec.sshiftRight']
  unfold inv0
  rw [h0, eye_up, subf_up]
  simp [doubled]

include hL in
theorem invLow_up (l : ℕ) (hl : l < 8) :
    invLow (F := Ideal) (BitVec.ofNat 32 l) (up L) (up (doubled L l)) = up (doubled L (l + 1)) := by
  unfold invLow
  simp only [half_eq]
  rw [level_up L hL l hl, mm_up, mm_up, subf_up]
  rfl

/-- The row of the odd block. -/
theorem oddRow {n m : ℕ} (hN : m * n = 128) (r : ℕ) (h : r < 128) : (2 * (r / n) + 1) * n + r % n < 256 := by
  have hn : 0 < n := Nat.pos_of_ne_zero (by rintro rfl; omega)
  have h1 : r / n < m := Nat.div_lt_of_lt_mul (by rw [Nat.mul_comm, hN]; exact h)
  have h2 := Nat.mod_lt r hn
  calc (2 * (r / n) + 1) * n + r % n < (2 * (r / n) + 1) * n + n := by omega
    _ = 2 * ((r / n + 1) * n) := by ring
    _ ≤ 2 * (m * n) := by gcongr; omega
    _ = 256 := by omega

/-- The odd blocks' rows of a real matrix. -/
def odds {n m : ℕ} (hN : m * n = 128) {α : Type} (A : Matrix (Fin 256) (Fin 256) α) : Matrix (Fin 128) (Fin 256) α :=
  fun r j => A ⟨(2 * (r.val / n) + 1) * n + r.val % n, oddRow hN r r.isLt⟩ j

theorem oddBlocks_apply {α : Type} (n m : ℕ) (hm : 2 ≤ m) (hN : m * n = 128) (x : (Sh 256 256).Idx → α) (r : Fin 128) (j : Fin 256) :
    oddBlocks n m hm hN x (ix2 r j) = x (ix2 ⟨(2 * (r.val / n) + 1) * n + r.val % n, oddRow hN r r.isLt⟩ j) := by
  unfold oddBlocks
  rw [pile_apply, rowsAt_apply]

theorem oddBlocks_up (n m : ℕ) (hm : 2 ≤ m) (hN : m * n = 128) (A : Matrix (Fin 256) (Fin 256) ℝ) :
    oddBlocks n m hm hN (up A) = up (odds hN A) :=
  ext2 fun _ _ => oddBlocks_apply n m hm hN _ _ _

/-- Where row `i` of an odd block stands among the odd blocks' rows. -/
theorem backRow {n m : ℕ} (hN : m * n = 128) (i : Fin 256) (h : i.val / n % 2 = 1) : i.val / n / 2 * n + i.val % n < 128 := by
  have hn : 0 < n := Nat.pos_of_ne_zero (by rintro rfl; omega)
  have h1 : i.val / n < 2 * m := Nat.div_lt_of_lt_mul (by have := i.isLt; nlinarith)
  have h2 := Nat.mod_lt i.val hn
  have h3 : i.val / n / 2 + 1 ≤ m := by omega
  calc i.val / n / 2 * n + i.val % n < i.val / n / 2 * n + n := by omega
    _ = (i.val / n / 2 + 1) * n := by ring
    _ ≤ m * n := Nat.mul_le_mul_right n h3
    _ = 128 := hN

theorem back_odd {n m : ℕ} (hN : m * n = 128) {α : Type} (A : Matrix (Fin 256) (Fin 256) α) (i j : Fin 256) (h : i.val / n % 2 = 1) :
    odds hN A ⟨i.val / n / 2 * n + i.val % n, backRow hN i h⟩ j = A i j := by
  have hn : 0 < n := Nat.pos_of_ne_zero (by rintro rfl; omega)
  unfold odds
  congr 1
  ext
  have h2 := Nat.mod_lt i.val hn
  have e1 : (i.val / n / 2 * n + i.val % n) / n = i.val / n / 2 := by
    rw [Nat.add_comm, Nat.add_mul_div_right _ _ hn, Nat.div_eq_of_lt h2, Nat.zero_add]
  have e2 : (i.val / n / 2 * n + i.val % n) % n = i.val % n := by
    rw [Nat.add_comm, Nat.add_mul_mod_self_right, Nat.mod_mod]
  show (2 * ((i.val / n / 2 * n + i.val % n) / n) + 1) * n + (i.val / n / 2 * n + i.val % n) % n = i.val
  rw [e1, e2, show 2 * (i.val / n / 2) + 1 = i.val / n by omega]
  rw [Nat.mul_comm]; exact Nat.div_add_mod _ _

theorem odds_mul {n m : ℕ} (hN : m * n = 128) (A B : Matrix (Fin 256) (Fin 256) ℝ) :
    odds hN A * B = odds hN (A * B) := rfl

theorem zeroEven_up (n m : ℕ) (hm : 2 ≤ m) (hN : m * n = 128) (A : Matrix (Fin 256) (Fin 256) ℝ)
    (hA : ∀ i j : Fin 256, i.val / n % 2 = 0 → A i j = 0) :
    zeroEven (F := Ideal) n m hm hN (up (odds hN A)) = up A := by
  refine ext2 fun i j => ?_
  unfold zeroEven
  rw [pile_apply]
  by_cases h : i.val / n % 2 = 0
  · rw [if_pos h, zeros_up, up_ix2, up_ix2, hA i j h]; rfl
  · rw [if_neg h, rowsAt_apply, up_ix2, up_ix2, back_odd hN A i j (by omega)]

theorem subOdd_up (n m : ℕ) (hm : 2 ≤ m) (hN : m * n = 128) (A B : Matrix (Fin 256) (Fin 256) ℝ)
    (hB : ∀ i j : Fin 256, i.val / n % 2 = 0 → B i j = 0) :
    subOdd (F := Ideal) n m hm hN (up A) (up (odds hN B)) = up (A - B) := by
  have hn : 0 < n := Nat.pos_of_ne_zero (by rintro rfl; omega)
  have row (i : Fin 256) : i.val / n * n + i.val % n = i.val := by rw [Nat.mul_comm]; exact Nat.div_add_mod _ _
  refine ext2 fun i j => ?_
  unfold subOdd
  rw [pile_apply, up_ix2, Matrix.sub_apply]
  by_cases h : i.val / n % 2 = 0
  · rw [if_pos h, rowsAt_apply, up_ix2, hB i j h, sub_zero]
    rw [show (⟨i.val / n * n + i.val % n, (row i).trans_lt i.isLt⟩ : Fin 256) = i from Fin.ext (row i)]
  · rw [if_neg h]
    pointwise
    rw [rowsAt_apply, rowsAt_apply, up_ix2, up_ix2, back_odd hN B i j (by omega), EReal.coe_sub]
    rw [show (⟨i.val / n * n + i.val % n, (row i).trans_lt i.isLt⟩ : Fin 256) = i from Fin.ext (row i)]

include hL in
theorem invHigh_up (l m : ℕ) (hl : l < 8) (hm : 2 ≤ m) (hN : m * 2 ^ l = 128) :
    invHigh (F := Ideal) (2 ^ l) m hm hN (BitVec.ofNat 32 l) (up L) (up (doubled L l)) = up (doubled L (l + 1)) := by
  have hs : select (level (oddBlocks (2 ^ l) m hm hN xorIx) (BitVec.ofNat 32 l)) (up (odds hN L)) (zeros (F := Ideal) (Sh 128 256))
      = up (odds hN (joins l L)) := by
    rw [zeros_up, select_up (fun r j => ((2 * (r.val / 2 ^ l) + 1) * 2 ^ l + r.val % 2 ^ l) / 2 ^ l ^^^ (j.val / 2 ^ l) = 1)
      (level (oddBlocks (2 ^ l) m hm hN xorIx) (BitVec.ofNat 32 l)) (fun r j => by
        show IntOp.cmpi .eq (IntOp.shrsi .vector (oddBlocks (2 ^ l) m hm hN xorIx (ix2 r j)) (BitVec.ofNat 32 l)) 1#32 = _
        rw [oddBlocks_apply, level_word l hl])]
    congr 1
    funext r j
    exact joins_eq L hL l ⟨(2 * (r.val / 2 ^ l) + 1) * 2 ^ l + r.val % 2 ^ l, oddRow hN r r.isLt⟩ j
  unfold invHigh
  simp only [half_eq]
  rw [oddBlocks_up, oddBlocks_up, hs, mmHalf_up, odds_mul, zeroEven_up, mmHalf_up, odds_mul,
    subOdd_up]
  · rfl
  · exact fun i j h => doubled_even L hL l i j h
  · intro i j h
    rw [Matrix.mul_apply]
    refine Finset.sum_eq_zero fun a _ => ?_
    rw [joins, if_neg (by omega), zero_mul]

/-- The rows 128 to 255 of a real matrix. -/
def under {α : Type} (A : Matrix (Fin 256) (Fin 256) α) : Matrix (Fin 128) (Fin 256) α := fun r j => A ⟨128 + r.val, by omega⟩ j

theorem under_mul (A B : Matrix (Fin 256) (Fin 256) ℝ) : under A * B = under (A * B) := rfl

theorem rowsAt_under (A : Matrix (Fin 256) (Fin 256) ℝ) : rowsAt 128 128 (by omega) (up A) = up (under A) :=
  ext2 fun _ _ => rowsAt_apply ..

theorem pile_under (x : Matrix (Fin 256) (Fin 256) ℝ) (A : Matrix (Fin 256) (Fin 256) ℝ) (y : (Sh 128 256).Idx → EReal)
    (hy : y = up (fun r j => x ⟨r.val, by omega⟩ j)) (hx : ∀ i j : Fin 256, 128 ≤ i.val → x i j = A i j) :
    pile (N := 256) 128 2 (by omega) (by omega) ![y, up (under A)] = up x := by
  subst hy
  refine ext2 fun i j => ?_
  rw [pile_apply]
  by_cases h : i.val < 128
  · have h0 : (⟨i.val / 128, by omega⟩ : Fin 2) = 0 := Fin.ext (by show i.val / 128 = 0; omega)
    rw [h0]
    show ((x ⟨i.val % 128, _⟩ j : ℝ) : EReal) = _
    rw [show (⟨i.val % 128, by omega⟩ : Fin 256) = i from Fin.ext (by show i.val % 128 = i.val; omega)]
    rfl
  · have h0 : (⟨i.val / 128, by omega⟩ : Fin 2) = 1 := Fin.ext (by show i.val / 128 = 1; omega)
    rw [h0]
    show ((A ⟨128 + i.val % 128, _⟩ j : ℝ) : EReal) = _
    rw [up_ix2, hx i j (by omega), show (⟨128 + i.val % 128, by omega⟩ : Fin 256) = i from
      Fin.ext (by show 128 + i.val % 128 = i.val; omega)]

include hL in
theorem invTop_up : invTop (F := Ideal) (up L) (up (doubled L 7)) = up (doubled L 8) := by
  have hs : select (level (rowsAt 128 128 (by omega) xorIx) 7#32) (up (under L)) (zeros (F := Ideal) (Sh 128 256))
      = up (under (joins 7 L)) := by
    rw [zeros_up, select_up (fun r j => (128 + r.val) / 2 ^ 7 ^^^ (j.val / 2 ^ 7) = 1) (level (rowsAt 128 128 (by omega) xorIx) 7#32)
      (fun r j => by
        show IntOp.cmpi .eq (IntOp.shrsi .vector (rowsAt 128 128 (by omega) xorIx (ix2 r j)) (BitVec.ofNat 32 7)) 1#32 = _
        rw [rowsAt_apply, level_word 7 (by omega)])]
    congr 1
    funext r j
    exact joins_eq L hL 7 ⟨128 + r.val, by omega⟩ j
  have he (i j : Fin 256) (h : i.val < 128) : (doubled L 7 * (joins 7 L * doubled L 7)) i j = 0 :=
    doubled_even L hL 7 i j (by omega)
  unfold invTop
  simp only [half_eq]
  rw [rowsAt_under, rowsAt_under, hs, mmHalf_up, under_mul, pile_under (joins 7 L * doubled L 7) (joins 7 L * doubled L 7), mmHalf_up,
    under_mul, subf_up, show under (doubled L 7) - under (doubled L 7 * (joins 7 L * doubled L 7)) = under (doubled L 8) from rfl,
    pile_under (doubled L 8) (doubled L 8)]
  · refine ext2 fun r j => ?_
    rw [rowsAt_apply, up_ix2]
    show _ = (((doubled L 7 - doubled L 7 * (joins 7 L * doubled L 7)) ⟨r.val, by omega⟩ j : ℝ) : EReal)
    rw [Matrix.sub_apply, he _ _ r.isLt, sub_zero, show (⟨0 + r.val, by omega⟩ : Fin 256) = ⟨r.val, by omega⟩ from
      Fin.ext (Nat.zero_add _)]
  · exact fun _ _ _ => rfl
  · rw [zeros_up]
    congr 1
    funext r j
    show (0 : ℝ) = (joins 7 L * doubled L 7) _ j
    rw [Matrix.mul_apply, Finset.sum_eq_zero]
    intro a _
    rw [joins, if_neg (by have := r.isLt; show ¬ (r.val / 2 ^ 7 = _ ∧ _); omega), zero_mul]
  · exact fun _ _ _ => rfl

include hL in
theorem invLevels_up : invLevels (F := Ideal) (up L) = up (doubled L 8) := by
  unfold invLevels
  rw [inv0_up L hL, invLow_up L hL 1 (by omega), invLow_up L hL 2 (by omega)]
  erw [invHigh_up L hL 3 16 (by omega) (by omega) (by omega), invHigh_up L hL 4 8 (by omega) (by omega) (by omega),
    invHigh_up L hL 5 4 (by omega) (by omega) (by omega), invHigh_up L hL 6 2 (by omega) (by omega) (by omega)]
  exact invTop_up L hL

theorem rest_up (A : Matrix (Fin 256) (Fin 256) ℝ) : rest (F := Ideal) (up A) = up 0 := by
  show subf (F := Ideal) (φ := .f32) (up A) (up A) = up 0
  rw [subf_up, sub_self]

theorem mm3_up (A B : Matrix (Fin 256) (Fin 256) ℝ) : mm3 (F := Ideal) (up A) (up B) = up (A * B) := by
  refine ext2 fun i j => ?_
  unfold mm3
  rw [rest_up, rest_up]
  simp only [half_eq]
  pointwise
  have hz (m n : Fin 256) : up (0 : Matrix (Fin 256) (Fin 256) ℝ) (ix2 m n) = 0 := by simp [up_ix2]
  simp only [hz]
  refine (Fin.sum_univ_add (a := 256) (b := 512) _).trans ?_
  rw [up_ix2, Matrix.mul_apply, ← coe_sum]
  refine (congrArg₂ (· + ·) ?_ ?_).trans (add_zero _)
  · refine Finset.sum_congr rfl fun x _ => ?_
    rw [dif_pos (show (Fin.castAdd 512 x).val < 256 from x.isLt), dif_pos (show (Fin.castAdd 512 x).val < 256 from x.isLt),
      EReal.coe_mul]
    rfl
  · refine Finset.sum_eq_zero fun x _ => ?_
    have hx : ¬ (Fin.natAdd 256 x).val < 256 := Nat.not_lt.mpr (Nat.le_add_right _ _)
    rw [dif_neg hx, dif_neg hx]
    split
    · exact mul_zero _
    · exact zero_mul _

include hL in
theorem inverse_up : inverse (F := Ideal) (up L) = up (doubled L 8) := by
  have h : (1 : Matrix (Fin 256) (Fin 256) ℝ) - doubled L 8 - L * doubled L 8 = 0 := by
    have := doubled_inverse L hL
    rw [Matrix.add_mul, Matrix.one_mul] at this
    rw [← this]; abel
  unfold inverse
  rw [invLevels_up L hL]
  simp only [half_eq]
  rw [mm3_up, eye_up, subf_up, subf_up, h, mm_up, addf_up, Matrix.mul_zero, add_zero]

end Cert.Proof.Gdn

end
-- ==== Proof.GdnReal.lean ====
module

public import proofs.«01_k».proof.Proof.GdnDoubling

@[expose] public section

set_option maxRecDepth 16384

noncomputable section

/-! A group of 256 tokens over the reals: the kernel's group step carries the delta rule's state 256 tokens on, and its output
rows read the states between. -/

namespace Cert.Proof.Gdn

open Cert.KernelIdeal Cert.KernelIdeal.Gen Idealize.ShloMosaic Idealize.ShloMosaic.TcCoe

theorem mask_up (P : Prop) [Decidable P] (a b : ℝ) :
    Scalar.select (if P then 1#1 else 0#1) (a : EReal) (b : EReal) = (((if P then a else b : ℝ)) : EReal) := by
  by_cases h : P
  · rw [if_pos h, if_pos h]; rfl
  · rw [if_neg h, if_neg h]; rfl

theorem zeros_apply {m n : ℕ} (i : Fin m) (j : Fin n) : zeros (F := Ideal) (Sh m n) (ix2 i j) = ((0 : ℝ) : EReal) := by
  rw [zeros_up, up_ix2]; rfl

/-- A column, and a row. -/
def col {n : ℕ} (f : Fin n → ℝ) : Matrix (Fin n) (Fin 1) ℝ := Matrix.of fun i _ => f i
def row {n : ℕ} (f : Fin n → ℝ) : Matrix (Fin 1) (Fin n) ℝ := Matrix.of fun _ i => f i

theorem col_apply {n : ℕ} (f : Fin n → ℝ) (i : Fin n) (j : Fin 1) : col f i j = f i := rfl
theorem row_apply {n : ℕ} (f : Fin n → ℝ) (i : Fin n) (j : Fin 1) : row f j i = f i := rfl

theorem colOf_lower (f : Fin 256 → ℝ) : colOf (F := Ideal) lower (up (row f)) = up (col fun i => ∑ j, if j ≤ i then f j else 0) := by
  refine ext2 fun i j => ?_
  unfold colOf
  pointwise
  rw [up_ix2, col_apply, ← coe_sum]
  refine Finset.sum_congr rfl fun x _ => ?_
  rw [lower_apply, zeros_apply, up_ix2, mask_up]
  rfl

theorem colOf_diag (f : Fin 256 → ℝ) : colOf (F := Ideal) diag (up (row f)) = up (col f) := by
  refine ext2 fun i j => ?_
  unfold colOf
  pointwise
  rw [up_ix2, col_apply, show f i = ∑ x, if i = x then f x else 0 by simp, ← coe_sum]
  refine Finset.sum_congr rfl fun x _ => ?_
  rw [diag_apply, zeros_apply, up_ix2, mask_up]
  rfl

theorem rowOf_up (f : Fin 256 → ℝ) : rowOf (F := Ideal) (up (col f)) = up (row f) := by
  refine ext2 fun i j => ?_
  unfold rowOf
  pointwise
  rw [up_ix2, row_apply, show f j = ∑ x, if x = j then f x else 0 by simp, ← coe_sum]
  refine Finset.sum_congr rfl fun x _ => ?_
  rw [diag_apply, zeros_apply, up_ix2, mask_up]
  rfl

theorem decay_up (f : Fin 256 → ℝ) :
    decay (F := Ideal) (up (col f)) = up (Matrix.of fun i j => if j ≤ i then Real.exp (f i - f j) else 0) := by
  refine ext2 fun i j => ?_
  unfold decay
  pointwise
  rw [rowOf_up, lower_apply, zeros_apply, up_ix2, up_ix2, ← EReal.coe_sub, mask_up, Ideal.exp_coe, mask_up, up_ix2, Matrix.of_apply,
    col_apply, row_apply]
  by_cases h : j ≤ i <;> simp [h]

theorem gram_up (A B : Matrix (Fin 256) (Fin 128) ℝ) : gram (F := Ideal) (up A) (up B) = up (Matrix.of fun i j => ∑ c, A i c * B j c) := by
  refine ext2 fun i j => ?_
  unfold gram
  simp only [half_eq]
  pointwise
  simp only [up_ix2, Matrix.of_apply, col_apply, Ideal.exp_coe, ← EReal.coe_sub, EReal.coe_add, ← coe_sum, EReal.coe_mul]

theorem lmat_up (b : Fin 256 → ℝ) (A D : Matrix (Fin 256) (Fin 256) ℝ) :
    lmat (F := Ideal) (up (col b)) (up A) (up D) = up (Matrix.of fun i j => if j < i then b i * A i j * D i j else 0) := by
  refine ext2 fun i j => ?_
  unfold lmat
  pointwise
  rw [strict_apply, zeros_apply, up_ix2, up_ix2, up_ix2, ← EReal.coe_mul, ← EReal.coe_mul, mask_up]
  rfl

theorem attn_up (A D : Matrix (Fin 256) (Fin 256) ℝ) :
    attn (F := Ideal) (up A) (up D) = up (Matrix.of fun i j => if j ≤ i then A i j * D i j else 0) := by
  refine ext2 fun i j => ?_
  unfold attn
  pointwise
  rw [lower_apply, zeros_apply, up_ix2, up_ix2, ← EReal.coe_mul, mask_up]
  rfl

theorem uw_left (T : Matrix (Fin 256) (Fin 256) ℝ) (b f : Fin 256 → ℝ) (v k : Matrix (Fin 256) (Fin 128) ℝ) :
    left (Gdn.uw (F := Ideal) (up T) (up (col b)) (up (col f)) (up v) (up k)) = up (T * Matrix.of fun j e => b j * v j e) := by
  refine ext2 fun i j => ?_
  unfold left Gdn.uw mm wide
  simp only [half_eq]
  pointwise
  rw [up_ix2, Matrix.mul_apply, ← coe_sum]
  refine Finset.sum_congr rfl fun x _ => ?_
  simp only [up_ix2, EReal.coe_mul]
  rfl

theorem uw_right (T : Matrix (Fin 256) (Fin 256) ℝ) (b f : Fin 256 → ℝ) (v k : Matrix (Fin 256) (Fin 128) ℝ) :
    right (Gdn.uw (F := Ideal) (up T) (up (col b)) (up (col f)) (up v) (up k))
      = up (T * Matrix.of fun j c => b j * (k j c * Real.exp (f j))) := by
  refine ext2 fun i j => ?_
  unfold right Gdn.uw mm wide
  simp only [half_eq]
  pointwise
  rw [up_ix2, Matrix.mul_apply, ← coe_sum]
  refine Finset.sum_congr rfl fun x _ => ?_
  simp only [up_ix2, Ideal.exp_coe, Matrix.of_apply, EReal.coe_mul]
  rfl

theorem mmState_up (A : Matrix (Fin 256) (Fin 128) ℝ) (S : Matrix (Fin 128) (Fin 128) ℝ) :
    mmState (F := Ideal) (up A) (up S) = up (A * S) := by
  refine ext2 fun i j => ?_
  unfold mmState
  pointwise
  rw [up_ix2, Matrix.mul_apply, ← coe_sum]
  simp only [up_ix2, EReal.coe_mul]

theorem vNew_up (U W : Matrix (Fin 256) (Fin 128) ℝ) (S : Matrix (Fin 128) (Fin 128) ℝ) :
    vNew (F := Ideal) (up U) (up W) (up S) = up (U - W * S) := by
  unfold vNew
  simp only [half_eq]
  rw [mmState_up, subf_up]

theorem outp_up (q vn : Matrix (Fin 256) (Fin 128) ℝ) (f : Fin 256 → ℝ) (A : Matrix (Fin 256) (Fin 256) ℝ)
    (S : Matrix (Fin 128) (Fin 128) ℝ) : outp (F := Ideal) (up q) (up (col f)) (up A) (up S) (up vn)
      = up (Matrix.of fun i e => (∑ d, q i d * Real.exp (f i) * S d e) + ∑ j, A i j * vn j e) := by
  refine ext2 fun i j => ?_
  unfold outp mmState wide
  simp only [half_eq]
  pointwise
  simp only [up_ix2, Matrix.of_apply, col_apply, Ideal.exp_coe, ← EReal.coe_sub, EReal.coe_add, ← coe_sum, EReal.coe_mul]

theorem nextState_up (S : Matrix (Fin 128) (Fin 128) ℝ) (f : Fin 256 → ℝ) (k vn : Matrix (Fin 256) (Fin 128) ℝ) :
    nextState (F := Ideal) (up S) (up (col f)) (up k) (up vn)
      = up (Matrix.of fun d e => S d e * Real.exp (f 255) + ∑ j, k j d * Real.exp (f 255 - f j) * vn j e) := by
  refine ext2 fun i j => ?_
  unfold nextState kDec wide lastOf
  simp only [half_eq]
  pointwise
  simp only [up_ix2, Matrix.of_apply, col_apply, Ideal.exp_coe, ← EReal.coe_sub, EReal.coe_add, ← coe_sum, EReal.coe_mul]

section group

variable (q k v : ℕ → Fin 128 → ℝ) (g b : ℕ → ℝ)

/-- The state before token `s`, as a matrix. -/
def stateAt (s : ℕ) : Matrix (Fin 128) (Fin 128) ℝ := Matrix.of (state k v g b s)

/-- The group's arrays hold the tokens from `s`. -/
structure Holds (p : Prob Ideal) (s : ℕ) : Prop where
  q : p.q = up (Matrix.of fun (i : Fin 256) d => q (s + i) d)
  k : p.k = up (Matrix.of fun (i : Fin 256) d => k (s + i) d)
  v : p.v = up (Matrix.of fun (i : Fin 256) d => v (s + i) d)
  g : p.g = up (row fun (i : Fin 256) => g (s + i))
  b : p.b = up (row fun (i : Fin 256) => b (s + i))

/-- The decay, as a logarithm, of the tokens up to `i` of the group. -/
def cum (s : ℕ) (i : Fin 256) : ℝ := logDecay (fun t => g (s + t)) (i + 1)

theorem cum_eq (s : ℕ) (i : Fin 256) : ∑ j : Fin 256, (if j ≤ i then g (s + j) else 0) = cum g s i := by
  unfold cum logDecay
  rw [← Finset.sum_filter]
  refine Finset.sum_bij (fun j _ => j.val) ?_ ?_ ?_ ?_
  · intro j hj
    rw [Finset.mem_filter] at hj
    exact Finset.mem_range.mpr (Nat.lt_succ_of_le hj.2)
  · intro a _ c _ h
    exact Fin.ext h
  · intro t ht
    rw [Finset.mem_range] at ht
    exact ⟨⟨t, by omega⟩, Finset.mem_filter.mpr ⟨Finset.mem_univ _, Nat.lt_succ_iff.mp ht⟩, rfl⟩
  · exact fun _ _ => rfl

/-- The matrix of the group's delta rule. -/
def rule (s : ℕ) : Matrix (Fin 256) (Fin 256) ℝ := fun i j =>
  if j < i then b (s + i) * (∑ c, k (s + i) c * k (s + j) c) * Real.exp (cum g s i - cum g s j) else 0

/-- The corrected values of the group. -/
def corrected (s : ℕ) : Matrix (Fin 256) (Fin 128) ℝ :=
  doubled (rule k g b s) 8 * (Matrix.of fun (j : Fin 256) e => b (s + j) * v (s + j) e)
    - doubled (rule k g b s) 8 * (Matrix.of fun (j : Fin 256) c => b (s + j) * (k (s + j) c * Real.exp (cum g s j))) * stateAt k v g b s

theorem rule_lower (s : ℕ) (i j : Fin 256) (h : ¬ j < i) : rule k g b s i j = 0 := if_neg h

theorem corrected_solves (s : ℕ) : Solves k v g b s (corrected k v g b s) := by
  intro i e
  have h := doubled_inverse (rule k g b s) (rule_lower k g b s)
  have h2 : (1 + rule k g b s) * corrected k v g b s = (Matrix.of fun (j : Fin 256) e => b (s + j) * v (s + j) e)
      - (Matrix.of fun (j : Fin 256) c => b (s + j) * (k (s + j) c * Real.exp (cum g s j))) * stateAt k v g b s := by
    unfold corrected
    rw [Matrix.mul_sub, ← Matrix.mul_assoc, ← Matrix.mul_assoc, ← Matrix.mul_assoc, h, Matrix.one_mul, Matrix.one_mul]
  rw [Matrix.add_mul, Matrix.one_mul] at h2
  exact congrFun (congrFun h2 i) e

variable {q k v g b} {p : Prob Ideal} {s : ℕ} (h : Holds q k v g b p s)
include h

theorem Holds.gc : p.gc = up (col (cum g s)) := by
  unfold Prob.gc
  rw [h.g, colOf_lower]
  congr 2
  exact funext fun i => cum_eq g s i

theorem Holds.bc : p.bc = up (col fun (i : Fin 256) => b (s + i)) := by
  unfold Prob.bc
  rw [h.b, colOf_diag]

theorem Holds.lm : p.lm = up (rule k g b s) := by
  unfold Prob.lm
  rw [h.bc, h.gc, h.k, gram_up, decay_up, lmat_up]
  congr 1
  funext i j
  simp only [rule, Matrix.of_apply]
  by_cases hj : j < i
  · rw [if_pos hj, if_pos hj, if_pos hj.le]
  · rw [if_neg hj, if_neg hj]

theorem Holds.vn : p.vn (up (stateAt k v g b s)) = up (corrected k v g b s) := by
  unfold Prob.vn Prob.uw
  rw [h.lm, inverse_up _ (rule_lower k g b s), h.bc, h.gc, h.v, h.k, uw_left, uw_right, vNew_up]
  rfl

/-- The output row of a token reads the state after it. -/
theorem Holds.out : p.out (up (stateAt k v g b s)) = up (Matrix.of fun (i : Fin 256) e => ∑ d, q (s + i) d * state k v g b (s + i + 1) d e) := by
  unfold Prob.out
  rw [h.vn, h.gc, h.q, h.k, gram_up, decay_up, attn_up, outp_up]
  congr 1
  funext i e
  simp only [Matrix.of_apply]
  rw [read_group (corrected_solves k v g b s) (q (s + i)) i e]
  refine congrArg (_ + ·) (Finset.sum_congr rfl fun j _ => ?_)
  by_cases hj : j ≤ i
  · rw [if_pos hj, if_pos hj, if_pos hj]; rfl
  · rw [if_neg hj, if_neg hj]

/-- The group's step carries the state 256 tokens on. -/
theorem Holds.next : p.next (up (stateAt k v g b s)) = up (stateAt k v g b (s + 256)) := by
  unfold Prob.next
  rw [h.vn, h.gc, h.k, nextState_up]
  congr 1
  funext d e
  exact (state_next (corrected_solves k v g b s) d e).symm

end group

end Cert.Proof.Gdn

end
-- ==== Proof.GdnTrip.lean ====
module

public import proofs.«01_k».proof.Proof.GdnSpec

@[expose] public section

set_option maxRecDepth 100000
set_option maxHeartbeats 1000000

noncomputable section

/-! One trip of the kernel's loop: the eight problems (four groups of 256 tokens, two heads each) read from the blocks, and
the generated constants of the trip as functions of them. -/

namespace Cert.Proof.Gdn

open Cert.KernelIdeal Cert.KernelIdeal.Gen Idealize.ShloMosaic Idealize.ShloMosaic.TcCoe

variable {F : FTy → Type} [FloatOps F]

/-- Whether tokens precede the group in its block. -/
def first (k : Fin k0_t1_loop.trips) (g : Fin 4) : BitVec 1 :=
  Scalar.cmpi .sgt (Scalar.muli (Scalar.addi (Scalar.muli (Scf.iv 0#32 1#32 k) 4#32) (BitVec.ofNat 32 g.val)) 256#32) 0#32

section
variable (arg2 : Memref sig .tc .vmem S4096x128 .f32)
  (arg3 : Memref sig .tc .vmem S4096x128 .f32)
  (arg4 : Memref sig .tc .vmem S4096x256 .f32)
  (arg5 : Memref sig .tc .vmem S4096x256 .f32)
  (arg6 : Memref sig .tc .vmem S4x128 .f32)
  (arg7 : Memref sig .tc .vmem S4x128 .f32)
  (arg8 : Memref sig .tc .vmem S4x256 .f32)
  (arg9 : Memref sig .tc .vmem S1x1x2x4096 .f32)
  (arg10 : Memref sig .tc .vmem S1x1x2x4096 .f32)
  (arg11 : Memref sig .tc .vmem S1x2x256 .f32)
  (arg12 : Memref sig .tc .vmem S1x2x256 .f32)
  (X_arg2 : BufTy.Contents (Elt F) arg2.view.ty)
  (X_arg3 : BufTy.Contents (Elt F) arg3.view.ty)
  (X_arg4 : BufTy.Contents (Elt F) arg4.view.ty)
  (X_arg5 : BufTy.Contents (Elt F) arg5.view.ty)
  (X_arg6 : BufTy.Contents (Elt F) arg6.view.ty)
  (X_arg7 : BufTy.Contents (Elt F) arg7.view.ty)
  (X_arg8 : BufTy.Contents (Elt F) arg8.view.ty)
  (X_arg9 : BufTy.Contents (Elt F) arg9.view.ty)
  (X_arg10 : BufTy.Contents (Elt F) arg10.view.ty)
  (X_arg11 : BufTy.Contents (Elt F) arg11.view.ty)
  (X_arg12 : BufTy.Contents (Elt F) arg12.view.ty)
  (k : Fin k0_t1_loop.trips)

/-- What head 0 of group `g` needs. -/
def probA (g : Fin 4) : Prob F where
  q := scaled (unit (conv128 (first k g)
      (View.readAt (Elt F) arg2.view (Rect.unit (s := S4096x128) (k0_off1 k (BitVec.ofNat 32 g.val)) S256x128.size (k0_off1_inb k g)).toLoadRect X_arg2)
      (View.readAt (Elt F) arg2.view (Rect.unit (s := S4096x128) (k0_off2 k (BitVec.ofNat 32 g.val)) S8x128.size (k0_off2_inb k g)).toLoadRect X_arg2)
      (View.readAt (Elt F) arg6.view (Rect.unit (s := S4x128) (![0, 0]) S1x128.size inb_S4x128_S1x128_0_0).toLoadRect X_arg6) (View.readAt (Elt F) arg6.view (Rect.unit (s := S4x128) (![1, 0]) S1x128.size inb_S4x128_S1x128_1_0).toLoadRect X_arg6) (View.readAt (Elt F) arg6.view (Rect.unit (s := S4x128) (![2, 0]) S1x128.size inb_S4x128_S1x128_2_0).toLoadRect X_arg6) (View.readAt (Elt F) arg6.view (Rect.unit (s := S4x128) (![3, 0]) S1x128.size inb_S4x128_S1x128_3_0).toLoadRect X_arg6)))
  k := unit (conv128 (first k g)
      (View.readAt (Elt F) arg3.view (Rect.unit (s := S4096x128) (k0_off1 k (BitVec.ofNat 32 g.val)) S256x128.size (k0_off1_inb k g)).toLoadRect X_arg3)
      (View.readAt (Elt F) arg3.view (Rect.unit (s := S4096x128) (k0_off2 k (BitVec.ofNat 32 g.val)) S8x128.size (k0_off2_inb k g)).toLoadRect X_arg3)
      (View.readAt (Elt F) arg7.view (Rect.unit (s := S4x128) (![0, 0]) S1x128.size inb_S4x128_S1x128_0_0).toLoadRect X_arg7) (View.readAt (Elt F) arg7.view (Rect.unit (s := S4x128) (![1, 0]) S1x128.size inb_S4x128_S1x128_1_0).toLoadRect X_arg7) (View.readAt (Elt F) arg7.view (Rect.unit (s := S4x128) (![2, 0]) S1x128.size inb_S4x128_S1x128_2_0).toLoadRect X_arg7) (View.readAt (Elt F) arg7.view (Rect.unit (s := S4x128) (![3, 0]) S1x128.size inb_S4x128_S1x128_3_0).toLoadRect X_arg7))
  v := left (conv256 (first k g)
      (View.readAt (Elt F) arg4.view (Rect.unit (s := S4096x256) (k0_off3 k (BitVec.ofNat 32 g.val)) S256x256.size (k0_off3_inb k g)).toLoadRect X_arg4)
      (View.readAt (Elt F) arg4.view (Rect.unit (s := S4096x256) (k0_off4 k (BitVec.ofNat 32 g.val)) S8x256.size (k0_off4_inb k g)).toLoadRect X_arg4)
      (View.readAt (Elt F) arg8.view (Rect.unit (s := S4x256) (![0, 0]) S1x256.size inb_S4x256_S1x256_0_0).toLoadRect X_arg8) (View.readAt (Elt F) arg8.view (Rect.unit (s := S4x256) (![1, 0]) S1x256.size inb_S4x256_S1x256_1_0).toLoadRect X_arg8) (View.readAt (Elt F) arg8.view (Rect.unit (s := S4x256) (![2, 0]) S1x256.size inb_S4x256_S1x256_2_0).toLoadRect X_arg8) (View.readAt (Elt F) arg8.view (Rect.unit (s := S4x256) (![3, 0]) S1x256.size inb_S4x256_S1x256_3_0).toLoadRect X_arg8))
  z := (View.readAt (Elt F) arg5.view (Rect.unit (s := S4096x256) (k0_off7 k (BitVec.ofNat 32 g.val)) S256x128.size (k0_off7_inb k g)).toLoadRect X_arg5)
  g := gRow (View.readAt (Elt F) arg9.view (Rect.unit (s := S1x1x2x4096) (k0_off5 k (BitVec.ofNat 32 g.val)) S1x1x1x256.size (k0_off5_inb k g)).toLoadRect X_arg9)
    (View.readAt (Elt F) arg12.view (Rect.unit (s := S1x2x256) (![0, 0, 0]) S1x1x256.size inb_S1x2x256_S1x1x256_0_0_0).toLoadRect X_arg12) (View.readAt (Elt F) arg11.view (Rect.unit (s := S1x2x256) (![0, 0, 0]) S1x1x256.size inb_S1x2x256_S1x1x256_0_0_0).toLoadRect X_arg11)
  b := betaRow (View.readAt (Elt F) arg10.view (Rect.unit (s := S1x1x2x4096) (k0_off5 k (BitVec.ofNat 32 g.val)) S1x1x1x256.size (k0_off5_inb k g)).toLoadRect X_arg10)

/-- What head 1 of group `g` needs. -/
def probB (g : Fin 4) : Prob F where
  q := scaled (unit (conv128 (first k g)
      (View.readAt (Elt F) arg2.view (Rect.unit (s := S4096x128) (k0_off1 k (BitVec.ofNat 32 g.val)) S256x128.size (k0_off1_inb k g)).toLoadRect X_arg2)
      (View.readAt (Elt F) arg2.view (Rect.unit (s := S4096x128) (k0_off2 k (BitVec.ofNat 32 g.val)) S8x128.size (k0_off2_inb k g)).toLoadRect X_arg2)
      (View.readAt (Elt F) arg6.view (Rect.unit (s := S4x128) (![0, 0]) S1x128.size inb_S4x128_S1x128_0_0).toLoadRect X_arg6) (View.readAt (Elt F) arg6.view (Rect.unit (s := S4x128) (![1, 0]) S1x128.size inb_S4x128_S1x128_1_0).toLoadRect X_arg6) (View.readAt (Elt F) arg6.view (Rect.unit (s := S4x128) (![2, 0]) S1x128.size inb_S4x128_S1x128_2_0).toLoadRect X_arg6) (View.readAt (Elt F) arg6.view (Rect.unit (s := S4x128) (![3, 0]) S1x128.size inb_S4x128_S1x128_3_0).toLoadRect X_arg6)))
  k := unit (conv128 (first k g)
      (View.readAt (Elt F) arg3.view (Rect.unit (s := S4096x128) (k0_off1 k (BitVec.ofNat 32 g.val)) S256x128.size (k0_off1_inb k g)).toLoadRect X_arg3)
      (View.readAt (Elt F) arg3.view (Rect.unit (s := S4096x128) (k0_off2 k (BitVec.ofNat 32 g.val)) S8x128.size (k0_off2_inb k g)).toLoadRect X_arg3)
      (View.readAt (Elt F) arg7.view (Rect.unit (s := S4x128) (![0, 0]) S1x128.size inb_S4x128_S1x128_0_0).toLoadRect X_arg7) (View.readAt (Elt F) arg7.view (Rect.unit (s := S4x128) (![1, 0]) S1x128.size inb_S4x128_S1x128_1_0).toLoadRect X_arg7) (View.readAt (Elt F) arg7.view (Rect.unit (s := S4x128) (![2, 0]) S1x128.size inb_S4x128_S1x128_2_0).toLoadRect X_arg7) (View.readAt (Elt F) arg7.view (Rect.unit (s := S4x128) (![3, 0]) S1x128.size inb_S4x128_S1x128_3_0).toLoadRect X_arg7))
  v := right (conv256 (first k g)
      (View.readAt (Elt F) arg4.view (Rect.unit (s := S4096x256) (k0_off3 k (BitVec.ofNat 32 g.val)) S256x256.size (k0_off3_inb k g)).toLoadRect X_arg4)
      (View.readAt (Elt F) arg4.view (Rect.unit (s := S4096x256) (k0_off4 k (BitVec.ofNat 32 g.val)) S8x256.size (k0_off4_inb k g)).toLoadRect X_arg4)
      (View.readAt (Elt F) arg8.view (Rect.unit (s := S4x256) (![0, 0]) S1x256.size inb_S4x256_S1x256_0_0).toLoadRect X_arg8) (View.readAt (Elt F) arg8.view (Rect.unit (s := S4x256) (![1, 0]) S1x256.size inb_S4x256_S1x256_1_0).toLoadRect X_arg8) (View.readAt (Elt F) arg8.view (Rect.unit (s := S4x256) (![2, 0]) S1x256.size inb_S4x256_S1x256_2_0).toLoadRect X_arg8) (View.readAt (Elt F) arg8.view (Rect.unit (s := S4x256) (![3, 0]) S1x256.size inb_S4x256_S1x256_3_0).toLoadRect X_arg8))
  z := (View.readAt (Elt F) arg5.view (Rect.unit (s := S4096x256) (k0_off8 k (BitVec.ofNat 32 g.val)) S256x128.size (k0_off8_inb k g)).toLoadRect X_arg5)
  g := gRow (View.readAt (Elt F) arg9.view (Rect.unit (s := S1x1x2x4096) (k0_off6 k (BitVec.ofNat 32 g.val)) S1x1x1x256.size (k0_off6_inb k g)).toLoadRect X_arg9)
    (View.readAt (Elt F) arg12.view (Rect.unit (s := S1x2x256) (![0, 1, 0]) S1x1x256.size inb_S1x2x256_S1x1x256_0_1_0).toLoadRect X_arg12) (View.readAt (Elt F) arg11.view (Rect.unit (s := S1x2x256) (![0, 1, 0]) S1x1x256.size inb_S1x2x256_S1x1x256_0_1_0).toLoadRect X_arg11)
  b := betaRow (View.readAt (Elt F) arg10.view (Rect.unit (s := S1x1x2x4096) (k0_off6 k (BitVec.ofNat 32 g.val)) S1x1x1x256.size (k0_off6_inb k g)).toLoadRect X_arg10)

end

/-- The inverse from its levels. -/
theorem inverse_of {lm d0 d2 d3 d4 d5 d6 d7 : FVec F S256x256 .f32} (h0 : d0 = inv0 lm)
    (h2 : d2 = invLow 2#32 lm (invLow 1#32 lm d0)) (h3 : d3 = invHigh 8 16 (by omega) (by omega) 3#32 lm d2)
    (h4 : d4 = invHigh 16 8 (by omega) (by omega) 4#32 lm d3) (h5 : d5 = invHigh 32 4 (by omega) (by omega) 5#32 lm d4)
    (h6 : d6 = invHigh 64 2 (by omega) (by omega) 6#32 lm d5) (h7 : d7 = invTop lm d6) :
    addf d7 (mm (half d7) (half (subf (subf eye d7) (mm3 lm d7)))) = inverse lm := by
  subst h7 h6 h5 h4 h3 h2 h0
  rfl

section
variable (arg2 : Memref sig .tc .vmem S4096x128 .f32)
  (arg3 : Memref sig .tc .vmem S4096x128 .f32)
  (arg4 : Memref sig .tc .vmem S4096x256 .f32)
  (arg5 : Memref sig .tc .vmem S4096x256 .f32)
  (arg6 : Memref sig .tc .vmem S4x128 .f32)
  (arg7 : Memref sig .tc .vmem S4x128 .f32)
  (arg8 : Memref sig .tc .vmem S4x256 .f32)
  (arg9 : Memref sig .tc .vmem S1x1x2x4096 .f32)
  (arg10 : Memref sig .tc .vmem S1x1x2x4096 .f32)
  (arg11 : Memref sig .tc .vmem S1x2x256 .f32)
  (arg12 : Memref sig .tc .vmem S1x2x256 .f32)
  (X_arg2 : BufTy.Contents (Elt F) arg2.view.ty)
  (X_arg3 : BufTy.Contents (Elt F) arg3.view.ty)
  (X_arg4 : BufTy.Contents (Elt F) arg4.view.ty)
  (X_arg5 : BufTy.Contents (Elt F) arg5.view.ty)
  (X_arg6 : BufTy.Contents (Elt F) arg6.view.ty)
  (X_arg7 : BufTy.Contents (Elt F) arg7.view.ty)
  (X_arg8 : BufTy.Contents (Elt F) arg8.view.ty)
  (X_arg9 : BufTy.Contents (Elt F) arg9.view.ty)
  (X_arg10 : BufTy.Contents (Elt F) arg10.view.ty)
  (X_arg11 : BufTy.Contents (Elt F) arg11.view.ty)
  (X_arg12 : BufTy.Contents (Elt F) arg12.view.ty)
  (k : Fin k0_t1_loop.trips)

theorem lm_0 : trip_k0_t1.sl.r_59 arg3 arg7 arg9 arg10 arg11 arg12 X_arg3 X_arg7 X_arg9 X_arg10 X_arg11 X_arg12 k = (probA arg2 arg3 arg4 arg5 arg6 arg7 arg8 arg9 arg10 arg11 arg12 X_arg2 X_arg3 X_arg4 X_arg5 X_arg6 X_arg7 X_arg8 X_arg9 X_arg10 X_arg11 X_arg12 k 0).lm := by
  rfl

theorem inv_0 : trip_k0_t1.sl.r_640 arg3 arg7 arg9 arg10 arg11 arg12 X_arg3 X_arg7 X_arg9 X_arg10 X_arg11 X_arg12 k =
    inverse (trip_k0_t1.sl.r_59 arg3 arg7 arg9 arg10 arg11 arg12 X_arg3 X_arg7 X_arg9 X_arg10 X_arg11 X_arg12 k) := by
  delta trip_k0_t1.sl.r_640
  exact inverse_of (d0 := (trip_k0_t1.sl.r_107 arg3 arg7 arg9 arg10 arg11 arg12 X_arg3 X_arg7 X_arg9 X_arg10 X_arg11 X_arg12 k))
    (d2 := (trip_k0_t1.sl.r_150 arg3 arg7 arg9 arg10 arg11 arg12 X_arg3 X_arg7 X_arg9 X_arg10 X_arg11 X_arg12 k))
    (d3 := (trip_k0_t1.sl.r_308 arg3 arg7 arg9 arg10 arg11 arg12 X_arg3 X_arg7 X_arg9 X_arg10 X_arg11 X_arg12 k))
    (d4 := (trip_k0_t1.sl.r_470 arg3 arg7 arg9 arg10 arg11 arg12 X_arg3 X_arg7 X_arg9 X_arg10 X_arg11 X_arg12 k))
    (d5 := (trip_k0_t1.sl.r_550 arg3 arg7 arg9 arg10 arg11 arg12 X_arg3 X_arg7 X_arg9 X_arg10 X_arg11 X_arg12 k))
    (d6 := (trip_k0_t1.sl.r_590 arg3 arg7 arg9 arg10 arg11 arg12 X_arg3 X_arg7 X_arg9 X_arg10 X_arg11 X_arg12 k))
    (d7 := (trip_k0_t1.sl.r_620 arg3 arg7 arg9 arg10 arg11 arg12 X_arg3 X_arg7 X_arg9 X_arg10 X_arg11 X_arg12 k))
    rfl rfl rfl rfl rfl rfl rfl

theorem u_0 : trip_k0_t1.sl.r_649 arg3 arg4 arg7 arg8 arg9 arg10 arg11 arg12 X_arg3 X_arg4 X_arg7 X_arg8 X_arg9 X_arg10 X_arg11 X_arg12 k = left (probA arg2 arg3 arg4 arg5 arg6 arg7 arg8 arg9 arg10 arg11 arg12 X_arg2 X_arg3 X_arg4 X_arg5 X_arg6 X_arg7 X_arg8 X_arg9 X_arg10 X_arg11 X_arg12 k 0).uw := by
  delta trip_k0_t1.sl.r_649
  rw [inv_0, lm_0]
  rfl

theorem w_0 : trip_k0_t1.sl.r_650 arg3 arg4 arg7 arg8 arg9 arg10 arg11 arg12 X_arg3 X_arg4 X_arg7 X_arg8 X_arg9 X_arg10 X_arg11 X_arg12 k = half (right (probA arg2 arg3 arg4 arg5 arg6 arg7 arg8 arg9 arg10 arg11 arg12 X_arg2 X_arg3 X_arg4 X_arg5 X_arg6 X_arg7 X_arg8 X_arg9 X_arg10 X_arg11 X_arg12 k 0).uw) := by
  delta trip_k0_t1.sl.r_650
  rw [inv_0, lm_0]
  rfl

theorem lm_1 : trip_k0_t1.sl.r_66 arg3 arg7 arg9 arg10 arg11 arg12 X_arg3 X_arg7 X_arg9 X_arg10 X_arg11 X_arg12 k = (probB arg2 arg3 arg4 arg5 arg6 arg7 arg8 arg9 arg10 arg11 arg12 X_arg2 X_arg3 X_arg4 X_arg5 X_arg6 X_arg7 X_arg8 X_arg9 X_arg10 X_arg11 X_arg12 k 0).lm := by
  rfl

theorem inv_1 : trip_k0_t1.sl.r_642 arg3 arg7 arg9 arg10 arg11 arg12 X_arg3 X_arg7 X_arg9 X_arg10 X_arg11 X_arg12 k =
    inverse (trip_k0_t1.sl.r_66 arg3 arg7 arg9 arg10 arg11 arg12 X_arg3 X_arg7 X_arg9 X_arg10 X_arg11 X_arg12 k) := by
  delta trip_k0_t1.sl.r_642
  exact inverse_of (d0 := (trip_k0_t1.sl.r_108 arg3 arg7 arg9 arg10 arg11 arg12 X_arg3 X_arg7 X_arg9 X_arg10 X_arg11 X_arg12 k))
    (d2 := (trip_k0_t1.sl.r_151 arg3 arg7 arg9 arg10 arg11 arg12 X_arg3 X_arg7 X_arg9 X_arg10 X_arg11 X_arg12 k))
    (d3 := (trip_k0_t1.sl.r_334 arg3 arg7 arg9 arg10 arg11 arg12 X_arg3 X_arg7 X_arg9 X_arg10 X_arg11 X_arg12 k))
    (d4 := (trip_k0_t1.sl.r_473 arg3 arg7 arg9 arg10 arg11 arg12 X_arg3 X_arg7 X_arg9 X_arg10 X_arg11 X_arg12 k))
    (d5 := (trip_k0_t1.sl.r_552 arg3 arg7 arg9 arg10 arg11 arg12 X_arg3 X_arg7 X_arg9 X_arg10 X_arg11 X_arg12 k))
    (d6 := (trip_k0_t1.sl.r_591 arg3 arg7 arg9 arg10 arg11 arg12 X_arg3 X_arg7 X_arg9 X_arg10 X_arg11 X_arg12 k))
    (d7 := (trip_k0_t1.sl.r_621 arg3 arg7 arg9 arg10 arg11 arg12 X_arg3 X_arg7 X_arg9 X_arg10 X_arg11 X_arg12 k))
    rfl rfl rfl rfl rfl rfl rfl

theorem u_1 : trip_k0_t1.sl.r_657 arg3 arg4 arg7 arg8 arg9 arg10 arg11 arg12 X_arg3 X_arg4 X_arg7 X_arg8 X_arg9 X_arg10 X_arg11 X_arg12 k = left (probB arg2 arg3 arg4 arg5 arg6 arg7 arg8 arg9 arg10 arg11 arg12 X_arg2 X_arg3 X_arg4 X_arg5 X_arg6 X_arg7 X_arg8 X_arg9 X_arg10 X_arg11 X_arg12 k 0).uw := by
  delta trip_k0_t1.sl.r_657
  rw [inv_1, lm_1]
  rfl

theorem w_1 : trip_k0_t1.sl.r_658 arg3 arg4 arg7 arg8 arg9 arg10 arg11 arg12 X_arg3 X_arg4 X_arg7 X_arg8 X_arg9 X_arg10 X_arg11 X_arg12 k = half (right (probB arg2 arg3 arg4 arg5 arg6 arg7 arg8 arg9 arg10 arg11 arg12 X_arg2 X_arg3 X_arg4 X_arg5 X_arg6 X_arg7 X_arg8 X_arg9 X_arg10 X_arg11 X_arg12 k 0).uw) := by
  delta trip_k0_t1.sl.r_658
  rw [inv_1, lm_1]
  rfl

theorem lm_2 : trip_k0_t1.sl.r_72 arg3 arg7 arg9 arg10 arg11 arg12 X_arg3 X_arg7 X_arg9 X_arg10 X_arg11 X_arg12 k = (probA arg2 arg3 arg4 arg5 arg6 arg7 arg8 arg9 arg10 arg11 arg12 X_arg2 X_arg3 X_arg4 X_arg5 X_arg6 X_arg7 X_arg8 X_arg9 X_arg10 X_arg11 X_arg12 k 1).lm := by
  rfl

theorem inv_2 : trip_k0_t1.sl.r_643 arg3 arg7 arg9 arg10 arg11 arg12 X_arg3 X_arg7 X_arg9 X_arg10 X_arg11 X_arg12 k =
    inverse (trip_k0_t1.sl.r_72 arg3 arg7 arg9 arg10 arg11 arg12 X_arg3 X_arg7 X_arg9 X_arg10 X_arg11 X_arg12 k) := by
  delta trip_k0_t1.sl.r_643
  exact inverse_of (d0 := (trip_k0_t1.sl.r_109 arg3 arg7 arg9 arg10 arg11 arg12 X_arg3 X_arg7 X_arg9 X_arg10 X_arg11 X_arg12 k))
    (d2 := (trip_k0_t1.sl.r_152 arg3 arg7 arg9 arg10 arg11 arg12 X_arg3 X_arg7 X_arg9 X_arg10 X_arg11 X_arg12 k))
    (d3 := (trip_k0_t1.sl.r_357 arg3 arg7 arg9 arg10 arg11 arg12 X_arg3 X_arg7 X_arg9 X_arg10 X_arg11 X_arg12 k))
    (d4 := (trip_k0_t1.sl.r_491 arg3 arg7 arg9 arg10 arg11 arg12 X_arg3 X_arg7 X_arg9 X_arg10 X_arg11 X_arg12 k))
    (d5 := (trip_k0_t1.sl.r_553 arg3 arg7 arg9 arg10 arg11 arg12 X_arg3 X_arg7 X_arg9 X_arg10 X_arg11 X_arg12 k))
    (d6 := (trip_k0_t1.sl.r_592 arg3 arg7 arg9 arg10 arg11 arg12 X_arg3 X_arg7 X_arg9 X_arg10 X_arg11 X_arg12 k))
    (d7 := (trip_k0_t1.sl.r_622 arg3 arg7 arg9 arg10 arg11 arg12 X_arg3 X_arg7 X_arg9 X_arg10 X_arg11 X_arg12 k))
    rfl rfl rfl rfl rfl rfl rfl

theorem u_2 : trip_k0_t1.sl.r_663 arg3 arg4 arg7 arg8 arg9 arg10 arg11 arg12 X_arg3 X_arg4 X_arg7 X_arg8 X_arg9 X_arg10 X_arg11 X_arg12 k = left (probA arg2 arg3 arg4 arg5 arg6 arg7 arg8 arg9 arg10 arg11 arg12 X_arg2 X_arg3 X_arg4 X_arg5 X_arg6 X_arg7 X_arg8 X_arg9 X_arg10 X_arg11 X_arg12 k 1).uw := by
  delta trip_k0_t1.sl.r_663
  rw [inv_2, lm_2]
  rfl

theorem w_2 : trip_k0_t1.sl.r_664 arg3 arg4 arg7 arg8 arg9 arg10 arg11 arg12 X_arg3 X_arg4 X_arg7 X_arg8 X_arg9 X_arg10 X_arg11 X_arg12 k = half (right (probA arg2 arg3 arg4 arg5 arg6 arg7 arg8 arg9 arg10 arg11 arg12 X_arg2 X_arg3 X_arg4 X_arg5 X_arg6 X_arg7 X_arg8 X_arg9 X_arg10 X_arg11 X_arg12 k 1).uw) := by
  delta trip_k0_t1.sl.r_664
  rw [inv_2, lm_2]
  rfl

theorem lm_3 : trip_k0_t1.sl.r_80 arg3 arg7 arg9 arg10 arg11 arg12 X_arg3 X_arg7 X_arg9 X_arg10 X_arg11 X_arg12 k = (probB arg2 arg3 arg4 arg5 arg6 arg7 arg8 arg9 arg10 arg11 arg12 X_arg2 X_arg3 X_arg4 X_arg5 X_arg6 X_arg7 X_arg8 X_arg9 X_arg10 X_arg11 X_arg12 k 1).lm := by
  rfl

theorem inv_3 : trip_k0_t1.sl.r_644 arg3 arg7 arg9 arg10 arg11 arg12 X_arg3 X_arg7 X_arg9 X_arg10 X_arg11 X_arg12 k =
    inverse (trip_k0_t1.sl.r_80 arg3 arg7 arg9 arg10 arg11 arg12 X_arg3 X_arg7 X_arg9 X_arg10 X_arg11 X_arg12 k) := by
  delta trip_k0_t1.sl.r_644
  exact inverse_of (d0 := (trip_k0_t1.sl.r_110 arg3 arg7 arg9 arg10 arg11 arg12 X_arg3 X_arg7 X_arg9 X_arg10 X_arg11 X_arg12 k))
    (d2 := (trip_k0_t1.sl.r_153 arg3 arg7 arg9 arg10 arg11 arg12 X_arg3 X_arg7 X_arg9 X_arg10 X_arg11 X_arg12 k))
    (d3 := (trip_k0_t1.sl.r_377 arg3 arg7 arg9 arg10 arg11 arg12 X_arg3 X_arg7 X_arg9 X_arg10 X_arg11 X_arg12 k))
    (d4 := (trip_k0_t1.sl.r_492 arg3 arg7 arg9 arg10 arg11 arg12 X_arg3 X_arg7 X_arg9 X_arg10 X_arg11 X_arg12 k))
    (d5 := (trip_k0_t1.sl.r_554 arg3 arg7 arg9 arg10 arg11 arg12 X_arg3 X_arg7 X_arg9 X_arg10 X_arg11 X_arg12 k))
    (d6 := (trip_k0_t1.sl.r_593 arg3 arg7 arg9 arg10 arg11 arg12 X_arg3 X_arg7 X_arg9 X_arg10 X_arg11 X_arg12 k))
    (d7 := (trip_k0_t1.sl.r_623 arg3 arg7 arg9 arg10 arg11 arg12 X_arg3 X_arg7 X_arg9 X_arg10 X_arg11 X_arg12 k))
    rfl rfl rfl rfl rfl rfl rfl

theorem u_3 : trip_k0_t1.sl.r_670 arg3 arg4 arg7 arg8 arg9 arg10 arg11 arg12 X_arg3 X_arg4 X_arg7 X_arg8 X_arg9 X_arg10 X_arg11 X_arg12 k = left (probB arg2 arg3 arg4 arg5 arg6 arg7 arg8 arg9 arg10 arg11 arg12 X_arg2 X_arg3 X_arg4 X_arg5 X_arg6 X_arg7 X_arg8 X_arg9 X_arg10 X_arg11 X_arg12 k 1).uw := by
  delta trip_k0_t1.sl.r_670
  rw [inv_3, lm_3]
  rfl

theorem w_3 : trip_k0_t1.sl.r_671 arg3 arg4 arg7 arg8 arg9 arg10 arg11 arg12 X_arg3 X_arg4 X_arg7 X_arg8 X_arg9 X_arg10 X_arg11 X_arg12 k = half (right (probB arg2 arg3 arg4 arg5 arg6 arg7 arg8 arg9 arg10 arg11 arg12 X_arg2 X_arg3 X_arg4 X_arg5 X_arg6 X_arg7 X_arg8 X_arg9 X_arg10 X_arg11 X_arg12 k 1).uw) := by
  delta trip_k0_t1.sl.r_671
  rw [inv_3, lm_3]
  rfl

theorem lm_4 : trip_k0_t1.sl.r_86 arg3 arg7 arg9 arg10 arg11 arg12 X_arg3 X_arg7 X_arg9 X_arg10 X_arg11 X_arg12 k = (probA arg2 arg3 arg4 arg5 arg6 arg7 arg8 arg9 arg10 arg11 arg12 X_arg2 X_arg3 X_arg4 X_arg5 X_arg6 X_arg7 X_arg8 X_arg9 X_arg10 X_arg11 X_arg12 k 2).lm := by
  rfl

theorem inv_4 : trip_k0_t1.sl.r_645 arg3 arg7 arg9 arg10 arg11 arg12 X_arg3 X_arg7 X_arg9 X_arg10 X_arg11 X_arg12 k =
    inverse (trip_k0_t1.sl.r_86 arg3 arg7 arg9 arg10 arg11 arg12 X_arg3 X_arg7 X_arg9 X_arg10 X_arg11 X_arg12 k) := by
  delta trip_k0_t1.sl.r_645
  exact inverse_of (d0 := (trip_k0_t1.sl.r_111 arg3 arg7 arg9 arg10 arg11 arg12 X_arg3 X_arg7 X_arg9 X_arg10 X_arg11 X_arg12 k))
    (d2 := (trip_k0_t1.sl.r_155 arg3 arg7 arg9 arg10 arg11 arg12 X_arg3 X_arg7 X_arg9 X_arg10 X_arg11 X_arg12 k))
    (d3 := (trip_k0_t1.sl.r_394 arg3 arg7 arg9 arg10 arg11 arg12 X_arg3 X_arg7 X_arg9 X_arg10 X_arg11 X_arg12 k))
    (d4 := (trip_k0_t1.sl.r_506 arg3 arg7 arg9 arg10 arg11 arg12 X_arg3 X_arg7 X_arg9 X_arg10 X_arg11 X_arg12 k))
    (d5 := (trip_k0_t1.sl.r_561 arg3 arg7 arg9 arg10 arg11 arg12 X_arg3 X_arg7 X_arg9 X_arg10 X_arg11 X_arg12 k))
    (d6 := (trip_k0_t1.sl.r_594 arg3 arg7 arg9 arg10 arg11 arg12 X_arg3 X_arg7 X_arg9 X_arg10 X_arg11 X_arg12 k))
    (d7 := (trip_k0_t1.sl.r_624 arg3 arg7 arg9 arg10 arg11 arg12 X_arg3 X_arg7 X_arg9 X_arg10 X_arg11 X_arg12 k))
    rfl rfl rfl rfl rfl rfl rfl

theorem u_4 : trip_k0_t1.sl.r_676 arg3 arg4 arg7 arg8 arg9 arg10 arg11 arg12 X_arg3 X_arg4 X_arg7 X_arg8 X_arg9 X_arg10 X_arg11 X_arg12 k = left (probA arg2 arg3 arg4 arg5 arg6 arg7 arg8 arg9 arg10 arg11 arg12 X_arg2 X_arg3 X_arg4 X_arg5 X_arg6 X_arg7 X_arg8 X_arg9 X_arg10 X_arg11 X_arg12 k 2).uw := by
  delta trip_k0_t1.sl.r_676
  rw [inv_4, lm_4]
  rfl

theorem w_4 : trip_k0_t1.sl.r_677 arg3 arg4 arg7 arg8 arg9 arg10 arg11 arg12 X_arg3 X_arg4 X_arg7 X_arg8 X_arg9 X_arg10 X_arg11 X_arg12 k = half (right (probA arg2 arg3 arg4 arg5 arg6 arg7 arg8 arg9 arg10 arg11 arg12 X_arg2 X_arg3 X_arg4 X_arg5 X_arg6 X_arg7 X_arg8 X_arg9 X_arg10 X_arg11 X_arg12 k 2).uw) := by
  delta trip_k0_t1.sl.r_677
  rw [inv_4, lm_4]
  rfl

theorem lm_5 : trip_k0_t1.sl.r_93 arg3 arg7 arg9 arg10 arg11 arg12 X_arg3 X_arg7 X_arg9 X_arg10 X_arg11 X_arg12 k = (probB arg2 arg3 arg4 arg5 arg6 arg7 arg8 arg9 arg10 arg11 arg12 X_arg2 X_arg3 X_arg4 X_arg5 X_arg6 X_arg7 X_arg8 X_arg9 X_arg10 X_arg11 X_arg12 k 2).lm := by
  rfl

theorem inv_5 : trip_k0_t1.sl.r_646 arg3 arg7 arg9 arg10 arg11 arg12 X_arg3 X_arg7 X_arg9 X_arg10 X_arg11 X_arg12 k =
    inverse (trip_k0_t1.sl.r_93 arg3 arg7 arg9 arg10 arg11 arg12 X_arg3 X_arg7 X_arg9 X_arg10 X_arg11 X_arg12 k) := by
  delta trip_k0_t1.sl.r_646
  exact inverse_of (d0 := (trip_k0_t1.sl.r_112 arg3 arg7 arg9 arg10 arg11 arg12 X_arg3 X_arg7 X_arg9 X_arg10 X_arg11 X_arg12 k))
    (d2 := (trip_k0_t1.sl.r_156 arg3 arg7 arg9 arg10 arg11 arg12 X_arg3 X_arg7 X_arg9 X_arg10 X_arg11 X_arg12 k))
    (d3 := (trip_k0_t1.sl.r_410 arg3 arg7 arg9 arg10 arg11 arg12 X_arg3 X_arg7 X_arg9 X_arg10 X_arg11 X_arg12 k))
    (d4 := (trip_k0_t1.sl.r_507 arg3 arg7 arg9 arg10 arg11 arg12 X_arg3 X_arg7 X_arg9 X_arg10 X_arg11 X_arg12 k))
    (d5 := (trip_k0_t1.sl.r_562 arg3 arg7 arg9 arg10 arg11 arg12 X_arg3 X_arg7 X_arg9 X_arg10 X_arg11 X_arg12 k))
    (d6 := (trip_k0_t1.sl.r_595 arg3 arg7 arg9 arg10 arg11 arg12 X_arg3 X_arg7 X_arg9 X_arg10 X_arg11 X_arg12 k))
    (d7 := (trip_k0_t1.sl.r_625 arg3 arg7 arg9 arg10 arg11 arg12 X_arg3 X_arg7 X_arg9 X_arg10 X_arg11 X_arg12 k))
    rfl rfl rfl rfl rfl rfl rfl

theorem u_5 : trip_k0_t1.sl.r_683 arg3 arg4 arg7 arg8 arg9 arg10 arg11 arg12 X_arg3 X_arg4 X_arg7 X_arg8 X_arg9 X_arg10 X_arg11 X_arg12 k = left (probB arg2 arg3 arg4 arg5 arg6 arg7 arg8 arg9 arg10 arg11 arg12 X_arg2 X_arg3 X_arg4 X_arg5 X_arg6 X_arg7 X_arg8 X_arg9 X_arg10 X_arg11 X_arg12 k 2).uw := by
  delta trip_k0_t1.sl.r_683
  rw [inv_5, lm_5]
  rfl

theorem w_5 : trip_k0_t1.sl.r_684 arg3 arg4 arg7 arg8 arg9 arg10 arg11 arg12 X_arg3 X_arg4 X_arg7 X_arg8 X_arg9 X_arg10 X_arg11 X_arg12 k = half (right (probB arg2 arg3 arg4 arg5 arg6 arg7 arg8 arg9 arg10 arg11 arg12 X_arg2 X_arg3 X_arg4 X_arg5 X_arg6 X_arg7 X_arg8 X_arg9 X_arg10 X_arg11 X_arg12 k 2).uw) := by
  delta trip_k0_t1.sl.r_684
  rw [inv_5, lm_5]
  rfl

theorem lm_6 : trip_k0_t1.sl.r_99 arg3 arg7 arg9 arg10 arg11 arg12 X_arg3 X_arg7 X_arg9 X_arg10 X_arg11 X_arg12 k = (probA arg2 arg3 arg4 arg5 arg6 arg7 arg8 arg9 arg10 arg11 arg12 X_arg2 X_arg3 X_arg4 X_arg5 X_arg6 X_arg7 X_arg8 X_arg9 X_arg10 X_arg11 X_arg12 k 3).lm := by
  rfl

theorem inv_6 : trip_k0_t1.sl.r_647 arg3 arg7 arg9 arg10 arg11 arg12 X_arg3 X_arg7 X_arg9 X_arg10 X_arg11 X_arg12 k =
    inverse (trip_k0_t1.sl.r_99 arg3 arg7 arg9 arg10 arg11 arg12 X_arg3 X_arg7 X_arg9 X_arg10 X_arg11 X_arg12 k) := by
  delta trip_k0_t1.sl.r_647
  exact inverse_of (d0 := (trip_k0_t1.sl.r_113 arg3 arg7 arg9 arg10 arg11 arg12 X_arg3 X_arg7 X_arg9 X_arg10 X_arg11 X_arg12 k))
    (d2 := (trip_k0_t1.sl.r_157 arg3 arg7 arg9 arg10 arg11 arg12 X_arg3 X_arg7 X_arg9 X_arg10 X_arg11 X_arg12 k))
    (d3 := (trip_k0_t1.sl.r_423 arg3 arg7 arg9 arg10 arg11 arg12 X_arg3 X_arg7 X_arg9 X_arg10 X_arg11 X_arg12 k))
    (d4 := (trip_k0_t1.sl.r_519 arg3 arg7 arg9 arg10 arg11 arg12 X_arg3 X_arg7 X_arg9 X_arg10 X_arg11 X_arg12 k))
    (d5 := (trip_k0_t1.sl.r_563 arg3 arg7 arg9 arg10 arg11 arg12 X_arg3 X_arg7 X_arg9 X_arg10 X_arg11 X_arg12 k))
    (d6 := (trip_k0_t1.sl.r_599 arg3 arg7 arg9 arg10 arg11 arg12 X_arg3 X_arg7 X_arg9 X_arg10 X_arg11 X_arg12 k))
    (d7 := (trip_k0_t1.sl.r_626 arg3 arg7 arg9 arg10 arg11 arg12 X_arg3 X_arg7 X_arg9 X_arg10 X_arg11 X_arg12 k))
    rfl rfl rfl rfl rfl rfl rfl

theorem u_6 : trip_k0_t1.sl.r_689 arg3 arg4 arg7 arg8 arg9 arg10 arg11 arg12 X_arg3 X_arg4 X_arg7 X_arg8 X_arg9 X_arg10 X_arg11 X_arg12 k = left (probA arg2 arg3 arg4 arg5 arg6 arg7 arg8 arg9 arg10 arg11 arg12 X_arg2 X_arg3 X_arg4 X_arg5 X_arg6 X_arg7 X_arg8 X_arg9 X_arg10 X_arg11 X_arg12 k 3).uw := by
  delta trip_k0_t1.sl.r_689
  rw [inv_6, lm_6]
  rfl

theorem w_6 : trip_k0_t1.sl.r_690 arg3 arg4 arg7 arg8 arg9 arg10 arg11 arg12 X_arg3 X_arg4 X_arg7 X_arg8 X_arg9 X_arg10 X_arg11 X_arg12 k = half (right (probA arg2 arg3 arg4 arg5 arg6 arg7 arg8 arg9 arg10 arg11 arg12 X_arg2 X_arg3 X_arg4 X_arg5 X_arg6 X_arg7 X_arg8 X_arg9 X_arg10 X_arg11 X_arg12 k 3).uw) := by
  delta trip_k0_t1.sl.r_690
  rw [inv_6, lm_6]
  rfl

theorem lm_7 : trip_k0_t1.sl.r_106 arg3 arg7 arg9 arg10 arg11 arg12 X_arg3 X_arg7 X_arg9 X_arg10 X_arg11 X_arg12 k = (probB arg2 arg3 arg4 arg5 arg6 arg7 arg8 arg9 arg10 arg11 arg12 X_arg2 X_arg3 X_arg4 X_arg5 X_arg6 X_arg7 X_arg8 X_arg9 X_arg10 X_arg11 X_arg12 k 3).lm := by
  rfl

theorem inv_7 : trip_k0_t1.sl.r_648 arg3 arg7 arg9 arg10 arg11 arg12 X_arg3 X_arg7 X_arg9 X_arg10 X_arg11 X_arg12 k =
    inverse (trip_k0_t1.sl.r_106 arg3 arg7 arg9 arg10 arg11 arg12 X_arg3 X_arg7 X_arg9 X_arg10 X_arg11 X_arg12 k) := by
  delta trip_k0_t1.sl.r_648
  exact inverse_of (d0 := (trip_k0_t1.sl.r_114 arg3 arg7 arg9 arg10 arg11 arg12 X_arg3 X_arg7 X_arg9 X_arg10 X_arg11 X_arg12 k))
    (d2 := (trip_k0_t1.sl.r_158 arg3 arg7 arg9 arg10 arg11 arg12 X_arg3 X_arg7 X_arg9 X_arg10 X_arg11 X_arg12 k))
    (d3 := (trip_k0_t1.sl.r_433 arg3 arg7 arg9 arg10 arg11 arg12 X_arg3 X_arg7 X_arg9 X_arg10 X_arg11 X_arg12 k))
    (d4 := (trip_k0_t1.sl.r_520 arg3 arg7 arg9 arg10 arg11 arg12 X_arg3 X_arg7 X_arg9 X_arg10 X_arg11 X_arg12 k))
    (d5 := (trip_k0_t1.sl.r_564 arg3 arg7 arg9 arg10 arg11 arg12 X_arg3 X_arg7 X_arg9 X_arg10 X_arg11 X_arg12 k))
    (d6 := (trip_k0_t1.sl.r_600 arg3 arg7 arg9 arg10 arg11 arg12 X_arg3 X_arg7 X_arg9 X_arg10 X_arg11 X_arg12 k))
    (d7 := (trip_k0_t1.sl.r_629 arg3 arg7 arg9 arg10 arg11 arg12 X_arg3 X_arg7 X_arg9 X_arg10 X_arg11 X_arg12 k))
    rfl rfl rfl rfl rfl rfl rfl

theorem u_7 : trip_k0_t1.sl.r_696 arg3 arg4 arg7 arg8 arg9 arg10 arg11 arg12 X_arg3 X_arg4 X_arg7 X_arg8 X_arg9 X_arg10 X_arg11 X_arg12 k = left (probB arg2 arg3 arg4 arg5 arg6 arg7 arg8 arg9 arg10 arg11 arg12 X_arg2 X_arg3 X_arg4 X_arg5 X_arg6 X_arg7 X_arg8 X_arg9 X_arg10 X_arg11 X_arg12 k 3).uw := by
  delta trip_k0_t1.sl.r_696
  rw [inv_7, lm_7]
  rfl

theorem w_7 : trip_k0_t1.sl.r_697 arg3 arg4 arg7 arg8 arg9 arg10 arg11 arg12 X_arg3 X_arg4 X_arg7 X_arg8 X_arg9 X_arg10 X_arg11 X_arg12 k = half (right (probB arg2 arg3 arg4 arg5 arg6 arg7 arg8 arg9 arg10 arg11 arg12 X_arg2 X_arg3 X_arg4 X_arg5 X_arg6 X_arg7 X_arg8 X_arg9 X_arg10 X_arg11 X_arg12 k 3).uw) := by
  delta trip_k0_t1.sl.r_697
  rw [inv_7, lm_7]
  rfl

end

end Cert.Proof.Gdn

end
-- ==== Proof.GdnTokens.lean ====
module

public import proofs.«01_k».proof.Proof.GdnReal
public import proofs.«01_k».proof.Proof.GdnTrip
public import Mathlib.Analysis.SpecialFunctions.Log.Basic

@[expose] public section

set_option maxRecDepth 16384

noncomputable section

/-! What a token brings: the causal convolution of four taps through `x · sigmoid x`, the rows of length one, the log-decay and
the step size, each real under as little as it takes; and that the kernel's functions of a group's blocks give them. -/

namespace Cert.Proof.Gdn

open Cert.KernelIdeal Cert.KernelIdeal.Gen Idealize.ShloMosaic Idealize.ShloMosaic.TcCoe

/-- A number which is neither infinity. -/
def IsReal (x : EReal) : Prop := x = (x.toReal : EReal)

theorem IsReal.coe (a : ℝ) : IsReal (a : EReal) := by rw [IsReal, EReal.toReal_coe]

theorem IsReal.mul {x y : EReal} (hx : IsReal x) (hy : IsReal y) : IsReal (x * y) := by
  obtain ⟨a, rfl⟩ : ∃ a : ℝ, x = a := ⟨_, hx⟩
  obtain ⟨b, rfl⟩ : ∃ b : ℝ, y = b := ⟨_, hy⟩
  rw [← EReal.coe_mul]
  exact .coe _

theorem IsReal.add {x y : EReal} (hx : IsReal x) (hy : IsReal y) : IsReal (x + y) := by
  obtain ⟨a, rfl⟩ : ∃ a : ℝ, x = a := ⟨_, hx⟩
  obtain ⟨b, rfl⟩ : ∃ b : ℝ, y = b := ⟨_, hy⟩
  rw [← EReal.coe_add]
  exact .coe _

/-- The logistic function of any extended real is real. -/
theorem logis_real (x : EReal) : IsReal (Ideal.div 1 (1 + Ideal.exp (-x))) := by
  unfold IsReal
  induction x with
  | bot =>
    rw [EReal.neg_bot, show Ideal.exp (⊤ : EReal) = ⊤ from rfl, show (1 : EReal) + ⊤ = ⊤ from EReal.coe_add_top 1]
    simp [Ideal.div]
  | top =>
    rw [EReal.neg_top, show Ideal.exp (⊥ : EReal) = 0 from rfl]
    simp [Ideal.div]
  | coe r =>
    rw [← EReal.coe_neg, Ideal.exp_coe, ← EReal.coe_one, ← EReal.coe_add, Ideal.div_coe (by positivity), ← EReal.coe_mul, EReal.toReal_coe]

/-- `x · sigmoid x`. -/
def act (x : EReal) : EReal := x * Ideal.div 1 (1 + Ideal.exp (-x))

theorem IsReal.act {x : EReal} (h : IsReal x) : IsReal (act x) := h.mul (logis_real x)

/-- `log (1 + exp x)`. -/
def soft (x : EReal) : EReal := max x 0 + Ideal.log1p (Ideal.exp (-FloatOps.absf (F := Ideal) (φ := .f32) x))

theorem soft_real {x : EReal} (h : x ≠ ⊤) : IsReal (soft x) := by
  have small : ∀ a : ℝ, 0 ≤ a → IsReal (Ideal.log1p ((a : ℝ) : EReal)) := fun a ha => by
    rw [Ideal.log1p, ← EReal.coe_one, ← EReal.coe_add, Ideal.log_coe, if_neg (not_le.mpr (by positivity))]
    exact .coe _
  unfold soft
  refine .add ?_ ?_
  · rcases le_total x 0 with h0 | h0
    · rw [max_eq_right h0, ← EReal.coe_zero]
      exact .coe _
    · rw [max_eq_left h0]
      exact (EReal.coe_toReal h (fun hb => by rw [hb] at h0; simp at h0)).symm
  · rw [show FloatOps.absf (F := Ideal) (φ := .f32) x = max x (-x) from rfl]
    induction x with
    | bot =>
      rw [EReal.neg_bot, max_eq_right bot_le, EReal.neg_top, show Ideal.exp (⊥ : EReal) = ((0 : ℝ) : EReal) from rfl]
      exact small 0 le_rfl
    | top => exact absurd rfl h
    | coe r =>
      rw [← EReal.coe_neg, ← EReal.coe_strictMono.monotone.map_max, ← EReal.coe_neg, Ideal.exp_coe]
      exact small _ (Real.exp_pos _).le

/-- A log-decay is real if no number above it is `+∞`. -/
theorem decay_real {l a d : EReal} (hl : l ≠ ⊤) (ha : a ≠ ⊤) (hd : d ≠ ⊤) : IsReal (-Ideal.exp l * soft (a + d)) := by
  refine .mul ?_ (soft_real (EReal.add_ne_top ha hd))
  induction l with
  | bot =>
    rw [show Ideal.exp (⊥ : EReal) = ((0 : ℝ) : EReal) from rfl, ← EReal.coe_neg]
    exact .coe _
  | top => exact absurd rfl hl
  | coe r =>
    rw [Ideal.exp_coe, ← EReal.coe_neg]
    exact .coe _

/-- The small number under the roots. -/
def tiny : ℝ := 8796093 * (2 ^ 43)⁻¹

/-- The queries' scale. -/
def scale : ℝ := 11863283 * (2 ^ 27)⁻¹

theorem tiny_eq : Ideal.ofBits .f32 0x358637BD#32 = ((tiny : ℝ) : EReal) := by
  rw [tiny, EReal.coe_mul]
  simp [Ideal.ofBits, Ideal.ieee]

theorem tiny_pos : 0 < tiny := by
  unfold tiny
  positivity

theorem scale_eq : Ideal.ofBits .f32 0x3DB504F3#32 = ((scale : ℝ) : EReal) := by
  rw [scale, EReal.coe_mul]
  simp [Ideal.ofBits, Ideal.ieee]

/-- `d` tokens back, nothing before the first. -/
def back {n : ℕ} (X : ℕ → Fin n → EReal) (d t : ℕ) (c : Fin n) : EReal := if d ≤ t then X (t - d) c else 0

/-- The convolution of a column at token `t`. -/
def taps {n : ℕ} (X : ℕ → Fin n → EReal) (W : Fin 4 → Fin n → EReal) (t : ℕ) (c : Fin n) : EReal :=
  X t c * W 3 c + back X 3 t c * W 0 c + back X 2 t c * W 1 c + back X 1 t c * W 2 c

/-- The rows of a group, the eight rows before it and whether there are any. -/
structure Group {n : ℕ} (X : ℕ → Fin n → EReal) (s : ℕ) (f : BitVec 1) (x : FVec Ideal (Sh 256 n) .f32)
    (p : FVec Ideal (Sh 8 n) .f32) : Prop where
  mult : s = 0 ∨ 8 ≤ s
  first : f = if 0 < s then 1#1 else 0#1
  rows : ∀ (i : Fin 256) (c : Fin n), x (ix2 i c) = X (s + i) c
  prev : ∀ (i : Fin 8) (c : Fin n), 0 < s → p (ix2 i c) = X (s - 8 + i) c

theorem Group.back {n : ℕ} {X : ℕ → Fin n → EReal} {s : ℕ} {f : BitVec 1} {x : FVec Ideal (Sh 256 n) .f32}
    {p : FVec Ideal (Sh 8 n) .f32} (h : Group X s f x p) (d : ℕ) (hd : d ≤ 8) (i : Fin 256) (c : Fin n)
    (a : ℕ) (ha : a = (8 + i.val + 264 - d) % 264) (h1 : ∀ _ : a < 8, a < 8) (h2 : ∀ _ : ¬ a < 8, a - 8 < 256) :
    (if h : a < 8 then Scalar.select f (p (ix2 ⟨a, h1 h⟩ c)) (zeros (F := Ideal) (Sh 8 n) (ix2 ⟨a, h1 h⟩ c))
      else x (ix2 ⟨a - 8, h2 h⟩ c)) = Gdn.back X d (s + i) c := by
  have hi := i.isLt
  have ha' : a = 8 + i.val - d := by omega
  unfold Gdn.back
  by_cases hc : a < 8
  · rw [dif_pos hc, h.first, zeros_apply]
    rcases h.mult with hs | hs
    · rw [if_neg (by omega), if_neg (by omega), EReal.coe_zero]; rfl
    · rw [if_pos (by omega), if_pos (by omega), h.prev _ _ (by omega)]
      show X (s - 8 + a) c = _
      rw [show s - 8 + a = s + i - d by omega]
  · rw [dif_neg hc, if_pos (by omega), h.rows]
    show X (s + (a - 8)) c = _
    rw [show s + (a - 8) = s + i - d by omega]

theorem silu_at {n : ℕ} (x : FVec Ideal (Sh 256 n) .f32) (i : Fin 256) (c : Fin n) : mulf x (sigm x) (ix2 i c) = act (x (ix2 i c)) := by
  unfold sigm uno
  pointwise
  rw [zeros_apply, EReal.coe_zero, zero_sub]
  rfl

theorem conv128_at {X : ℕ → Fin 128 → EReal} {s : ℕ} {f : BitVec 1} {x : FVec Ideal (Sh 256 128) .f32}
    {p : FVec Ideal (Sh 8 128) .f32} (h : Group X s f x p) (W : Fin 4 → Fin 128 → EReal) {w0 w1 w2 w3 : FVec Ideal (Sh 1 128) .f32}
    (h0 : ∀ c, w0 (ix2 0 c) = W 0 c) (h1 : ∀ c, w1 (ix2 0 c) = W 1 c) (h2 : ∀ c, w2 (ix2 0 c) = W 2 c)
    (h3 : ∀ c, w3 (ix2 0 c) = W 3 c) (i : Fin 256) (c : Fin 128) :
    conv128 f x p w0 w1 w2 w3 (ix2 i c) = act (taps X W (s + i) c) := by
  unfold conv128 conv
  refine (silu_at _ i c).trans (congrArg act ?_)
  pointwise
  rw [h.back 3 (by omega) i c _ rfl, h.back 2 (by omega) i c _ rfl, h.back 1 (by omega) i c _ rfl, h.rows, h0, h1, h2, h3]
  rfl

theorem conv256_at {X : ℕ → Fin 256 → EReal} {s : ℕ} {f : BitVec 1} {x : FVec Ideal (Sh 256 256) .f32}
    {p : FVec Ideal (Sh 8 256) .f32} (h : Group X s f x p) (W : Fin 4 → Fin 256 → EReal) {w0 w1 w2 w3 : FVec Ideal (Sh 1 256) .f32}
    (h0 : ∀ c, w0 (ix2 0 c) = W 0 c) (h1 : ∀ c, w1 (ix2 0 c) = W 1 c) (h2 : ∀ c, w2 (ix2 0 c) = W 2 c)
    (h3 : ∀ c, w3 (ix2 0 c) = W 3 c) (i : Fin 256) (c : Fin 256) :
    conv256 f x p w0 w1 w2 w3 (ix2 i c) = act (taps X W (s + i) c) := by
  unfold conv256 conv
  refine (silu_at _ i c).trans (congrArg act ?_)
  pointwise
  rw [h.back 3 (by omega) i c _ rfl, h.back 2 (by omega) i c _ rfl, h.back 1 (by omega) i c _ rfl, h.rows, h0, h1, h2, h3]
  rfl

/-- The convolution of real columns by real taps is real. -/
theorem taps_real {n : ℕ} {X : ℕ → Fin n → EReal} {W : Fin 4 → Fin n → EReal} (hX : ∀ t c, IsReal (X t c)) (hW : ∀ j c, IsReal (W j c))
    (t : ℕ) (c : Fin n) : IsReal (taps X W t c) := by
  have hb : ∀ d, IsReal (back X d t c) := fun d => by
    unfold back
    split
    · exact hX _ _
    · rw [← EReal.coe_zero]
      exact .coe _
  exact (((hX t c).mul (hW 3 c)).add ((hb 3).mul (hW 0 c))).add ((hb 2).mul (hW 1 c)) |>.add ((hb 1).mul (hW 2 c))

theorem square_nonneg (x : EReal) : 0 ≤ x * x := by
  rcases le_total 0 x with h | h
  · exact mul_nonneg h h
  · rw [← neg_mul_neg]
    exact mul_nonneg (EReal.neg_nonneg.mpr h) (EReal.neg_nonneg.mpr h)

/-- A row over its length. -/
def len1 (r : Fin 128 → EReal) (d : Fin 128) : ℝ := (r d * Ideal.rsqrt ((∑ e, r e * r e) + ((tiny : ℝ) : EReal))).toReal

/-- It is real whatever the row is: over an infinite length every entry is zero. -/
theorem len1_eq (r : Fin 128 → EReal) (d : Fin 128) :
    r d * Ideal.rsqrt ((∑ e, r e * r e) + ((tiny : ℝ) : EReal)) = ((len1 r d : ℝ) : EReal) := by
  unfold len1
  by_cases h : ∀ e, IsReal (r e)
  · obtain ⟨s, rfl⟩ : ∃ s : Fin 128 → ℝ, r = fun e => (s e : EReal) := ⟨fun e => (r e).toReal, funext h⟩
    simp only [← EReal.coe_mul, coe_sum, ← EReal.coe_add]
    have h : 0 < (∑ e, s e * s e) + tiny :=
      add_pos_of_nonneg_of_pos (Finset.sum_nonneg fun e _ => mul_self_nonneg _) tiny_pos
    rw [Ideal.rsqrt_coe, if_neg (not_lt.mpr h.le), if_neg h.ne', ← EReal.coe_mul, EReal.toReal_coe]
  · obtain ⟨e, he⟩ := not_forall.mp h
    have hs : r e * r e = ⊤ := by
      generalize r e = x at he
      induction x with
      | bot => exact EReal.bot_mul_bot
      | top => exact EReal.top_mul_top
      | coe a => exact absurd (IsReal.coe a) he
    have ht : (∑ e, r e * r e) = ⊤ := top_unique (hs ▸
      Finset.single_le_sum (f := fun e => r e * r e) (fun i _ => square_nonneg (r i)) (Finset.mem_univ e))
    rw [ht, EReal.top_add_coe, show Ideal.rsqrt ⊤ = 0 from rfl, mul_zero, EReal.toReal_zero, EReal.coe_zero]

theorem unit_up (x : FVec Ideal (Sh 256 128) .f32) (A : Fin 256 → Fin 128 → EReal) (h : ∀ i c, x (ix2 i c) = A i c) :
    unit (F := Ideal) x = up (Matrix.of fun i d => len1 (A i) d) := by
  refine ext2 fun i j => ?_
  unfold unit eps
  pointwise
  rw [tiny_eq, up_ix2, Matrix.of_apply]
  simp only [h]
  exact len1_eq (A i) j

theorem scaled_up (A : Matrix (Fin 256) (Fin 128) ℝ) : scaled (F := Ideal) (up A) = up (Matrix.of fun i d => A i d * scale) := by
  refine ext2 fun i j => ?_
  unfold scaled
  pointwise
  rw [scale_eq]
  simp only [up_ix2, Matrix.of_apply, ← EReal.coe_mul]

theorem gRow_up (a : FVec Ideal S1x1x1x256 .f32) (dtb alog : FVec Ideal S1x1x256 .f32) (A : Fin 256 → EReal) (D L : EReal)
    (hL : L ≠ ⊤) (hA : ∀ j, A j ≠ ⊤) (hD : D ≠ ⊤)
    (ha : ∀ j, a (ix4 0 0 0 j) = A j) (hd : ∀ j, dtb (ix3 0 0 j) = D) (hl : ∀ j, alog (ix3 0 0 j) = L) :
    gRow a dtb alog = up (row fun j => (-Ideal.exp L * soft (A j + D)).toReal) := by
  refine ext2 fun i j => ?_
  rw [Subsingleton.elim i 0, up_ix2, row_apply, ← decay_real hL (hA j) hD]
  unfold gRow soft
  pointwise
  rw [ha, hd, hl, zeros_apply, EReal.coe_zero, zero_sub, zero_sub]

end Cert.Proof.Gdn

end
-- ==== Proof.GdnGroups.lean ====
module

public import proofs.«01_k».proof.Proof.GdnTrip

@[expose] public section

set_option maxRecDepth 100000
set_option maxHeartbeats 1000000

noncomputable section

/-! The states that a trip carries on and the rows it stores, as functions of its eight problems. -/

namespace Cert.Proof.Gdn

open Cert.KernelIdeal Cert.KernelIdeal.Gen Idealize.ShloMosaic Idealize.ShloMosaic.TcCoe

variable {F : FTy → Type} [FloatOps F]

/-- The state before each of the four groups. -/
def before (P : Fin 4 → Prob F) (s : FVec F S128x128 .f32) : ℕ → FVec F S128x128 .f32
  | 0 => s
  | n + 1 => if h : n < 4 then (P ⟨n, h⟩).next (before P s n) else before P s n

section
variable (𝒱 : Variants)
  (c : Dev nD)
  (bd : Option 𝒱.V)
  (i : grid0.Coords)
  (arg2 : Memref sig .tc .vmem S4096x128 .f32)
  (harg2 : arg2.IsWhole)
  (arg3 : Memref sig .tc .vmem S4096x128 .f32)
  (harg3 : arg3.IsWhole)
  (arg4 : Memref sig .tc .vmem S4096x256 .f32)
  (harg4 : arg4.IsWhole)
  (arg5 : Memref sig .tc .vmem S4096x256 .f32)
  (harg5 : arg5.IsWhole)
  (arg6 : Memref sig .tc .vmem S4x128 .f32)
  (harg6 : arg6.IsWhole)
  (arg7 : Memref sig .tc .vmem S4x128 .f32)
  (harg7 : arg7.IsWhole)
  (arg8 : Memref sig .tc .vmem S4x256 .f32)
  (harg8 : arg8.IsWhole)
  (arg9 : Memref sig .tc .vmem S1x1x2x4096 .f32)
  (harg9 : arg9.IsWhole)
  (arg10 : Memref sig .tc .vmem S1x1x2x4096 .f32)
  (harg10 : arg10.IsWhole)
  (arg11 : Memref sig .tc .vmem S1x2x256 .f32)
  (harg11 : arg11.IsWhole)
  (arg12 : Memref sig .tc .vmem S1x2x256 .f32)
  (harg12 : arg12.IsWhole)
  (arg13 : Memref sig .tc .vmem S1x128 .f32)
  (harg13 : arg13.IsWhole)
  (arg14 : Memref sig .tc .vmem S4096x256 .bf16)
  (harg14 : arg14.IsWhole)
  (X_arg2 : BufTy.Contents (Elt F) arg2.view.ty)
  (X_arg3 : BufTy.Contents (Elt F) arg3.view.ty)
  (X_arg4 : BufTy.Contents (Elt F) arg4.view.ty)
  (X_arg5 : BufTy.Contents (Elt F) arg5.view.ty)
  (X_arg6 : BufTy.Contents (Elt F) arg6.view.ty)
  (X_arg7 : BufTy.Contents (Elt F) arg7.view.ty)
  (X_arg8 : BufTy.Contents (Elt F) arg8.view.ty)
  (X_arg9 : BufTy.Contents (Elt F) arg9.view.ty)
  (X_arg10 : BufTy.Contents (Elt F) arg10.view.ty)
  (X_arg11 : BufTy.Contents (Elt F) arg11.view.ty)
  (X_arg12 : BufTy.Contents (Elt F) arg12.view.ty)
  (X_arg13 : BufTy.Contents (Elt F) arg13.view.ty)
  (k : Fin k0_t1_loop.trips)
  (acc : FVec F S128x128 .f32 × FVec F S128x128 .f32)

theorem next_0 : trip_k0_t1.sl.r_703 arg3 arg4 arg7 arg8 arg9 arg10 arg11 arg12 X_arg3 X_arg4 X_arg7 X_arg8 X_arg9 X_arg10 X_arg11 X_arg12 k acc = (probA arg2 arg3 arg4 arg5 arg6 arg7 arg8 arg9 arg10 arg11 arg12 X_arg2 X_arg3 X_arg4 X_arg5 X_arg6 X_arg7 X_arg8 X_arg9 X_arg10 X_arg11 X_arg12 k 0).next acc.1 := by
  delta trip_k0_t1.sl.r_703
  rw [u_0, w_0]
  rfl

theorem next_1 : trip_k0_t1.sl.r_706 arg3 arg4 arg7 arg8 arg9 arg10 arg11 arg12 X_arg3 X_arg4 X_arg7 X_arg8 X_arg9 X_arg10 X_arg11 X_arg12 k acc = (probB arg2 arg3 arg4 arg5 arg6 arg7 arg8 arg9 arg10 arg11 arg12 X_arg2 X_arg3 X_arg4 X_arg5 X_arg6 X_arg7 X_arg8 X_arg9 X_arg10 X_arg11 X_arg12 k 0).next acc.2 := by
  delta trip_k0_t1.sl.r_706
  rw [u_1, w_1]
  rfl

theorem next_2 : trip_k0_t1.sl.r_709 arg3 arg4 arg7 arg8 arg9 arg10 arg11 arg12 X_arg3 X_arg4 X_arg7 X_arg8 X_arg9 X_arg10 X_arg11 X_arg12 k acc = (probA arg2 arg3 arg4 arg5 arg6 arg7 arg8 arg9 arg10 arg11 arg12 X_arg2 X_arg3 X_arg4 X_arg5 X_arg6 X_arg7 X_arg8 X_arg9 X_arg10 X_arg11 X_arg12 k 1).next (trip_k0_t1.sl.r_703 arg3 arg4 arg7 arg8 arg9 arg10 arg11 arg12 X_arg3 X_arg4 X_arg7 X_arg8 X_arg9 X_arg10 X_arg11 X_arg12 k acc) := by
  delta trip_k0_t1.sl.r_709
  rw [u_2, w_2]
  rfl

theorem next_3 : trip_k0_t1.sl.r_712 arg3 arg4 arg7 arg8 arg9 arg10 arg11 arg12 X_arg3 X_arg4 X_arg7 X_arg8 X_arg9 X_arg10 X_arg11 X_arg12 k acc = (probB arg2 arg3 arg4 arg5 arg6 arg7 arg8 arg9 arg10 arg11 arg12 X_arg2 X_arg3 X_arg4 X_arg5 X_arg6 X_arg7 X_arg8 X_arg9 X_arg10 X_arg11 X_arg12 k 1).next (trip_k0_t1.sl.r_706 arg3 arg4 arg7 arg8 arg9 arg10 arg11 arg12 X_arg3 X_arg4 X_arg7 X_arg8 X_arg9 X_arg10 X_arg11 X_arg12 k acc) := by
  delta trip_k0_t1.sl.r_712
  rw [u_3, w_3]
  rfl

theorem next_4 : trip_k0_t1.sl.r_716 arg3 arg4 arg7 arg8 arg9 arg10 arg11 arg12 X_arg3 X_arg4 X_arg7 X_arg8 X_arg9 X_arg10 X_arg11 X_arg12 k acc = (probA arg2 arg3 arg4 arg5 arg6 arg7 arg8 arg9 arg10 arg11 arg12 X_arg2 X_arg3 X_arg4 X_arg5 X_arg6 X_arg7 X_arg8 X_arg9 X_arg10 X_arg11 X_arg12 k 2).next (trip_k0_t1.sl.r_709 arg3 arg4 arg7 arg8 arg9 arg10 arg11 arg12 X_arg3 X_arg4 X_arg7 X_arg8 X_arg9 X_arg10 X_arg11 X_arg12 k acc) := by
  delta trip_k0_t1.sl.r_716
  rw [u_4, w_4]
  rfl

theorem next_5 : trip_k0_t1.sl.r_720 arg3 arg4 arg7 arg8 arg9 arg10 arg11 arg12 X_arg3 X_arg4 X_arg7 X_arg8 X_arg9 X_arg10 X_arg11 X_arg12 k acc = (probB arg2 arg3 arg4 arg5 arg6 arg7 arg8 arg9 arg10 arg11 arg12 X_arg2 X_arg3 X_arg4 X_arg5 X_arg6 X_arg7 X_arg8 X_arg9 X_arg10 X_arg11 X_arg12 k 2).next (trip_k0_t1.sl.r_712 arg3 arg4 arg7 arg8 arg9 arg10 arg11 arg12 X_arg3 X_arg4 X_arg7 X_arg8 X_arg9 X_arg10 X_arg11 X_arg12 k acc) := by
  delta trip_k0_t1.sl.r_720
  rw [u_5, w_5]
  rfl

theorem next_6 : trip_k0_t1.sl.r_723 arg3 arg4 arg7 arg8 arg9 arg10 arg11 arg12 X_arg3 X_arg4 X_arg7 X_arg8 X_arg9 X_arg10 X_arg11 X_arg12 k acc = (probA arg2 arg3 arg4 arg5 arg6 arg7 arg8 arg9 arg10 arg11 arg12 X_arg2 X_arg3 X_arg4 X_arg5 X_arg6 X_arg7 X_arg8 X_arg9 X_arg10 X_arg11 X_arg12 k 3).next (trip_k0_t1.sl.r_716 arg3 arg4 arg7 arg8 arg9 arg10 arg11 arg12 X_arg3 X_arg4 X_arg7 X_arg8 X_arg9 X_arg10 X_arg11 X_arg12 k acc) := by
  delta trip_k0_t1.sl.r_723
  rw [u_6, w_6]
  rfl

theorem next_7 : trip_k0_t1.sl.r_724 arg3 arg4 arg7 arg8 arg9 arg10 arg11 arg12 X_arg3 X_arg4 X_arg7 X_arg8 X_arg9 X_arg10 X_arg11 X_arg12 k acc = (probB arg2 arg3 arg4 arg5 arg6 arg7 arg8 arg9 arg10 arg11 arg12 X_arg2 X_arg3 X_arg4 X_arg5 X_arg6 X_arg7 X_arg8 X_arg9 X_arg10 X_arg11 X_arg12 k 3).next (trip_k0_t1.sl.r_720 arg3 arg4 arg7 arg8 arg9 arg10 arg11 arg12 X_arg3 X_arg4 X_arg7 X_arg8 X_arg9 X_arg10 X_arg11 X_arg12 k acc) := by
  delta trip_k0_t1.sl.r_724
  rw [u_7, w_7]
  rfl

/-- The states after a trip. -/
theorem trip_states : tripR_k0_t1 𝒱 c bd i arg2 harg2 arg3 harg3 arg4 harg4 arg5 harg5 arg6 harg6 arg7 harg7 arg8 harg8 arg9 harg9 arg10 harg10 arg11 harg11 arg12 harg12 arg13 harg13 arg14 harg14 X_arg2 X_arg3 X_arg4 X_arg5 X_arg6 X_arg7 X_arg8 X_arg9 X_arg10 X_arg11 X_arg12 X_arg13 k acc = ((before (probA arg2 arg3 arg4 arg5 arg6 arg7 arg8 arg9 arg10 arg11 arg12 X_arg2 X_arg3 X_arg4 X_arg5 X_arg6 X_arg7 X_arg8 X_arg9 X_arg10 X_arg11 X_arg12 k) acc.1 4), (before (probB arg2 arg3 arg4 arg5 arg6 arg7 arg8 arg9 arg10 arg11 arg12 X_arg2 X_arg3 X_arg4 X_arg5 X_arg6 X_arg7 X_arg8 X_arg9 X_arg10 X_arg11 X_arg12 k) acc.2 4)) := by
  unfold tripR_k0_t1 trip_k0_t1
  dsimp only
  rw [next_7, next_6, next_5, next_4, next_3, next_2, next_1, next_0]
  rfl

/-- What a trip stores, last first. -/
theorem trip_stores : tripL_k0_t1 𝒱 c bd i arg2 harg2 arg3 harg3 arg4 harg4 arg5 harg5 arg6 harg6 arg7 harg7 arg8 harg8 arg9 harg9 arg10 harg10 arg11 harg11 arg12 harg12 arg13 harg13 arg14 harg14 X_arg2 X_arg3 X_arg4 X_arg5 X_arg6 X_arg7 X_arg8 X_arg9 X_arg10 X_arg11 X_arg12 X_arg13 k acc =
    [⟨Rect.unit (s := S4096x256) (k0_off8 k 3#32) ![256, 128] (k0_off8_inb k 3), (probB arg2 arg3 arg4 arg5 arg6 arg7 arg8 arg9 arg10 arg11 arg12 X_arg2 X_arg3 X_arg4 X_arg5 X_arg6 X_arg7 X_arg8 X_arg9 X_arg10 X_arg11 X_arg12 k 3).y (View.readAt (Elt F) arg13.view (Rect.unit (s := S1x128) ![0, 0] S1x128.size inb_S1x128_S1x128_0_0).toLoadRect X_arg13) (before (probB arg2 arg3 arg4 arg5 arg6 arg7 arg8 arg9 arg10 arg11 arg12 X_arg2 X_arg3 X_arg4 X_arg5 X_arg6 X_arg7 X_arg8 X_arg9 X_arg10 X_arg11 X_arg12 k) acc.2 3)⟩,
      ⟨Rect.unit (s := S4096x256) (k0_off7 k 3#32) ![256, 128] (k0_off7_inb k 3), (probA arg2 arg3 arg4 arg5 arg6 arg7 arg8 arg9 arg10 arg11 arg12 X_arg2 X_arg3 X_arg4 X_arg5 X_arg6 X_arg7 X_arg8 X_arg9 X_arg10 X_arg11 X_arg12 k 3).y (View.readAt (Elt F) arg13.view (Rect.unit (s := S1x128) ![0, 0] S1x128.size inb_S1x128_S1x128_0_0).toLoadRect X_arg13) (before (probA arg2 arg3 arg4 arg5 arg6 arg7 arg8 arg9 arg10 arg11 arg12 X_arg2 X_arg3 X_arg4 X_arg5 X_arg6 X_arg7 X_arg8 X_arg9 X_arg10 X_arg11 X_arg12 k) acc.1 3)⟩,
      ⟨Rect.unit (s := S4096x256) (k0_off8 k 2#32) ![256, 128] (k0_off8_inb k 2), (probB arg2 arg3 arg4 arg5 arg6 arg7 arg8 arg9 arg10 arg11 arg12 X_arg2 X_arg3 X_arg4 X_arg5 X_arg6 X_arg7 X_arg8 X_arg9 X_arg10 X_arg11 X_arg12 k 2).y (View.readAt (Elt F) arg13.view (Rect.unit (s := S1x128) ![0, 0] S1x128.size inb_S1x128_S1x128_0_0).toLoadRect X_arg13) (before (probB arg2 arg3 arg4 arg5 arg6 arg7 arg8 arg9 arg10 arg11 arg12 X_arg2 X_arg3 X_arg4 X_arg5 X_arg6 X_arg7 X_arg8 X_arg9 X_arg10 X_arg11 X_arg12 k) acc.2 2)⟩,
      ⟨Rect.unit (s := S4096x256) (k0_off7 k 2#32) ![256, 128] (k0_off7_inb k 2), (probA arg2 arg3 arg4 arg5 arg6 arg7 arg8 arg9 arg10 arg11 arg12 X_arg2 X_arg3 X_arg4 X_arg5 X_arg6 X_arg7 X_arg8 X_arg9 X_arg10 X_arg11 X_arg12 k 2).y (View.readAt (Elt F) arg13.view (Rect.unit (s := S1x128) ![0, 0] S1x128.size inb_S1x128_S1x128_0_0).toLoadRect X_arg13) (before (probA arg2 arg3 arg4 arg5 arg6 arg7 arg8 arg9 arg10 arg11 arg12 X_arg2 X_arg3 X_arg4 X_arg5 X_arg6 X_arg7 X_arg8 X_arg9 X_arg10 X_arg11 X_arg12 k) acc.1 2)⟩,
      ⟨Rect.unit (s := S4096x256) (k0_off8 k 1#32) ![256, 128] (k0_off8_inb k 1), (probB arg2 arg3 arg4 arg5 arg6 arg7 arg8 arg9 arg10 arg11 arg12 X_arg2 X_arg3 X_arg4 X_arg5 X_arg6 X_arg7 X_arg8 X_arg9 X_arg10 X_arg11 X_arg12 k 1).y (View.readAt (Elt F) arg13.view (Rect.unit (s := S1x128) ![0, 0] S1x128.size inb_S1x128_S1x128_0_0).toLoadRect X_arg13) (before (probB arg2 arg3 arg4 arg5 arg6 arg7 arg8 arg9 arg10 arg11 arg12 X_arg2 X_arg3 X_arg4 X_arg5 X_arg6 X_arg7 X_arg8 X_arg9 X_arg10 X_arg11 X_arg12 k) acc.2 1)⟩,
      ⟨Rect.unit (s := S4096x256) (k0_off7 k 1#32) ![256, 128] (k0_off7_inb k 1), (probA arg2 arg3 arg4 arg5 arg6 arg7 arg8 arg9 arg10 arg11 arg12 X_arg2 X_arg3 X_arg4 X_arg5 X_arg6 X_arg7 X_arg8 X_arg9 X_arg10 X_arg11 X_arg12 k 1).y (View.readAt (Elt F) arg13.view (Rect.unit (s := S1x128) ![0, 0] S1x128.size inb_S1x128_S1x128_0_0).toLoadRect X_arg13) (before (probA arg2 arg3 arg4 arg5 arg6 arg7 arg8 arg9 arg10 arg11 arg12 X_arg2 X_arg3 X_arg4 X_arg5 X_arg6 X_arg7 X_arg8 X_arg9 X_arg10 X_arg11 X_arg12 k) acc.1 1)⟩,
      ⟨Rect.unit (s := S4096x256) (k0_off8 k 0#32) ![256, 128] (k0_off8_inb k 0), (probB arg2 arg3 arg4 arg5 arg6 arg7 arg8 arg9 arg10 arg11 arg12 X_arg2 X_arg3 X_arg4 X_arg5 X_arg6 X_arg7 X_arg8 X_arg9 X_arg10 X_arg11 X_arg12 k 0).y (View.readAt (Elt F) arg13.view (Rect.unit (s := S1x128) ![0, 0] S1x128.size inb_S1x128_S1x128_0_0).toLoadRect X_arg13) (before (probB arg2 arg3 arg4 arg5 arg6 arg7 arg8 arg9 arg10 arg11 arg12 X_arg2 X_arg3 X_arg4 X_arg5 X_arg6 X_arg7 X_arg8 X_arg9 X_arg10 X_arg11 X_arg12 k) acc.2 0)⟩,
      ⟨Rect.unit (s := S4096x256) (k0_off7 k 0#32) ![256, 128] (k0_off7_inb k 0), (probA arg2 arg3 arg4 arg5 arg6 arg7 arg8 arg9 arg10 arg11 arg12 X_arg2 X_arg3 X_arg4 X_arg5 X_arg6 X_arg7 X_arg8 X_arg9 X_arg10 X_arg11 X_arg12 k 0).y (View.readAt (Elt F) arg13.view (Rect.unit (s := S1x128) ![0, 0] S1x128.size inb_S1x128_S1x128_0_0).toLoadRect X_arg13) (before (probA arg2 arg3 arg4 arg5 arg6 arg7 arg8 arg9 arg10 arg11 arg12 X_arg2 X_arg3 X_arg4 X_arg5 X_arg6 X_arg7 X_arg8 X_arg9 X_arg10 X_arg11 X_arg12 k) acc.1 0)⟩] := by
  unfold tripL_k0_t1 trip_k0_t1
  dsimp only
  delta trip_k0_t1.sl.r_702 trip_k0_t1.sl.r_704 trip_k0_t1.sl.r_705 trip_k0_t1.sl.r_707 trip_k0_t1.sl.r_708 trip_k0_t1.sl.r_711 trip_k0_t1.sl.r_714 trip_k0_t1.sl.r_718 trip_k0_t1.sl.r_721 trip_k0_t1.sl.r_726
  rw [u_0, w_0, u_1, w_1, u_2, w_2, u_3, w_3, u_4, w_4, u_5, w_5, u_6, w_6, u_7, w_7, next_5, next_4, next_3, next_2, next_1, next_0]
  rfl

end

end Cert.Proof.Gdn

end
-- ==== Proof.GdnBlock.lean ====
module

public import proofs.«01_k».proof.Proof.GdnTokens
public import proofs.«01_k».proof.Proof.GdnGroups
public import Idealize.ShloMosaic.Lib.WholeRead

@[expose] public section

set_option maxRecDepth 100000
set_option maxHeartbeats 1000000

noncomputable section

/-! The problems of a block, real where the contents have to be. -/

namespace Cert.Proof.Gdn

open Cert.KernelIdeal Cert.KernelIdeal.Gen Idealize.ShloMosaic Idealize.ShloMosaic.TcCoe

/-- A row of outputs with length `√128`, times the norm's weights and the gate. -/
def gate (o : Fin 128 → ℝ) (n z : Fin 128 → EReal) (e : Fin 128) : EReal :=
  ((o e * (Real.sqrt ((∑ d, o d * o d) * (1 / 128) + tiny))⁻¹ : ℝ) : EReal) * n e * (z e * Ideal.div 1 (1 + Ideal.exp (-z e)))

/-- What the two heads of a query head have over the sequence: columns of the projections, taps, and the heads' numbers. -/
structure Data where
  Q : ℕ → Fin 128 → EReal
  K : ℕ → Fin 128 → EReal
  V : ℕ → Fin 256 → EReal
  Z : ℕ → Fin 256 → EReal
  WQ : Fin 4 → Fin 128 → EReal
  WK : Fin 4 → Fin 128 → EReal
  WV : Fin 4 → Fin 256 → EReal
  a : Fin 2 → ℕ → EReal
  b : Fin 2 → ℕ → EReal
  al : Fin 2 → EReal
  dt : Fin 2 → EReal
  N : Fin 128 → EReal

/-- Column `e` of head `r`. -/
def col2 (r : Fin 2) (e : Fin 128) : Fin 256 := ⟨128 * r.val + e.val, by omega⟩

namespace Data

variable (D : Data)

def q (t : ℕ) (d : Fin 128) : ℝ := len1 (fun e => act (taps D.Q D.WQ t e)) d * scale
def k (t : ℕ) (d : Fin 128) : ℝ := len1 (fun e => act (taps D.K D.WK t e)) d
def v (r : Fin 2) (t : ℕ) (e : Fin 128) : ℝ := (act (taps D.V D.WV t (col2 r e))).toReal
def g (r : Fin 2) (t : ℕ) : ℝ := (-Ideal.exp (D.al r) * soft (D.a r t + D.dt r)).toReal
def β (r : Fin 2) (t : ℕ) : ℝ := (Ideal.div 1 (1 + Ideal.exp (-D.b r t))).toReal

/-- What head `r` reads at token `t`. -/
def o (r : Fin 2) (t : ℕ) (e : Fin 128) : ℝ := ∑ d, D.q t d * state D.k (D.v r) (D.g r) (D.β r) (t + 1) d e

/-- The result of head `r` at token `t`. -/
def y (r : Fin 2) (t : ℕ) (e : Fin 128) : EReal := gate (D.o r t) D.N (fun e => D.Z t (col2 r e)) e

/-- What has to be real, and what must not be `+∞`. -/
structure Real : Prop where
  V : ∀ t c, IsReal (D.V t c)
  WV : ∀ j c, IsReal (D.WV j c)
  a : ∀ r t, D.a r t ≠ ⊤
  al : ∀ r, D.al r ≠ ⊤
  dt : ∀ r, D.dt r ≠ ⊤

end Data

/-- The blocks hold the data. -/
structure Reads (D : Data) (x0 x1 : S4096x128.Idx → EReal) (x2 x3 : S4096x256.Idx → EReal) (x4 x5 : S4x128.Idx → EReal)
    (x6 : S4x256.Idx → EReal) (x7 x8 : S1x1x2x4096.Idx → EReal) (x9 x10 : S1x2x256.Idx → EReal) (x11 : S1x128.Idx → EReal) : Prop where
  q : ∀ t c, x0 (ix2 t c) = D.Q t.val c
  k : ∀ t c, x1 (ix2 t c) = D.K t.val c
  v : ∀ t c, x2 (ix2 t c) = D.V t.val c
  z : ∀ t c, x3 (ix2 t c) = D.Z t.val c
  wq : ∀ t c, x4 (ix2 t c) = D.WQ t c
  wk : ∀ t c, x5 (ix2 t c) = D.WK t c
  wv : ∀ t c, x6 (ix2 t c) = D.WV t c
  a : ∀ r t, x7 (ix4 0 0 r t) = D.a r t.val
  b : ∀ r t, x8 (ix4 0 0 r t) = D.b r t.val
  al : ∀ r j, x9 (ix3 0 r j) = D.al r
  dt : ∀ r j, x10 (ix3 0 r j) = D.dt r
  n : ∀ e, x11 (ix2 0 e) = D.N e
  real : D.Real

/-! ## Reading a rectangle of a whole block -/

section
variable {M N m n : ℕ} (A : Memref sig .tc .vmem (Sh M N) .f32) (hA : A.IsWhole) (X : (Sh M N).Idx → EReal)

theorem rd2 (off : Fin 2 → ℕ) (inb : ∀ a, off a + (![m, n] : Fin 2 → ℕ) a ≤ (Sh M N).size a) (r0 c0 : ℕ) (h : off = ![r0, c0])
    (i : Fin m) (j : Fin n) (hr : r0 + i.val < M) (hc : c0 + j.val < N) :
    View.readAt (Elt Ideal) A.view (Rect.unit (s := Sh M N) off ![m, n] inb).toLoadRect (hA.unread X) (ix2 i j)
      = X (ix2 ⟨r0 + i, hr⟩ ⟨c0 + j, hc⟩) := by
  rw [hA.readAt_unread]
  congr 1
  subst h
  refine (eq_ix2 _).trans ?_
  refine congrArg₂ ix2 (Fin.ext ?_) (Fin.ext ?_)
  · exact Rect.idx_unit_val _ _ _ _ _
  · exact Rect.idx_unit_val _ _ _ _ _
end

theorem off1_eq : ∀ (k : Fin k0_t1_loop.trips) (g : Fin 4), k0_off1 k (BitVec.ofNat 32 g.val) = ![256 * (4 * k.val + g.val), 0] := by
  decide +kernel
theorem off2_eq : ∀ (k : Fin k0_t1_loop.trips) (g : Fin 4), k0_off2 k (BitVec.ofNat 32 g.val) = ![256 * (4 * k.val + g.val) - 8, 0] := by
  decide +kernel
theorem off3_eq : ∀ (k : Fin k0_t1_loop.trips) (g : Fin 4), k0_off3 k (BitVec.ofNat 32 g.val) = ![256 * (4 * k.val + g.val), 0] := by
  decide +kernel
theorem off4_eq : ∀ (k : Fin k0_t1_loop.trips) (g : Fin 4), k0_off4 k (BitVec.ofNat 32 g.val) = ![256 * (4 * k.val + g.val) - 8, 0] := by
  decide +kernel
theorem off5_eq : ∀ (k : Fin k0_t1_loop.trips) (g : Fin 4), k0_off5 k (BitVec.ofNat 32 g.val) = ![0, 0, 0, 256 * (4 * k.val + g.val)] := by
  decide +kernel
theorem off6_eq : ∀ (k : Fin k0_t1_loop.trips) (g : Fin 4), k0_off6 k (BitVec.ofNat 32 g.val) = ![0, 0, 1, 256 * (4 * k.val + g.val)] := by
  decide +kernel
theorem off7_eq : ∀ (k : Fin k0_t1_loop.trips) (g : Fin 4), k0_off7 k (BitVec.ofNat 32 g.val) = ![256 * (4 * k.val + g.val), 0] := by
  decide +kernel
theorem off8_eq : ∀ (k : Fin k0_t1_loop.trips) (g : Fin 4), k0_off8 k (BitVec.ofNat 32 g.val) = ![256 * (4 * k.val + g.val), 128] := by
  decide +kernel
theorem first_eq : ∀ (k : Fin k0_t1_loop.trips) (g : Fin 4), first k g = if 0 < 256 * (4 * k.val + g.val) then 1#1 else 0#1 := by
  decide +kernel
theorem trips_eq : k0_t1_loop.trips = 4 := by decide +kernel

theorem group_lt (k : Fin k0_t1_loop.trips) (g : Fin 4) : 256 * (4 * k.val + g.val) + 256 ≤ 4096 := by
  have h := k.isLt.trans_eq trips_eq
  omega

section
variable {M N m n : ℕ} (A : Memref sig .tc .vmem S1x1x2x4096 .f32) (hA : A.IsWhole) (X : S1x1x2x4096.Idx → EReal)

theorem rd4 (off : Fin 4 → ℕ) (inb : ∀ a, off a + S1x1x1x256.size a ≤ S1x1x2x4096.size a) (r : Fin 2) (c0 : ℕ)
    (h : off = ![0, 0, r.val, c0]) (j : Fin 256) (hc : c0 + j.val < 4096) :
    View.readAt (Elt Ideal) A.view (Rect.unit (s := S1x1x2x4096) off S1x1x1x256.size inb).toLoadRect (hA.unread X) (ix4 0 0 0 j)
      = X (ix4 0 0 r ⟨c0 + j, hc⟩) := by
  rw [hA.readAt_unread]
  congr 1
  subst h
  funext a
  refine Fin.ext ((Rect.idx_unit_val _ _ _ _ _).trans ?_)
  fin_cases a <;> rfl
end

section
variable {M N m n : ℕ} (A : Memref sig .tc .vmem S1x2x256 .f32) (hA : A.IsWhole) (X : S1x2x256.Idx → EReal)

theorem rd3 (off : Fin 3 → ℕ) (inb : ∀ a, off a + S1x1x256.size a ≤ S1x2x256.size a) (r : Fin 2)
    (h : off = ![0, r.val, 0]) (j : Fin 256) :
    View.readAt (Elt Ideal) A.view (Rect.unit (s := S1x2x256) off S1x1x256.size inb).toLoadRect (hA.unread X) (ix3 0 0 j)
      = X (ix3 0 r j) := by
  rw [hA.readAt_unread]
  congr 1
  subst h
  funext a
  refine Fin.ext ((Rect.idx_unit_val _ _ _ _ _).trans ?_)
  fin_cases a
  · rfl
  · rfl
  · exact Nat.zero_add _
end

/-! ## The problems -/

section
variable {arg2 : Memref sig .tc .vmem S4096x128 .f32} (harg2 : arg2.IsWhole)
  {arg3 : Memref sig .tc .vmem S4096x128 .f32} (harg3 : arg3.IsWhole)
  {arg4 : Memref sig .tc .vmem S4096x256 .f32} (harg4 : arg4.IsWhole)
  {arg5 : Memref sig .tc .vmem S4096x256 .f32} (harg5 : arg5.IsWhole)
  {arg6 : Memref sig .tc .vmem S4x128 .f32} (harg6 : arg6.IsWhole)
  {arg7 : Memref sig .tc .vmem S4x128 .f32} (harg7 : arg7.IsWhole)
  {arg8 : Memref sig .tc .vmem S4x256 .f32} (harg8 : arg8.IsWhole)
  {arg9 : Memref sig .tc .vmem S1x1x2x4096 .f32} (harg9 : arg9.IsWhole)
  {arg10 : Memref sig .tc .vmem S1x1x2x4096 .f32} (harg10 : arg10.IsWhole)
  {arg11 : Memref sig .tc .vmem S1x2x256 .f32} (harg11 : arg11.IsWhole)
  {arg12 : Memref sig .tc .vmem S1x2x256 .f32} (harg12 : arg12.IsWhole)
  {arg13 : Memref sig .tc .vmem S1x128 .f32} (harg13 : arg13.IsWhole)
  {D : Data} {x0 x1 : S4096x128.Idx → EReal} {x2 x3 : S4096x256.Idx → EReal} {x4 x5 : S4x128.Idx → EReal}
  {x6 : S4x256.Idx → EReal} {x7 x8 : S1x1x2x4096.Idx → EReal} {x9 x10 : S1x2x256.Idx → EReal} {x11 : S1x128.Idx → EReal}
  (h : Reads D x0 x1 x2 x3 x4 x5 x6 x7 x8 x9 x10 x11) (k : Fin k0_t1_loop.trips) (g : Fin 4)

/-- The rows of group `g` of trip `k`, of a block of 128 columns. -/
theorem group128 {A : Memref sig .tc .vmem S4096x128 .f32} (hA : A.IsWhole) {X : S4096x128.Idx → EReal} {R : ℕ → Fin 128 → EReal}
    (hX : ∀ t c, X (ix2 t c) = R t.val c) :
    Group R (256 * (4 * k.val + g.val)) (first k g)
      (View.readAt (Elt Ideal) A.view (Rect.unit (s := S4096x128) (k0_off1 k (BitVec.ofNat 32 g.val)) S256x128.size (k0_off1_inb k g)).toLoadRect (hA.unread X))
      (View.readAt (Elt Ideal) A.view (Rect.unit (s := S4096x128) (k0_off2 k (BitVec.ofNat 32 g.val)) S8x128.size (k0_off2_inb k g)).toLoadRect (hA.unread X)) where
  mult := by omega
  first := first_eq k g
  rows i c := by
    have hl := group_lt k g
    refine (rd2 A hA X _ _ _ 0 (off1_eq k g) i c (by omega) (by omega)).trans ?_
    rw [hX]
    simp
  prev i c h := by
    have hl := group_lt k g
    refine (rd2 A hA X _ _ _ 0 (off2_eq k g) i c (by omega) (by omega)).trans ?_
    rw [hX]
    simp

theorem group256 {A : Memref sig .tc .vmem S4096x256 .f32} (hA : A.IsWhole) {X : S4096x256.Idx → EReal} {R : ℕ → Fin 256 → EReal}
    (hX : ∀ t c, X (ix2 t c) = R t.val c) :
    Group R (256 * (4 * k.val + g.val)) (first k g)
      (View.readAt (Elt Ideal) A.view (Rect.unit (s := S4096x256) (k0_off3 k (BitVec.ofNat 32 g.val)) S256x256.size (k0_off3_inb k g)).toLoadRect (hA.unread X))
      (View.readAt (Elt Ideal) A.view (Rect.unit (s := S4096x256) (k0_off4 k (BitVec.ofNat 32 g.val)) S8x256.size (k0_off4_inb k g)).toLoadRect (hA.unread X)) where
  mult := by omega
  first := first_eq k g
  rows i c := by
    have hl := group_lt k g
    refine (rd2 A hA X _ _ _ 0 (off3_eq k g) i c (by omega) (by omega)).trans ?_
    rw [hX]
    simp
  prev i c h := by
    have hl := group_lt k g
    refine (rd2 A hA X _ _ _ 0 (off4_eq k g) i c (by omega) (by omega)).trans ?_
    rw [hX]
    simp

theorem betaRow_of (b : FVec Ideal S1x1x1x256 .f32) (B : Fin 256 → EReal) (hb : ∀ j, b (ix4 0 0 0 j) = B j) :
    betaRow b = up (row fun j => (Ideal.div 1 (1 + Ideal.exp (-B j))).toReal) := by
  refine ext2 fun i j => ?_
  rw [Subsingleton.elim i 0]
  unfold betaRow sigm uno
  pointwise
  rw [hb, zeros_apply, EReal.coe_zero, zero_sub, up_ix2, row_apply]
  exact logis_real _

theorem conv256_up {X : ℕ → Fin 256 → EReal} {s : ℕ} {f : BitVec 1} {x : FVec Ideal (Sh 256 256) .f32}
    {p : FVec Ideal (Sh 8 256) .f32} (h : Group X s f x p) {W : Fin 4 → Fin 256 → EReal} (hX : ∀ t c, IsReal (X t c))
    (hW : ∀ j c, IsReal (W j c)) {w0 w1 w2 w3 : FVec Ideal (Sh 1 256) .f32} (h0 : ∀ c, w0 (ix2 0 c) = W 0 c)
    (h1 : ∀ c, w1 (ix2 0 c) = W 1 c) (h2 : ∀ c, w2 (ix2 0 c) = W 2 c) (h3 : ∀ c, w3 (ix2 0 c) = W 3 c) :
    conv256 f x p w0 w1 w2 w3 = up (Matrix.of fun (i : Fin 256) c => (act (taps X W (s + i) c)).toReal) := by
  refine ext2 fun i c => ?_
  rw [conv256_at h W h0 h1 h2 h3, up_ix2, Matrix.of_apply]
  exact (taps_real hX hW _ _).act

theorem left_cols (A : Matrix (Fin 256) (Fin 256) ℝ) : left (F := Ideal) (up A) = up (Matrix.of fun i e => A i (col2 0 e)) := by
  refine ext2 fun i j => ?_
  unfold left
  pointwise
  rw [up_ix2, up_ix2]
  refine congrArg (fun c => ((A i c : ℝ) : EReal)) (Fin.ext ?_)
  simp [col2]

theorem right_cols (A : Matrix (Fin 256) (Fin 256) ℝ) : right (F := Ideal) (up A) = up (Matrix.of fun i e => A i (col2 1 e)) := by
  refine ext2 fun i j => ?_
  unfold right
  pointwise
  rw [up_ix2, up_ix2]
  refine congrArg (fun c => ((A i c : ℝ) : EReal)) (Fin.ext ?_)
  simp [col2]

/-- A row of a whole block. -/
theorem rowRead {M n : ℕ} (A : Memref sig .tc .vmem (Sh M n) .f32) (hA : A.IsWhole) {X : (Sh M n).Idx → EReal} {W : Fin M → Fin n → EReal}
    (hX : ∀ t c, X (ix2 t c) = W t c) (r : Fin M)
    (inb : ∀ a, (![r.val, 0] : Fin 2 → ℕ) a + (![1, n] : Fin 2 → ℕ) a ≤ (Sh M n).size a) (j : Fin n) :
    View.readAt (Elt Ideal) A.view (Rect.unit (s := Sh M n) ![r.val, 0] ![1, n] inb).toLoadRect (hA.unread X) (ix2 0 j) = W r j := by
  refine (rd2 A hA X _ _ _ 0 rfl 0 j (by exact r.isLt) (by omega)).trans ?_
  rw [hX]
  simp

include h in
theorem holdsA : Holds D.q D.k (D.v 0) (D.g 0) (D.β 0)
    (probA arg2 arg3 arg4 arg5 arg6 arg7 arg8 arg9 arg10 arg11 arg12 (harg2.unread x0) (harg3.unread x1) (harg4.unread x2)
      (harg5.unread x3) (harg6.unread x4) (harg7.unread x5) (harg8.unread x6) (harg9.unread x7) (harg10.unread x8)
      (harg11.unread x9) (harg12.unread x10) k g) (256 * (4 * k.val + g.val)) where
  q := (congrArg scaled (unit_up _ _ (conv128_at (group128 k g harg2 h.q) D.WQ (rowRead arg6 harg6 h.wq 0 _) (rowRead arg6 harg6 h.wq 1 _)
      (rowRead arg6 harg6 h.wq 2 _) (rowRead arg6 harg6 h.wq 3 _)))).trans (scaled_up _)
  k := unit_up _ _ (conv128_at (group128 k g harg3 h.k) D.WK (rowRead arg7 harg7 h.wk 0 _) (rowRead arg7 harg7 h.wk 1 _)
      (rowRead arg7 harg7 h.wk 2 _) (rowRead arg7 harg7 h.wk 3 _))
  v := (congrArg left (conv256_up (group256 k g harg4 h.v) h.real.V h.real.WV (rowRead arg8 harg8 h.wv 0 _) (rowRead arg8 harg8 h.wv 1 _)
      (rowRead arg8 harg8 h.wv 2 _) (rowRead arg8 harg8 h.wv 3 _))).trans (left_cols _)
  g := by
    have hl := group_lt k g
    unfold probA
    dsimp only
    refine gRow_up _ _ _ (fun j : Fin 256 => D.a 0 (256 * (4 * k.val + g.val) + j)) (D.dt 0) (D.al 0) (h.real.al _) (fun j => h.real.a _ _)
      (h.real.dt _) (fun j => ?_) (fun j => ?_) fun j => ?_
    · exact (rd4 arg9 harg9 x7 _ _ 0 _ (off5_eq k g) j (by omega)).trans (h.a _ _)
    · exact (rd3 arg12 harg12 x10 _ _ 0 rfl j).trans (h.dt _ _)
    · exact (rd3 arg11 harg11 x9 _ _ 0 rfl j).trans (h.al _ _)
  b := by
    have hl := group_lt k g
    unfold probA
    dsimp only
    refine betaRow_of _ (fun j : Fin 256 => D.b 0 (256 * (4 * k.val + g.val) + j)) fun j => ?_
    exact (rd4 arg10 harg10 x8 _ _ 0 _ (off5_eq k g) j (by omega)).trans (h.b _ _)

include h in
theorem holdsB : Holds D.q D.k (D.v 1) (D.g 1) (D.β 1)
    (probB arg2 arg3 arg4 arg5 arg6 arg7 arg8 arg9 arg10 arg11 arg12 (harg2.unread x0) (harg3.unread x1) (harg4.unread x2)
      (harg5.unread x3) (harg6.unread x4) (harg7.unread x5) (harg8.unread x6) (harg9.unread x7) (harg10.unread x8)
      (harg11.unread x9) (harg12.unread x10) k g) (256 * (4 * k.val + g.val)) where
  q := (congrArg scaled (unit_up _ _ (conv128_at (group128 k g harg2 h.q) D.WQ (rowRead arg6 harg6 h.wq 0 _) (rowRead arg6 harg6 h.wq 1 _)
      (rowRead arg6 harg6 h.wq 2 _) (rowRead arg6 harg6 h.wq 3 _)))).trans (scaled_up _)
  k := unit_up _ _ (conv128_at (group128 k g harg3 h.k) D.WK (rowRead arg7 harg7 h.wk 0 _) (rowRead arg7 harg7 h.wk 1 _)
      (rowRead arg7 harg7 h.wk 2 _) (rowRead arg7 harg7 h.wk 3 _))
  v := (congrArg right (conv256_up (group256 k g harg4 h.v) h.real.V h.real.WV (rowRead arg8 harg8 h.wv 0 _) (rowRead arg8 harg8 h.wv 1 _)
      (rowRead arg8 harg8 h.wv 2 _) (rowRead arg8 harg8 h.wv 3 _))).trans (right_cols _)
  g := by
    have hl := group_lt k g
    unfold probB
    dsimp only
    refine gRow_up _ _ _ (fun j : Fin 256 => D.a 1 (256 * (4 * k.val + g.val) + j)) (D.dt 1) (D.al 1) (h.real.al _) (fun j => h.real.a _ _)
      (h.real.dt _) (fun j => ?_) (fun j => ?_) fun j => ?_
    · exact (rd4 arg9 harg9 x7 _ _ 1 _ (off6_eq k g) j (by omega)).trans (h.a _ _)
    · exact (rd3 arg12 harg12 x10 _ _ 1 rfl j).trans (h.dt _ _)
    · exact (rd3 arg11 harg11 x9 _ _ 1 rfl j).trans (h.al _ _)
  b := by
    have hl := group_lt k g
    unfold probB
    dsimp only
    refine betaRow_of _ (fun j : Fin 256 => D.b 1 (256 * (4 * k.val + g.val) + j)) fun j => ?_
    exact (rd4 arg10 harg10 x8 _ _ 1 _ (off6_eq k g) j (by omega)).trans (h.b _ _)

end

end Cert.Proof.Gdn

end
-- ==== Proof.GdnTrips.lean ====
module

public import proofs.«01_k».proof.Proof.GdnBlock

@[expose] public section

set_option maxRecDepth 100000
set_option maxHeartbeats 1000000

noncomputable section

/-! The trips of the loop over a block whose contents are real: the states they carry and what they store. -/

namespace Cert.Proof.Gdn

open Cert.KernelIdeal Cert.KernelIdeal.Gen Idealize.ShloMosaic Idealize.ShloMosaic.TcCoe

theorem width_eq : Ideal.ofBits .f32 0x43000000#32 = ((128 : ℝ) : EReal) := by
  have h : ((8388608 : ℝ) : EReal) * (((2 ^ 16)⁻¹ : ℝ) : EReal) = ((128 : ℝ) : EReal) := by
    rw [← EReal.coe_mul]
    norm_num
  simpa [Ideal.ofBits, Ideal.ieee] using h

theorem gated_up (O : Matrix (Fin 256) (Fin 128) ℝ) (Z : FVec Ideal S256x128 .f32) (N : FVec Ideal S1x128 .f32) (i : Fin 256) (e : Fin 128) :
    gated (F := Ideal) (up O) Z N (ix2 i e) = gate (O i) (fun e => N (ix2 0 e)) (fun e => Z (ix2 i e)) e := by
  unfold gated wide half eps sigm uno
  pointwise
  rw [tiny_eq, width_eq, zeros_apply, EReal.coe_zero, zero_sub]
  simp only [up_ix2, Matrix.of_apply, ← EReal.coe_mul, coe_sum]
  rw [Ideal.div_coe (by norm_num), ← EReal.coe_mul, ← EReal.coe_add]
  have h : 0 < (∑ e, O i e * O i e) * (1 / 128) + tiny :=
    add_pos_of_nonneg_of_pos (mul_nonneg (Finset.sum_nonneg fun e _ => mul_self_nonneg _) (by norm_num)) tiny_pos
  rw [Ideal.rsqrt_coe, if_neg (not_lt.mpr h.le), if_neg h.ne', ← EReal.coe_mul]
  rfl

section
variable {q k v : ℕ → Fin 128 → ℝ} {g b : ℕ → ℝ}

theorem before_up {P : Fin 4 → Prob Ideal} {s : ℕ} (h : ∀ n : Fin 4, Holds q k v g b (P n) (s + 256 * n.val)) :
    ∀ n ≤ 4, before P (up (stateAt k v g b s)) n = up (stateAt k v g b (s + 256 * n))
  | 0, _ => rfl
  | n + 1, hn => by
    show (if h : n < 4 then (P ⟨n, h⟩).next (before P _ n) else before P _ n) = _
    rw [dif_pos (by omega), before_up h n (by omega)]
    exact (h ⟨n, by omega⟩).next

theorem y_up {p : Prob Ideal} {s : ℕ} (h : Holds q k v g b p s) (on : FVec Ideal S1x128 .f32) (i : Fin 256) (e : Fin 128) :
    p.y on (up (stateAt k v g b s)) (ix2 i e)
      = gate (fun e => ∑ d, q (s + i) d * state k v g b (s + i + 1) d e) (fun e => on (ix2 0 e)) (fun e => p.z (ix2 i e)) e := by
  unfold Prob.y
  rw [h.out]
  exact gated_up _ _ _ _ _

end

/-- The result of a block, by rows and columns. -/
def Data.block (D : Data) (y : S4096x256.Idx) : EReal :=
  D.y ⟨(y 1).val / 128, Nat.div_lt_of_lt_mul (y 1).isLt⟩ (y 0).val ⟨(y 1).val % 128, Nat.mod_lt _ (by norm_num)⟩

theorem block_emb (D : Data) (r : Fin 2) (off : Fin 2 → ℕ) (inb : ∀ a, off a + (![256, 128] : Fin 2 → ℕ) a ≤ S4096x256.size a) (s : ℕ)
    (h : off = ![s, 128 * r.val]) (i : Fin 256) (e : Fin 128) :
    D.block ((Rect.unit (s := S4096x256) off ![256, 128] inb).emb (ix2 i e)) = D.y r (s + i) e := by
  subst h
  have h0 : (((Rect.unit (s := S4096x256) ![s, 128 * r.val] ![256, 128] inb).emb (ix2 i e)) 0).val = s + i.val :=
    congrArg (s + ·) (one_mul _)
  have h1 : (((Rect.unit (s := S4096x256) ![s, 128 * r.val] ![256, 128] inb).emb (ix2 i e)) 1).val = 128 * r.val + e.val :=
    congrArg (128 * r.val + ·) (one_mul _)
  unfold Data.block
  congr 1
  · exact Fin.ext (by show _ / 128 = _; rw [h1]; omega)
  · exact Fin.ext (by show _ % 128 = _; rw [h1]; omega)

section
variable (𝒱 : Variants)
  (c : Dev nD)
  (bd : Option 𝒱.V)
  (i : grid0.Coords)
  (arg2 : Memref sig .tc .vmem S4096x128 .f32)
  (harg2 : arg2.IsWhole)
  (arg3 : Memref sig .tc .vmem S4096x128 .f32)
  (harg3 : arg3.IsWhole)
  (arg4 : Memref sig .tc .vmem S4096x256 .f32)
  (harg4 : arg4.IsWhole)
  (arg5 : Memref sig .tc .vmem S4096x256 .f32)
  (harg5 : arg5.IsWhole)
  (arg6 : Memref sig .tc .vmem S4x128 .f32)
  (harg6 : arg6.IsWhole)
  (arg7 : Memref sig .tc .vmem S4x128 .f32)
  (harg7 : arg7.IsWhole)
  (arg8 : Memref sig .tc .vmem S4x256 .f32)
  (harg8 : arg8.IsWhole)
  (arg9 : Memref sig .tc .vmem S1x1x2x4096 .f32)
  (harg9 : arg9.IsWhole)
  (arg10 : Memref sig .tc .vmem S1x1x2x4096 .f32)
  (harg10 : arg10.IsWhole)
  (arg11 : Memref sig .tc .vmem S1x2x256 .f32)
  (harg11 : arg11.IsWhole)
  (arg12 : Memref sig .tc .vmem S1x2x256 .f32)
  (harg12 : arg12.IsWhole)
  (arg13 : Memref sig .tc .vmem S1x128 .f32)
  (harg13 : arg13.IsWhole)
  (arg14 : Memref sig .tc .vmem S4096x256 .bf16)
  (harg14 : arg14.IsWhole)
  {D : Data} {x0 x1 : S4096x128.Idx → EReal} {x2 x3 : S4096x256.Idx → EReal} {x4 x5 : S4x128.Idx → EReal}
  {x6 : S4x256.Idx → EReal} {x7 x8 : S1x1x2x4096.Idx → EReal} {x9 x10 : S1x2x256.Idx → EReal} {x11 : S1x128.Idx → EReal}
  (h : Reads D x0 x1 x2 x3 x4 x5 x6 x7 x8 x9 x10 x11)

/-- The states before group `n` of the block. -/
def Data.states (D : Data) (n : ℕ) : FVec Ideal S128x128 .f32 × FVec Ideal S128x128 .f32 :=
  (up (stateAt D.k (D.v 0) (D.g 0) (D.β 0) (256 * n)), up (stateAt D.k (D.v 1) (D.g 1) (D.β 1) (256 * n)))

include h in
theorem trip_next (k : Fin k0_t1_loop.trips) :
    tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 (harg2.unread x0) (harg3.unread x1) (harg4.unread x2) (harg5.unread x3) (harg6.unread x4) (harg7.unread x5) (harg8.unread x6) (harg9.unread x7) (harg10.unread x8) (harg11.unread x9) (harg12.unread x10) (harg13.unread x11) k (D.states (4 * k.val)) = D.states (4 * (k.val + 1)) := by
  rw [trip_states]
  refine Prod.ext ?_ ?_
  · refine (before_up (q := D.q) (fun n => ?_) 4 le_rfl).trans ?_
    · have := holdsA harg2 harg3 harg4 harg5 harg6 harg7 harg8 harg9 harg10 harg11 harg12 h k n
      rwa [Nat.mul_add] at this
    · rw [show 256 * (4 * k.val) + 256 * 4 = 256 * (4 * (k.val + 1)) by ring]
      rfl
  · refine (before_up (q := D.q) (fun n => ?_) 4 le_rfl).trans ?_
    · have := holdsB harg2 harg3 harg4 harg5 harg6 harg7 harg8 harg9 harg10 harg11 harg12 h k n
      rwa [Nat.mul_add] at this
    · rw [show 256 * (4 * k.val) + 256 * 4 = 256 * (4 * (k.val + 1)) by ring]
      rfl

include h in
theorem storeA (k : Fin k0_t1_loop.trips) (g : Fin 4) (x) :
    (probA arg2 arg3 arg4 arg5 arg6 arg7 arg8 arg9 arg10 arg11 arg12 (harg2.unread x0) (harg3.unread x1) (harg4.unread x2) (harg5.unread x3) (harg6.unread x4) (harg7.unread x5) (harg8.unread x6) (harg9.unread x7) (harg10.unread x8) (harg11.unread x9) (harg12.unread x10) k g).y (View.readAt (Elt Ideal) arg13.view (Rect.unit (s := S1x128) ![0, 0] S1x128.size inb_S1x128_S1x128_0_0).toLoadRect (harg13.unread x11))
      (before (probA arg2 arg3 arg4 arg5 arg6 arg7 arg8 arg9 arg10 arg11 arg12 (harg2.unread x0) (harg3.unread x1) (harg4.unread x2) (harg5.unread x3) (harg6.unread x4) (harg7.unread x5) (harg8.unread x6) (harg9.unread x7) (harg10.unread x8) (harg11.unread x9) (harg12.unread x10) k) (D.states (4 * k.val)).1 g.val) x
      = D.block ((Rect.unit (s := S4096x256) (k0_off7 k (BitVec.ofNat 32 g.val)) ![256, 128] (k0_off7_inb k g)).emb x) := by
  have hl := group_lt k g
  obtain ⟨i, e, rfl⟩ : ∃ (i : Fin 256) (e : Fin 128), x = ix2 i e := ⟨_, _, eq_ix2 x⟩
  rw [block_emb D 0 _ _ _ (off7_eq k g), show (D.states (4 * k.val)).1 = up (stateAt D.k (D.v 0) (D.g 0) (D.β 0) (256 * (4 * k.val))) from rfl,
    before_up (q := D.q) (fun n => by simpa only [Nat.mul_add] using holdsA harg2 harg3 harg4 harg5 harg6 harg7 harg8 harg9 harg10 harg11 harg12 h k n) g.val (by omega), ← Nat.mul_add]
  refine (y_up (holdsA harg2 harg3 harg4 harg5 harg6 harg7 harg8 harg9 harg10 harg11 harg12 h k g) _ i e).trans ?_
  refine congrArg₂ (fun n z => gate (D.o 0 (256 * (4 * k.val + g.val) + i)) n z e) (funext fun e => ?_) (funext fun e => ?_)
  · refine (rd2 arg13 harg13 x11 _ _ 0 0 rfl 0 e (by decide) (by omega)).trans ?_
    rw [← h.n e]
    simp
  · exact (rd2 arg5 harg5 x3 _ _ _ 0 (off7_eq k g) i e (by omega) (by omega)).trans ((h.z _ _).trans (by simp [col2]))

include h in
theorem storeB (k : Fin k0_t1_loop.trips) (g : Fin 4) (x) :
    (probB arg2 arg3 arg4 arg5 arg6 arg7 arg8 arg9 arg10 arg11 arg12 (harg2.unread x0) (harg3.unread x1) (harg4.unread x2) (harg5.unread x3) (harg6.unread x4) (harg7.unread x5) (harg8.unread x6) (harg9.unread x7) (harg10.unread x8) (harg11.unread x9) (harg12.unread x10) k g).y (View.readAt (Elt Ideal) arg13.view (Rect.unit (s := S1x128) ![0, 0] S1x128.size inb_S1x128_S1x128_0_0).toLoadRect (harg13.unread x11))
      (before (probB arg2 arg3 arg4 arg5 arg6 arg7 arg8 arg9 arg10 arg11 arg12 (harg2.unread x0) (harg3.unread x1) (harg4.unread x2) (harg5.unread x3) (harg6.unread x4) (harg7.unread x5) (harg8.unread x6) (harg9.unread x7) (harg10.unread x8) (harg11.unread x9) (harg12.unread x10) k) (D.states (4 * k.val)).2 g.val) x
      = D.block ((Rect.unit (s := S4096x256) (k0_off8 k (BitVec.ofNat 32 g.val)) ![256, 128] (k0_off8_inb k g)).emb x) := by
  have hl := group_lt k g
  obtain ⟨i, e, rfl⟩ : ∃ (i : Fin 256) (e : Fin 128), x = ix2 i e := ⟨_, _, eq_ix2 x⟩
  rw [block_emb D 1 _ _ _ (off8_eq k g), show (D.states (4 * k.val)).2 = up (stateAt D.k (D.v 1) (D.g 1) (D.β 1) (256 * (4 * k.val))) from rfl,
    before_up (q := D.q) (fun n => by simpa only [Nat.mul_add] using holdsB harg2 harg3 harg4 harg5 harg6 harg7 harg8 harg9 harg10 harg11 harg12 h k n) g.val (by omega), ← Nat.mul_add]
  refine (y_up (holdsB harg2 harg3 harg4 harg5 harg6 harg7 harg8 harg9 harg10 harg11 harg12 h k g) _ i e).trans ?_
  refine congrArg₂ (fun n z => gate (D.o 1 (256 * (4 * k.val + g.val) + i)) n z e) (funext fun e => ?_) (funext fun e => ?_)
  · refine (rd2 arg13 harg13 x11 _ _ 0 0 rfl 0 e (by decide) (by omega)).trans ?_
    rw [← h.n e]
    simp
  · exact (rd2 arg5 harg5 x3 _ _ _ 128 (off8_eq k g) i e (by omega) (by omega)).trans ((h.z _ _).trans (by simp [col2]))

include h in
/-- What a trip stores is the block's result. -/
theorem trip_block (k : Fin k0_t1_loop.trips) :
    ∀ p ∈ tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 (harg2.unread x0) (harg3.unread x1) (harg4.unread x2) (harg5.unread x3) (harg6.unread x4) (harg7.unread x5) (harg8.unread x6) (harg9.unread x7) (harg10.unread x8) (harg11.unread x9) (harg12.unread x10) (harg13.unread x11) k (D.states (4 * k.val)), ∀ x, p.2 x = D.block (p.1.emb x) := by
  rw [trip_stores]
  intro p hp
  simp only [List.mem_cons, List.not_mem_nil, or_false] at hp
  rcases hp with rfl | rfl | rfl | rfl | rfl | rfl | rfl | rfl
  · exact storeB arg2 harg2 arg3 harg3 arg4 harg4 arg5 harg5 arg6 harg6 arg7 harg7 arg8 harg8 arg9 harg9 arg10 harg10 arg11 harg11 arg12 harg12 arg13 harg13 h k 3
  · exact storeA arg2 harg2 arg3 harg3 arg4 harg4 arg5 harg5 arg6 harg6 arg7 harg7 arg8 harg8 arg9 harg9 arg10 harg10 arg11 harg11 arg12 harg12 arg13 harg13 h k 3
  · exact storeB arg2 harg2 arg3 harg3 arg4 harg4 arg5 harg5 arg6 harg6 arg7 harg7 arg8 harg8 arg9 harg9 arg10 harg10 arg11 harg11 arg12 harg12 arg13 harg13 h k 2
  · exact storeA arg2 harg2 arg3 harg3 arg4 harg4 arg5 harg5 arg6 harg6 arg7 harg7 arg8 harg8 arg9 harg9 arg10 harg10 arg11 harg11 arg12 harg12 arg13 harg13 h k 2
  · exact storeB arg2 harg2 arg3 harg3 arg4 harg4 arg5 harg5 arg6 harg6 arg7 harg7 arg8 harg8 arg9 harg9 arg10 harg10 arg11 harg11 arg12 harg12 arg13 harg13 h k 1
  · exact storeA arg2 harg2 arg3 harg3 arg4 harg4 arg5 harg5 arg6 harg6 arg7 harg7 arg8 harg8 arg9 harg9 arg10 harg10 arg11 harg11 arg12 harg12 arg13 harg13 h k 1
  · exact storeB arg2 harg2 arg3 harg3 arg4 harg4 arg5 harg5 arg6 harg6 arg7 harg7 arg8 harg8 arg9 harg9 arg10 harg10 arg11 harg11 arg12 harg12 arg13 harg13 h k 0
  · exact storeA arg2 harg2 arg3 harg3 arg4 harg4 arg5 harg5 arg6 harg6 arg7 harg7 arg8 harg8 arg9 harg9 arg10 harg10 arg11 harg11 arg12 harg12 arg13 harg13 h k 0

include h in
/-- The loop's carried states and stores after `k` trips. -/
theorem loop_block (init) (hi : init = D.states 0) : ∀ k ≤ 4,
    (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 (harg2.unread x0) (harg3.unread x1) (harg4.unread x2) (harg5.unread x3) (harg6.unread x4) (harg7.unread x5) (harg8.unread x6) (harg9.unread x7) (harg10.unread x8) (harg11.unread x9) (harg12.unread x10) (harg13.unread x11) init k).1 = D.states (4 * k)
      ∧ ∀ p ∈ (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 (harg2.unread x0) (harg3.unread x1) (harg4.unread x2) (harg5.unread x3) (harg6.unread x4) (harg7.unread x5) (harg8.unread x6) (harg9.unread x7) (harg10.unread x8) (harg11.unread x9) (harg12.unread x10) (harg13.unread x11) init k).2, ∀ x, p.2 x = D.block (p.1.emb x)
  | 0, _ => ⟨hi, fun p hp => absurd hp List.not_mem_nil⟩
  | k + 1, hk => by
    have ih := loop_block init hi k (by omega)
    have hk' : k < k0_t1_loop.trips := by rw [trips_eq]; omega
    rw [st_k0_t1_succ 𝒱 c bd i arg2 harg2 arg3 harg3 arg4 harg4 arg5 harg5 arg6 harg6 arg7 harg7 arg8 harg8 arg9 harg9 arg10 harg10 arg11 harg11 arg12 harg12 arg13 harg13 arg14 harg14 (harg2.unread x0) (harg3.unread x1) (harg4.unread x2) (harg5.unread x3) (harg6.unread x4) (harg7.unread x5) (harg8.unread x6) (harg9.unread x7) (harg10.unread x8) (harg11.unread x9) (harg12.unread x10) (harg13.unread x11) init ⟨k, hk'⟩]
    dsimp only
    rw [ih.1]
    refine ⟨trip_next 𝒱 c bd i arg2 harg2 arg3 harg3 arg4 harg4 arg5 harg5 arg6 harg6 arg7 harg7 arg8 harg8 arg9 harg9 arg10 harg10 arg11 harg11 arg12 harg12 arg13 harg13 arg14 harg14 h ⟨k, hk'⟩, fun p hp => ?_⟩
    rcases List.mem_append.mp hp with hp | hp
    · exact trip_block 𝒱 c bd i arg2 harg2 arg3 harg3 arg4 harg4 arg5 harg5 arg6 harg6 arg7 harg7 arg8 harg8 arg9 harg9 arg10 harg10 arg11 harg11 arg12 harg12 arg13 harg13 arg14 harg14 h ⟨k, hk'⟩ p hp
    · exact ih.2 p hp

end

end Cert.Proof.Gdn

end
-- ==== Proof.GdnOut.lean ====
module

public import proofs.«01_k».proof.Proof.GdnTrips
public import proofs.«01_k».proof.Proof.Gen.KernelIdeal.Value

@[expose] public section

set_option maxRecDepth 100000
set_option maxHeartbeats 1000000

noncomputable section

/-! The block the kernel leaves. -/

namespace Cert.Proof.Gdn

open Cert.KernelIdeal Cert.KernelIdeal.Gen Idealize.ShloMosaic Idealize.ShloMosaic.TcCoe

theorem init_eq (D : Data) : (k0_pay6 (F := Ideal), k0_pay7 (F := Ideal)) = D.states 0 := by
  refine Prod.ext ?_ ?_ <;>
  · refine ext2 fun i j => ?_
    show Ideal.ofBits .f32 0x00000000#32 = (((0 : ℝ)) : EReal)
    exact Ideal.ofBits_zero_f32

section
variable (c : Dev nD)
  (i : grid0.Coords)
  (arg2 : Memref sig .tc .vmem S4096x128 .f32)
  (harg2 : arg2.IsWhole)
  (arg3 : Memref sig .tc .vmem S4096x128 .f32)
  (harg3 : arg3.IsWhole)
  (arg4 : Memref sig .tc .vmem S4096x256 .f32)
  (harg4 : arg4.IsWhole)
  (arg5 : Memref sig .tc .vmem S4096x256 .f32)
  (harg5 : arg5.IsWhole)
  (arg6 : Memref sig .tc .vmem S4x128 .f32)
  (harg6 : arg6.IsWhole)
  (arg7 : Memref sig .tc .vmem S4x128 .f32)
  (harg7 : arg7.IsWhole)
  (arg8 : Memref sig .tc .vmem S4x256 .f32)
  (harg8 : arg8.IsWhole)
  (arg9 : Memref sig .tc .vmem S1x1x2x4096 .f32)
  (harg9 : arg9.IsWhole)
  (arg10 : Memref sig .tc .vmem S1x1x2x4096 .f32)
  (harg10 : arg10.IsWhole)
  (arg11 : Memref sig .tc .vmem S1x2x256 .f32)
  (harg11 : arg11.IsWhole)
  (arg12 : Memref sig .tc .vmem S1x2x256 .f32)
  (harg12 : arg12.IsWhole)
  (arg13 : Memref sig .tc .vmem S1x128 .f32)
  (harg13 : arg13.IsWhole)
  (arg14 : Memref sig .tc .vmem S4096x256 .bf16)
  (harg14 : arg14.IsWhole)
  {D : Data} {x0 x1 : S4096x128.Idx → EReal} {x2 x3 : S4096x256.Idx → EReal} {x4 x5 : S4x128.Idx → EReal}
  {x6 : S4x256.Idx → EReal} {x7 x8 : S1x1x2x4096.Idx → EReal} {x9 x10 : S1x2x256.Idx → EReal} {x11 : S1x128.Idx → EReal}
  (h : Reads D x0 x1 x2 x3 x4 x5 x6 x7 x8 x9 x10 x11)

include h in
theorem run_block : ∀ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).1, ∀ x, p.2 x = D.block (p.1.emb x) :=
  (loop_block Variants.none c none i arg2 harg2 arg3 harg3 arg4 harg4 arg5 harg5 arg6 harg6 arg7 harg7 arg8 harg8 arg9 harg9 arg10 harg10 arg11 harg11 arg12 harg12 arg13 harg13 arg14 harg14 h _ (init_eq D) 4 le_rfl).2

include h in
theorem out_block : out0_A_12 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 = D.block := by
  funext y
  unfold out0_A_12
  exact View.read_writes_apply_of_pieces _ _ D.block _ (run_block c i arg2 harg2 arg3 harg3 arg4 harg4 arg5 harg5 arg6 harg6 arg7 harg7 arg8 harg8 arg9 harg9 arg10 harg10 arg11 harg11 arg12 harg12 arg13 harg13 arg14 harg14 h) y
    (cover0_A_12 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 y)

end

end Cert.Proof.Gdn

end
-- ==== Proof.GdnData.lean ====
module

public import proofs.«01_k».proof.Proof.GdnBlock

@[expose] public section

noncomputable section

/-! The data of a sequence's head, read from the whole arrays. -/

namespace Cert.Proof.Gdn

open Idealize.ShloMosaic

/-- A matrix of `ℕ × ℕ`, zero outside. -/
def at2 {M N : ℕ} (X : (Sh M N).Idx → EReal) (i j : ℕ) : EReal := if h : i < M ∧ j < N then X (ix2 ⟨i, h.1⟩ ⟨j, h.2⟩) else 0

theorem at2_eq {M N : ℕ} (X : (Sh M N).Idx → EReal) (i : Fin M) (j : Fin N) (a b : ℕ) (ha : a = i.val) (hb : b = j.val) :
    at2 X a b = X (ix2 i j) := by
  subst ha hb
  exact dif_pos ⟨i.isLt, j.isLt⟩

/-- The six arguments. -/
structure Args where
  x0 : (Sh 16384 12288).Idx → EReal
  x1 : (Sh 16384 128).Idx → EReal
  x2 : (Sh 4 8192).Idx → EReal
  x3 : (⟨1, ![32]⟩ : Shape).Idx → EReal
  x4 : (⟨1, ![32]⟩ : Shape).Idx → EReal
  x5 : (⟨1, ![128]⟩ : Shape).Idx → EReal

namespace Args

variable (X : Args)

/-- Value head `r` of head `h`. -/
def head (h : Fin 16) (r : Fin 2) : Fin 32 := ⟨2 * h.val + r.val, by omega⟩

/-- The data of head `h` of sequence `n`. -/
def data (n : Fin 4) (h : Fin 16) : Data where
  Q t c := at2 X.x0 (4096 * n + t) (128 * h + c)
  K t c := at2 X.x0 (4096 * n + t) (2048 + 128 * h + c)
  V t c := at2 X.x0 (4096 * n + t) (4096 + 256 * h + c)
  Z t c := at2 X.x0 (4096 * n + t) (8192 + 256 * h + c)
  WQ j c := at2 X.x2 j (128 * h + c)
  WK j c := at2 X.x2 j (2048 + 128 * h + c)
  WV j c := at2 X.x2 j (4096 + 256 * h + c)
  a r t := at2 X.x1 (4096 * n + t) (2 * h + r)
  b r t := at2 X.x1 (4096 * n + t) (32 + (2 * h + r))
  al r := X.x3 (ix1 (head h r))
  dt r := X.x4 (ix1 (head h r))
  N e := X.x5 (ix1 e)

/-- The values' columns and taps are real, and what the decays are made of is not `+∞`. -/
structure Real : Prop where
  x0 : ∀ i j, 4096 ≤ j → j < 8192 → IsReal (at2 X.x0 i j)
  x1 : ∀ i j, j < 32 → at2 X.x1 i j ≠ ⊤
  x2 : ∀ i j, 4096 ≤ j → IsReal (at2 X.x2 i j)
  x3 : ∀ i, X.x3 (ix1 i) ≠ ⊤
  x4 : ∀ i, X.x4 (ix1 i) ≠ ⊤

variable {X} in
theorem Real.data (R : X.Real) (n : Fin 4) (h : Fin 16) : (X.data n h).Real where
  V t c := R.x0 _ _ (by omega) (by omega)
  WV j c := R.x2 _ _ (by omega)
  a r t := R.x1 _ _ (by omega)
  al r := R.x3 _
  dt r := R.x4 _

/-- The result of the whole layer's mixing. -/
def result (y : (Sh 16384 4096).Idx) : EReal :=
  (X.data ⟨(y 0).val / 4096, Nat.div_lt_of_lt_mul (y 0).isLt⟩ ⟨(y 1).val / 256, Nat.div_lt_of_lt_mul (y 1).isLt⟩).y
    ⟨(y 1).val % 256 / 128, by omega⟩ ((y 0).val % 4096) ⟨(y 1).val % 128, Nat.mod_lt _ (by norm_num)⟩

theorem result_at (n : Fin 4) (h : Fin 16) (w e : ℕ) (hw : w < 4096) (he : e < 256) :
    X.result (ix2 ⟨4096 * n.val + w, by omega⟩ ⟨256 * h.val + e, by omega⟩)
      = (X.data n h).y ⟨e / 128, by omega⟩ w ⟨e % 128, Nat.mod_lt _ (by norm_num)⟩ := by
  show (X.data ⟨(4096 * n.val + w) / 4096, _⟩ ⟨(256 * h.val + e) / 256, _⟩).y ⟨(256 * h.val + e) % 256 / 128, _⟩
    ((4096 * n.val + w) % 4096) ⟨(256 * h.val + e) % 128, _⟩ = _
  congr 1
  · exact congrArg₂ X.data (Fin.ext (by simp only; omega)) (Fin.ext (by simp only; omega))
  · exact Fin.ext (by simp only; omega)
  · omega
  · exact Fin.ext (by simp only; omega)

end Args

end Cert.Proof.Gdn

end
-- ==== Proof.GdnArray.lean ====
module

public import proofs.«01_k».proof.Proof.GdnOut
public import proofs.«01_k».proof.Proof.GdnData
public import Idealize.ShloMosaic.Lib.Pipeline.ValueKit
public import Idealize.ShloMosaic.Lib.StableHlo.ReadAt

@[expose] public section

set_option maxRecDepth 100000
set_option maxHeartbeats 1000000

noncomputable section

/-! The array which the kernel of the recurrence leaves. -/

namespace Cert.Proof.Gdn

open Cert.KernelIdeal Cert.KernelIdeal.Gen Idealize.ShloMosaic Idealize.ShloMosaic.TcCoe Idealize.SL.Sem

/-- Which blocks a grid point works on. -/
theorem idx : ∀ t : Fin cfg0.N,
    win0_0.index t = ![(grid0.coords t 0).val, (grid0.coords t 1).val]
    ∧ win0_1.index t = ![(grid0.coords t 0).val, 16 + (grid0.coords t 1).val]
    ∧ win0_2.index t = ![(grid0.coords t 0).val, 16 + (grid0.coords t 1).val]
    ∧ win0_3.index t = ![(grid0.coords t 0).val, 32 + (grid0.coords t 1).val]
    ∧ win0_4.index t = ![0, (grid0.coords t 1).val]
    ∧ win0_5.index t = ![0, 16 + (grid0.coords t 1).val]
    ∧ win0_6.index t = ![0, 16 + (grid0.coords t 1).val]
    ∧ win0_7.index t = ![(grid0.coords t 0).val, (grid0.coords t 1).val, 0, 0]
    ∧ win0_8.index t = ![(grid0.coords t 0).val, (grid0.coords t 1).val, 0, 0]
    ∧ win0_9.index t = ![(grid0.coords t 1).val, 0, 0]
    ∧ win0_10.index t = ![(grid0.coords t 1).val, 0, 0]
    ∧ win0_11.index t = ![0, 0]
    ∧ win0_12.index t = ![(grid0.coords t 0).val, (grid0.coords t 1).val] :=
  (by decide +kernel : ∀ t : Fin grid0.N, _)

section
variable (m : (ℓ : Loc nD τ sig) → Buf (Elt Ideal) ℓ) (c : Dev nD)

/-- The arguments. -/
def args : Args where
  x0 := m ((c : Thread nD τ).loc main_arg0)
  x1 := m ((c : Thread nD τ).loc main_arg1)
  x2 := m ((c : Thread nD τ).loc main_arg2)
  x3 := m ((c : Thread nD τ).loc main_arg3)
  x4 := m ((c : Thread nD τ).loc main_arg4)
  x5 := m ((c : Thread nD τ).loc main_arg5)

theorem a_eq (n : Fin 4) (h : Fin 16) (r : Fin 2) (t : Fin 4096) :
    (V m c main_v2 : S4x16x2x4096.Idx → EReal) (ix4 n h r t) = (args m c).x1 (ix2 ⟨4096 * n.val + t.val, by omega⟩ ⟨2 * h.val + r.val, by omega⟩) := by
  unfold V
  after_reads_at
  exact congrArg₂ (fun a b => (args m c).x1 (ix2 a b)) (Fin.ext (by simp only; omega)) (Fin.ext (by simp only; omega))

theorem b_eq (n : Fin 4) (h : Fin 16) (r : Fin 2) (t : Fin 4096) :
    (V m c main_v5 : S4x16x2x4096.Idx → EReal) (ix4 n h r t) = (args m c).x1 (ix2 ⟨4096 * n.val + t.val, by omega⟩ ⟨32 + (2 * h.val + r.val), by omega⟩) := by
  unfold V
  after_reads_at
  exact congrArg₂ (fun a b => (args m c).x1 (ix2 a b)) (Fin.ext (by simp only; omega)) (Fin.ext (by simp only; omega))

theorem al_eq (h : Fin 16) (r : Fin 2) (j : Fin 256) :
    (V m c main_v7 : S16x2x256.Idx → EReal) (ix3 h r j) = (args m c).x3 (ix1 (Args.head h r)) := by
  unfold V
  after_reads_at
  exact congrArg (fun a => (args m c).x3 (ix1 a)) (Fin.ext (by simp only [Args.head]; omega))

theorem dt_eq (h : Fin 16) (r : Fin 2) (j : Fin 256) :
    (V m c main_v9 : S16x2x256.Idx → EReal) (ix3 h r j) = (args m c).x4 (ix1 (Args.head h r)) := by
  unfold V
  after_reads_at
  exact congrArg (fun a => (args m c).x4 (ix1 a)) (Fin.ext (by simp only [Args.head]; omega))

theorem norm_eq (e : Fin 128) :
    (V m c main_v10 : S1x128.Idx → EReal) (ix2 0 e) = (args m c).x5 (ix1 e) := by
  unfold V
  after_reads_at
  rfl

variable (t : Fin cfg0.N)

theorem lt_n : (grid0.coords t 0).val < 4 := (grid0.coords t 0).isLt
theorem lt_h : (grid0.coords t 1).val < 16 := (grid0.coords t 1).isLt

/-! The blocks, read at their places in the arrays. -/

theorem block_q (w : Fin 4096) (e : Fin 128) : (iblk m c 0 t : S4096x128.Idx → EReal) (ix2 w e)
    = at2 (args m c).x0 (4096 * (grid0.coords t 0).val + w.val) (128 * (grid0.coords t 1).val + e.val) := by
  have hn := lt_n t
  have hh := lt_h t
  rw [at2_eq (args m c).x0 ⟨4096 * (grid0.coords t 0).val + w.val, by omega⟩ ⟨128 * (grid0.coords t 1).val + e.val, by omega⟩ _ _ rfl rfl]
  unfold args
  blk_point [iblk, V, idx t]

theorem block_k (w : Fin 4096) (e : Fin 128) : (iblk m c 1 t : S4096x128.Idx → EReal) (ix2 w e)
    = at2 (args m c).x0 (4096 * (grid0.coords t 0).val + w.val) (2048 + 128 * (grid0.coords t 1).val + e.val) := by
  have hn := lt_n t
  have hh := lt_h t
  rw [at2_eq (args m c).x0 ⟨4096 * (grid0.coords t 0).val + w.val, by omega⟩ ⟨2048 + 128 * (grid0.coords t 1).val + e.val, by omega⟩ _ _ rfl rfl]
  unfold args
  blk_point [iblk, V, idx t]

theorem block_v (w : Fin 4096) (e : Fin 256) : (iblk m c 2 t : S4096x256.Idx → EReal) (ix2 w e)
    = at2 (args m c).x0 (4096 * (grid0.coords t 0).val + w.val) (4096 + 256 * (grid0.coords t 1).val + e.val) := by
  have hn := lt_n t
  have hh := lt_h t
  rw [at2_eq (args m c).x0 ⟨4096 * (grid0.coords t 0).val + w.val, by omega⟩ ⟨4096 + 256 * (grid0.coords t 1).val + e.val, by omega⟩ _ _ rfl rfl]
  unfold args
  blk_point [iblk, V, idx t]

theorem block_z (w : Fin 4096) (e : Fin 256) : (iblk m c 3 t : S4096x256.Idx → EReal) (ix2 w e)
    = at2 (args m c).x0 (4096 * (grid0.coords t 0).val + w.val) (8192 + 256 * (grid0.coords t 1).val + e.val) := by
  have hn := lt_n t
  have hh := lt_h t
  rw [at2_eq (args m c).x0 ⟨4096 * (grid0.coords t 0).val + w.val, by omega⟩ ⟨8192 + 256 * (grid0.coords t 1).val + e.val, by omega⟩ _ _ rfl rfl]
  unfold args
  blk_point [iblk, V, idx t]

theorem block_wq (j : Fin 4) (e : Fin 128) : (iblk m c 4 t : S4x128.Idx → EReal) (ix2 j e)
    = at2 (args m c).x2 j.val (128 * (grid0.coords t 1).val + e.val) := by
  have hh := lt_h t
  rw [at2_eq (args m c).x2 j ⟨128 * (grid0.coords t 1).val + e.val, by omega⟩ _ _ rfl rfl]
  unfold args
  blk_point [iblk, V, idx t]

theorem block_wk (j : Fin 4) (e : Fin 128) : (iblk m c 5 t : S4x128.Idx → EReal) (ix2 j e)
    = at2 (args m c).x2 j.val (2048 + 128 * (grid0.coords t 1).val + e.val) := by
  have hh := lt_h t
  rw [at2_eq (args m c).x2 j ⟨2048 + 128 * (grid0.coords t 1).val + e.val, by omega⟩ _ _ rfl rfl]
  unfold args
  blk_point [iblk, V, idx t]

theorem block_wv (j : Fin 4) (e : Fin 256) : (iblk m c 6 t : S4x256.Idx → EReal) (ix2 j e)
    = at2 (args m c).x2 j.val (4096 + 256 * (grid0.coords t 1).val + e.val) := by
  have hh := lt_h t
  rw [at2_eq (args m c).x2 j ⟨4096 + 256 * (grid0.coords t 1).val + e.val, by omega⟩ _ _ rfl rfl]
  unfold args
  blk_point [iblk, V, idx t]

theorem block_a (r : Fin 2) (w : Fin 4096) : (iblk m c 7 t : S1x1x2x4096.Idx → EReal) (ix4 0 0 r w)
    = at2 (args m c).x1 (4096 * (grid0.coords t 0).val + w.val) (2 * (grid0.coords t 1).val + r.val) := by
  have hn := lt_n t
  have hh := lt_h t
  rw [at2_eq (args m c).x1 ⟨4096 * (grid0.coords t 0).val + w.val, by omega⟩ ⟨2 * (grid0.coords t 1).val + r.val, by omega⟩ _ _ rfl rfl]
  refine Eq.trans ?_ (a_eq m c (grid0.coords t 0) (grid0.coords t 1) r w)
  show V m c main_v2 (((View.whole main_v2).slice (win0_7.rect t)).emb (ix4 0 0 r w)) = _
  refine congrArg (V m c main_v2) ?_
  blk_ext [idx t]

theorem block_b (r : Fin 2) (w : Fin 4096) : (iblk m c 8 t : S1x1x2x4096.Idx → EReal) (ix4 0 0 r w)
    = at2 (args m c).x1 (4096 * (grid0.coords t 0).val + w.val) (32 + (2 * (grid0.coords t 1).val + r.val)) := by
  have hn := lt_n t
  have hh := lt_h t
  rw [at2_eq (args m c).x1 ⟨4096 * (grid0.coords t 0).val + w.val, by omega⟩ ⟨32 + (2 * (grid0.coords t 1).val + r.val), by omega⟩ _ _ rfl rfl]
  refine Eq.trans ?_ (b_eq m c (grid0.coords t 0) (grid0.coords t 1) r w)
  show V m c main_v5 (((View.whole main_v5).slice (win0_8.rect t)).emb (ix4 0 0 r w)) = _
  refine congrArg (V m c main_v5) ?_
  blk_ext [idx t]

theorem block_al (r : Fin 2) (j : Fin 256) : (iblk m c 9 t : S1x2x256.Idx → EReal) (ix3 0 r j)
    = (args m c).x3 (ix1 (Args.head (grid0.coords t 1) r)) := by
  refine Eq.trans ?_ (al_eq m c (grid0.coords t 1) r j)
  show V m c main_v7 (((View.whole main_v7).slice (win0_9.rect t)).emb (ix3 0 r j)) = _
  refine congrArg (V m c main_v7) ?_
  blk_ext [idx t]

theorem block_dt (r : Fin 2) (j : Fin 256) : (iblk m c 10 t : S1x2x256.Idx → EReal) (ix3 0 r j)
    = (args m c).x4 (ix1 (Args.head (grid0.coords t 1) r)) := by
  refine Eq.trans ?_ (dt_eq m c (grid0.coords t 1) r j)
  show V m c main_v9 (((View.whole main_v9).slice (win0_10.rect t)).emb (ix3 0 r j)) = _
  refine congrArg (V m c main_v9) ?_
  blk_ext [idx t]

theorem block_n (e : Fin 128) : (iblk m c 11 t : S1x128.Idx → EReal) (ix2 0 e) = (args m c).x5 (ix1 e) := by
  refine Eq.trans ?_ (norm_eq m c e)
  show V m c main_v10 (((View.whole main_v10).slice (win0_11.rect t)).emb (ix2 0 e)) = _
  refine congrArg (V m c main_v10) ?_
  blk_ext [idx t]

/-- A grid point's blocks hold the data of its head. -/
theorem reads (R : (args m c).Real) : Reads ((args m c).data (grid0.coords t 0) (grid0.coords t 1))
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) where
  q w e := block_q m c t w e
  k w e := block_k m c t w e
  v w e := block_v m c t w e
  z w e := block_z m c t w e
  wq j e := block_wq m c t j e
  wk j e := block_wk m c t j e
  wv j e := block_wv m c t j e
  a r w := block_a m c t r w
  b r w := block_b m c t r w
  al r j := block_al m c t r j
  dt r j := block_dt m c t r j
  n e := block_n m c t e
  real := R.data _ _

/-- The kernel's array after the run. -/
theorem final (R : (args m c).Real) : (dats m 0 c).arrAt 12 cfg0.N = (args m c).result := by
  refine (dats m 0 c).arrAt_eq_of_covers 12 _ (by decide +kernel) fun t hf y => ?_
  have hn := lt_n t
  have hh := lt_h t
  blk_simp
  rw [after0_12]
  unfold outsAt0
  rw [out_block _ _ _ _ _ _ _ _ _ _ _ _ _ _ _ _ _ _ _ _ _ _ _ _ _ _ _ _ (reads m c t R)]
  have y0 : (y 0).val < 4096 := (y 0).isLt
  have y1 : (y 1).val < 256 := (y 1).isLt
  refine ((args m c).result_at (grid0.coords t 0) (grid0.coords t 1) (y 0).val (y 1).val y0 y1).symm.trans ?_
  refine congrArg (args m c).result ?_
  show _ = ((View.whole main_v11).slice (win0_12.rect t)).emb y
  blk_ext [idx t]

end

end Cert.Proof.Gdn

end
-- ==== Proof.GdnStep.lean ====
module

public import proofs.«01_k».proof.Proof.GdnDelta
public import proofs.«01_k».proof.Proof.GdnIdeal
public import proofs.«01_k».proof.Proof.Gen.ReferenceIdeal.Run
public import Idealize.ShloMosaic.Lib.DynamicIndex
public import Idealize.ShloMosaic.Lib.WordCmp
public import proofs.«01_k».proof.Proof.GdnBlock

@[expose] public section

set_option maxRecDepth 100000
set_option maxHeartbeats 1000000

noncomputable section

/-! One trip of the reference's loop over the tokens. -/

namespace Cert.Proof.Gdn.Ref

open Cert.ReferenceIdeal Cert.ReferenceIdeal.Gen Idealize.ShloMosaic Idealize.ShloMosaic.TcCoe

/-- The number of a token, as a word. -/
def word (j : ℕ) : IVec S_ 32 := constantI S_ 32 (BitVec.ofNat 32 j)

theorem word_toInt (j : ℕ) (hj : j < 4096) (i) : (word j i).toInt = (j : ℤ) := by
  show (BitVec.ofNat 32 j).toInt = _
  rw [BitVec.toInt_ofNat', Int.bmod]
  simp only [Nat.reducePow]
  split <;> omega

/-- Where the row of token `j` begins in an array of rank 4. -/
abbrev start4 (j : ℕ) : Fin 4 → ℤ := fun k => ((![word j, constantI S_ 32 0#32, constantI S_ 32 0#32,
  constantI S_ 32 0#32] : Fin 4 → IVec S_ 32) k (Shape.Idx.first h_S_)).toInt

/-- Where the row of token `j` begins in an array of rank 5. -/
abbrev start5 (j : ℕ) : Fin 5 → ℤ := fun k => ((![word j, constantI S_ 32 0#32, constantI S_ 32 0#32,
  constantI S_ 32 0#32, constantI S_ 32 0#32] : Fin 5 → IVec S_ 32) k (Shape.Idx.first h_S_)).toInt

theorem start4_eq (j : ℕ) (hj : j < 4096) (a : Fin 4) : start4 j a = ((![j, 0, 0, 0] : Fin 4 → ℕ) a : ℤ) := by
  fin_cases a
  exacts [word_toInt j hj (Shape.Idx.first h_S_), rfl, rfl, rfl]

theorem start5_eq (j : ℕ) (hj : j < 4096) (a : Fin 5) : start5 j a = ((![j, 0, 0, 0, 0] : Fin 5 → ℕ) a : ℤ) := by
  fin_cases a
  exacts [word_toInt j hj (Shape.Idx.first h_S_), rfl, rfl, rfl, rfl]

theorem row_fits (j : ℕ) (hj : j < 4096) : S4096x4x16x2x128.Slices ![j, 0, 0, 0, 0] S1x4x16x2x128 :=
  ⟨rfl, fun a => by fin_cases a; exacts [show j + 1 ≤ 4096 by omega, Nat.le_refl 4, Nat.le_refl 16, Nat.le_refl 2, Nat.le_refl 128]⟩

section
variable {α : Type} (j : ℕ) (hj : j < 4096)

/-- Row `j` of the keys or queries. -/
theorem row3 (X : S4096x4x16x128.Idx → α) (n : Fin 4) (h : Fin 16) (d : Fin 128) :
    shapeCast S4x16x128 (Host.dynamicSlice S1x4x16x128 X (start4 j) sliceFits_S4096x4x16x128_S1x4x16x128)
      shapeCasts_S1x4x16x128_S4x16x128 (ix3 n h d) = X (ix4 ⟨j, hj⟩ n h d) := by
  rw [Host.dynamicSlice_eq_extractStridedSlice S1x4x16x128 X (start4 j) ![j, 0, 0, 0] _
    ⟨rfl, fun a => by fin_cases a; exacts [show j + 1 ≤ 4096 by omega, Nat.le_refl 4, Nat.le_refl 16, Nat.le_refl 128]⟩ (start4_eq j hj)]
  pointwise

/-- Row `j` of the values. -/
theorem row4 (X : S4096x4x16x2x128.Idx → α) (n : Fin 4) (h : Fin 16) (r : Fin 2) (d : Fin 128) :
    shapeCast S4x16x2x128 (Host.dynamicSlice S1x4x16x2x128 X (start5 j) sliceFits_S4096x4x16x2x128_S1x4x16x2x128)
      shapeCasts_S1x4x16x2x128_S4x16x2x128 (ix4 n h r d) = X (ix5 ⟨j, hj⟩ n h r d) := by
  rw [Host.dynamicSlice_eq_extractStridedSlice S1x4x16x2x128 X (start5 j) ![j, 0, 0, 0, 0] _
    ⟨rfl, fun a => by fin_cases a; exacts [show j + 1 ≤ 4096 by omega, Nat.le_refl 4, Nat.le_refl 16, Nat.le_refl 2, Nat.le_refl 128]⟩ (start5_eq j hj)]
  pointwise

/-- Row `j` of the decays or step sizes. -/
theorem row2 (X : S4096x4x16x2.Idx → α) (n : Fin 4) (h : Fin 16) (r : Fin 2) :
    shapeCast S4x16x2 (Host.dynamicSlice S1x4x16x2 X (start4 j) sliceFits_S4096x4x16x2_S1x4x16x2)
      shapeCasts_S1x4x16x2_S4x16x2 (ix3 n h r) = X (ix4 ⟨j, hj⟩ n h r) := by
  rw [Host.dynamicSlice_eq_extractStridedSlice S1x4x16x2 X (start4 j) ![j, 0, 0, 0] _
    ⟨rfl, fun a => by fin_cases a; exacts [show j + 1 ≤ 4096 by omega, Nat.le_refl 4, Nat.le_refl 16, Nat.le_refl 2]⟩ (start4_eq j hj)]
  pointwise

include hj in
/-- Row `j` replaced. -/
theorem put (X : S4096x4x16x2x128.Idx → α) (U : S1x4x16x2x128.Idx → α) (t : Fin 4096) (n : Fin 4) (h : Fin 16) (r : Fin 2) (e : Fin 128) :
    Host.dynamicUpdateSlice X U (start5 j) updateFits_S4096x4x16x2x128_S1x4x16x2x128 (ix5 t n h r e)
      = if t.val = j then U (ix5 0 n h r e) else X (ix5 t n h r e) := by
  rw [WordCmp.dynamicUpdateSlice_eq_update X U (start5 j) _ ![j, 0, 0, 0, 0] (row_fits j hj) (start5_eq j hj)]
  have key : (∀ a : Fin 5, (![j, 0, 0, 0, 0] : Fin 5 → ℕ) a ≤ (ix5 t n h r e a).val ∧
      (ix5 t n h r e a).val < (![j, 0, 0, 0, 0] : Fin 5 → ℕ) a + S1x4x16x2x128.size a) ↔ t.val = j := by
    constructor
    · intro hh
      have := hh 0
      change j ≤ t.val ∧ t.val < j + 1 at this
      omega
    · rintro rfl a
      fin_cases a
      · exact ⟨le_rfl, Nat.lt_succ_self _⟩
      · exact ⟨Nat.zero_le _, (Nat.zero_add 4).symm ▸ n.isLt⟩
      · exact ⟨Nat.zero_le _, (Nat.zero_add 16).symm ▸ h.isLt⟩
      · exact ⟨Nat.zero_le _, (Nat.zero_add 2).symm ▸ r.isLt⟩
      · exact ⟨Nat.zero_le _, (Nat.zero_add 128).symm ▸ e.isLt⟩
  by_cases hc : t.val = j
  · refine (dif_pos (key.2 hc)).trans ?_
    rw [if_pos hc]
    refine congrArg U (funext fun b => Fin.ext ?_)
    fin_cases b
    · show t.val - j = 0
      omega
    all_goals rfl
  · exact (dif_neg (mt key.1 hc)).trans (if_neg hc).symm

end

/-- The products of a key or query with the states, head by head. -/
theorem dot_apply (x : FVec Ideal S4x16x128 .f32) (s : FVec Ideal S4x16x2x128x128 .f32) (n : Fin 4) (h : Fin 16) (r : Fin 2) (e : Fin 128) :
    Host.dotGeneral dot_S4x16x128_S4x16x2x128x128_S4x16x2x128_2_3_n_24_01_01 none x s (ix4 n h r e)
      = ∑ d, x (ix3 n h d) * s (ix5 n h r d e) := by
  pointwise

/-- The states, decayed. -/
theorem decay_apply (S : FVec Ideal S4x16x2x128x128 .f32) (G : FVec Ideal S4x16x2 .f32) (n : Fin 4) (h : Fin 16) (r : Fin 2) (d e : Fin 128) :
    mulf S (broadcastInDim S4x16x2x128x128 ![0, 1, 2, 3, 4] bcast_S4x16x2x1x1_S4x16x2x128x128_0_1_2_3_4
      (broadcastInDim S4x16x2x1x1 ![0, 1, 2] bcast_S4x16x2_S4x16x2x1x1_0_1_2 (Host.exp G))) (ix5 n h r d e)
      = S (ix5 n h r d e) * Ideal.exp (G (ix3 n h r)) := by
  pointwise

/-- The states, with the corrected values added. -/
theorem add_apply (S : FVec Ideal S4x16x2x128x128 .f32) (K : FVec Ideal S4x16x128 .f32) (B : FVec Ideal S4x16x2 .f32)
    (V X : FVec Ideal S4x16x2x128 .f32) (n : Fin 4) (h : Fin 16) (r : Fin 2) (d e : Fin 128) :
    addf S (mulf (broadcastInDim S4x16x2x128x128 ![0, 1, 2, 3, 4] bcast_S4x16x1x128x1_S4x16x2x128x128_0_1_2_3_4
        (broadcastInDim S4x16x1x128x1 ![0, 1, 3] bcast_S4x16x128_S4x16x1x128x1_0_1_3 K))
      (broadcastInDim S4x16x2x128x128 ![0, 1, 2, 3, 4] bcast_S4x16x2x1x128_S4x16x2x128x128_0_1_2_3_4
        (broadcastInDim S4x16x2x1x128 ![0, 1, 2, 4] bcast_S4x16x2x128_S4x16x2x1x128_0_1_2_4
          (mulf (broadcastInDim S4x16x2x128 ![0, 1, 2, 3] bcast_S4x16x2x1_S4x16x2x128_0_1_2_3
            (broadcastInDim S4x16x2x1 ![0, 1, 2] bcast_S4x16x2_S4x16x2x1_0_1_2 B)) (subf V X))))) (ix5 n h r d e)
      = S (ix5 n h r d e) + K (ix3 n h d) * (B (ix3 n h r) * (V (ix4 n h r e) - X (ix4 n h r e))) := by
  pointwise

/-- A row to be put, as the block it is put as. -/
theorem put_row (U : FVec Ideal S4x16x2x128 .f32) (n : Fin 4) (h : Fin 16) (r : Fin 2) (e : Fin 128) :
    broadcastInDim S1x4x16x2x128 ![1, 2, 3, 4] bcast_S4x16x2x128_S1x4x16x2x128_1_2_3_4 U (ix5 0 n h r e) = U (ix4 n h r e) := by
  pointwise

open Cert.ReferenceIdeal.Value

/-- What holds before the trip of token `j`. -/
structure Inv (D : Fin 4 → Fin 16 → Data) (j : ℕ) (V0 : Valuation τ sig (Elt Ideal)) : Prop where
  q : ∀ (t : Fin 4096) n h d, (V0 (Proc.devRef .tc main_v84_0) : S4096x4x16x128.Idx → EReal) (ix4 t n h d) = (((D n h).q t d : ℝ) : EReal)
  k : ∀ (t : Fin 4096) n h d, (V0 (Proc.devRef .tc main_v84_1) : S4096x4x16x128.Idx → EReal) (ix4 t n h d) = (((D n h).k t d : ℝ) : EReal)
  v : ∀ (t : Fin 4096) n h r e, (V0 (Proc.devRef .tc main_v84_2) : S4096x4x16x2x128.Idx → EReal) (ix5 t n h r e) = (((D n h).v r t e : ℝ) : EReal)
  g : ∀ (t : Fin 4096) n h r, (V0 (Proc.devRef .tc main_v84_3) : S4096x4x16x2.Idx → EReal) (ix4 t n h r) = (((D n h).g r t : ℝ) : EReal)
  β : ∀ (t : Fin 4096) n h r, (V0 (Proc.devRef .tc main_v84_4) : S4096x4x16x2.Idx → EReal) (ix4 t n h r) = (((D n h).β r t : ℝ) : EReal)
  at_j : (V0 (Proc.devRef .tc main_v84_5) : IVec S_ 32) = word j
  s : ∀ n h r d e, (V0 (Proc.devRef .tc main_v84_6) : S4x16x2x128x128.Idx → EReal) (ix5 n h r d e)
    = ((state (D n h).k ((D n h).v r) ((D n h).g r) ((D n h).β r) j d e : ℝ) : EReal)
  o : ∀ (t : Fin 4096) n h r e, t.val < j → (V0 (Proc.devRef .tc main_v84_7) : S4096x4x16x2x128.Idx → EReal) (ix5 t n h r e)
    = (((D n h).o r t e : ℝ) : EReal)

section
variable {D : Fin 4 → Fin 16 → Data} {j : ℕ} {V0 : Valuation τ sig (Elt Ideal)} (I : Inv D j V0) (hj : j < 4096)
include I hj

theorem key_at (n : Fin 4) (h : Fin 16) (d : Fin 128) :
    (res_main_while0b_v106 V0 : S4x16x128.Idx → EReal) (ix3 n h d) = (((D n h).k j d : ℝ) : EReal) := by
  unfold res_main_while0b_v106
  rw [I.at_j]
  exact (row3 j hj _ n h d).trans (I.k ⟨j, hj⟩ n h d)

theorem decayed_at (n : Fin 4) (h : Fin 16) (r : Fin 2) (d e : Fin 128) :
    (res_main_while0b_v113 V0 : S4x16x2x128x128.Idx → EReal) (ix5 n h r d e)
      = ((state (D n h).k ((D n h).v r) ((D n h).g r) ((D n h).β r) j d e * Real.exp ((D n h).g r j) : ℝ) : EReal) := by
  unfold res_main_while0b_v113
  rw [I.at_j, EReal.coe_mul]
  refine (decay_apply _ _ n h r d e).trans (congrArg₂ (· * ·) (I.s n h r d e) ?_)
  exact (congrArg Ideal.exp ((row2 j hj _ n h r).trans (I.g ⟨j, hj⟩ n h r))).trans (Ideal.exp_coe _)

theorem state_at (n : Fin 4) (h : Fin 16) (r : Fin 2) (d e : Fin 128) :
    (res_main_while0b_v124 V0 : S4x16x2x128x128.Idx → EReal) (ix5 n h r d e)
      = ((state (D n h).k ((D n h).v r) ((D n h).g r) ((D n h).β r) (j + 1) d e : ℝ) : EReal) := by
  have e2 : Host.dotGeneral (φ₁ := .f32) (φ₂ := .f32) dot_S4x16x128_S4x16x2x128x128_S4x16x2x128_2_3_n_24_01_01 none (res_main_while0b_v106 V0)
      (res_main_while0b_v113 V0) (ix4 n h r e) = ((∑ c, (D n h).k j c * (state (D n h).k ((D n h).v r) ((D n h).g r) ((D n h).β r) j c e
        * Real.exp ((D n h).g r j)) : ℝ) : EReal) := by
    refine (dot_apply _ _ n h r e).trans ?_
    rw [← coe_sum]
    refine Finset.sum_congr rfl fun c _ => ?_
    rw [key_at I hj, decayed_at I hj, ← EReal.coe_mul]
  unfold res_main_while0b_v124
  rw [I.at_j]
  refine (add_apply _ _ _ _ _ n h r d e).trans ?_
  refine (congrArg₂ (fun x y : EReal => x + y) (decayed_at I hj n h r d e) (congrArg₂ (fun x y : EReal => x * y) (key_at I hj n h d)
    (congrArg₂ (fun x y : EReal => x * y) ((row2 j hj _ n h r).trans (I.β ⟨j, hj⟩ n h r))
      (congrArg₂ (fun x y : EReal => x - y) ((row4 j hj _ n h r e).trans (I.v ⟨j, hj⟩ n h r e)) e2)))).trans ?_
  rw [← EReal.coe_sub, ← EReal.coe_mul, ← EReal.coe_mul, ← EReal.coe_add]
  rfl

theorem out_at (t : Fin 4096) (n : Fin 4) (h : Fin 16) (r : Fin 2) (e : Fin 128) (ht : t.val < j + 1) :
    (step_main_v84_7 V0 : S4096x4x16x2x128.Idx → EReal) (ix5 t n h r e) = (((D n h).o r t e : ℝ) : EReal) := by
  unfold step_main_v84_7
  rw [I.at_j]
  refine (put j hj _ _ t n h r e).trans ?_
  by_cases hc : t.val = j
  · rw [if_pos hc]
    refine (put_row _ n h r e).trans ((dot_apply _ _ n h r e).trans ?_)
    unfold Data.o
    rw [← coe_sum]
    refine Finset.sum_congr rfl fun c _ => ?_
    rw [EReal.coe_mul, hc]
    exact congrArg₂ (fun x y : EReal => x * y) ((row3 j hj _ n h c).trans (I.q ⟨j, hj⟩ n h c)) (state_at I hj n h r c e)
  · rw [if_neg hc]
    exact I.o t n h r e (by omega)

theorem inv_step : Inv D (j + 1) (STEP V0) where
  q t n h d := (congrFun (STEP_main_v84_0 V0) _).trans (I.q t n h d)
  k t n h d := (congrFun (STEP_main_v84_1 V0) _).trans (I.k t n h d)
  v t n h r e := (congrFun (STEP_main_v84_2 V0) _).trans (I.v t n h r e)
  g t n h r := (congrFun (STEP_main_v84_3 V0) _).trans (I.g t n h r)
  β t n h r := (congrFun (STEP_main_v84_4 V0) _).trans (I.β t n h r)
  at_j := by
    rw [STEP_main_v84_5]
    unfold step_main_v84_5
    rw [I.at_j]
    funext i
    show BitVec.ofNat 32 j + 1#32 = BitVec.ofNat 32 (j + 1)
    rw [BitVec.ofNat_add]
  s n h r d e := (congrFun (STEP_main_v84_6 V0) _).trans (state_at I hj n h r d e)
  o t n h r e ht := (congrFun (STEP_main_v84_7 V0) _).trans (out_at I hj t n h r e ht)

end

theorem inv_iter {D : Fin 4 → Fin 16 → Data} {V0 : Valuation τ sig (Elt Ideal)} (I : Inv D 0 V0) :
    ∀ j ≤ 4096, Inv D j (STEP^[j] V0)
  | 0, _ => I
  | j + 1, hj => by
    rw [Function.iterate_succ_apply']
    exact inv_step (inv_iter I j (by omega)) (by omega)

end Cert.Proof.Gdn.Ref

end
-- ==== Proof.GdnEntry.lean ====
module

public import proofs.«01_k».proof.Proof.GdnStep
public import proofs.«01_k».proof.Proof.GdnTokens
public import proofs.«01_k».proof.Proof.GdnData
public import proofs.«01_k».proof.Proof.Gen.ReferenceIdeal.Step

@[expose] public section

set_option maxRecDepth 100000
set_option maxHeartbeats 1000000

noncomputable section

/-! What the reference computes before its loop. -/

namespace Cert.Proof.Gdn.Ref

open Cert.ReferenceIdeal Cert.ReferenceIdeal.Gen Cert.ReferenceIdeal.Value Cert.ReferenceIdeal.Step Idealize.ShloMosaic
  Idealize.ShloMosaic.TcCoe Idealize.SL.Sem Idealize.ShloMosaic.StableHlo

variable (X : Args)

/-- The convolution's column `j` at token `t` of sequence `n`. -/
def conv (n : Fin 4) (j t : ℕ) : EReal :=
  taps (fun s (_ : Fin 1) => at2 X.x0 (4096 * n + s) j) (fun i _ => at2 X.x2 i.val j) t 0

variable {X} (R : X.Real)

/-- The padded rows: `d` tokens back. -/
theorem pad_at (n : Fin 4) (t : Fin 4096) (u : Fin 4099) (j : Fin 8192) (d e : ℕ) (hd : e + d = 3) (hu : u.val = e + t.val) :
    (A_main_v3 (F := Ideal) X.x0 X.x1 X.x2 X.x3 X.x4 : S4x4099x8192.Idx → EReal) (ix3 n u j)
      = back (fun s (_ : Fin 1) => at2 X.x0 (4096 * n + s) j) d t 0 := by
  unfold A_main_v3 A_main_v2 A_main_v1 K_main_call0_v0 K_main_c back
  pointwise
  by_cases h : d ≤ t.val
  · rw [dif_pos ⟨by omega, by omega⟩, if_pos h]
    exact (at2_eq X.x0 _ _ _ _ (by simp only; omega) rfl).symm
  · rw [dif_neg (by omega), if_neg h]
    show ((((0#32 : BitVec 32).toInt : ℤ) : ℝ) : EReal) = _
    simp

theorem conv_at (n : Fin 4) (t : Fin 4096) (j : Fin 8192) :
    (A_main_v32 (F := Ideal) X.x0 X.x1 X.x2 X.x3 X.x4 : S4x4096x8192.Idx → EReal) (ix3 n t j) = conv X n j t := by
  have p := fun u => pad_at (X := X) n t u j
  have w : ∀ i : Fin 4, X.x2 (ix2 i j) = at2 X.x2 i.val j.val := fun i => (at2_eq X.x2 i j _ _ rfl rfl).symm
  unfold A_main_v32 A_main_v31 A_main_v30 A_main_v29 A_main_v28 A_main_v27 A_main_v26 A_main_v25 A_main_v24 A_main_v23 A_main_v22 A_main_v21
    A_main_v20 A_main_v19 A_main_v18 A_main_v17 A_main_v16 A_main_v15 A_main_v14 A_main_v13 A_main_v12 A_main_v11 A_main_v9 A_main_v8
    A_main_v7 A_main_v6 A_main_v5 A_main_v4
  generalize A_main_v3 (F := Ideal) X.x0 X.x1 X.x2 X.x3 X.x4 = P at *
  unfold K_main_v10 K_main_cst
  pointwise
  rw [p _ 3 0 rfl (Nat.zero_add _).symm, p _ 2 1 rfl rfl, p _ 1 2 rfl rfl, p _ 0 3 rfl rfl, w, w, w, w]
  unfold conv taps
  simp only [back, Nat.zero_le, if_true, Nat.sub_zero]
  simp only [show ((0 : Fin 4) : ℕ) = 0 from rfl, show ((1 : Fin 4) : ℕ) = 1 from rfl, show ((2 : Fin 4) : ℕ) = 2 from rfl, show ((3 : Fin 4) : ℕ) = 3 from rfl]
  simp only [zero_add, add_comm, add_left_comm]

theorem act_at (n : Fin 4) (t : Fin 4096) (j : Fin 8192) :
    (A_main_v33 (F := Ideal) X.x0 X.x1 X.x2 X.x3 X.x4 : S4x4096x8192.Idx → EReal) (ix3 n t j) = act (conv X n j t) := by
  have c := conv_at (X := X) n t j
  unfold A_main_v33 A_main_call1_v5 A_main_call1_v3 A_main_call1_v1 A_main_call1_v0
  generalize A_main_v32 (F := Ideal) X.x0 X.x1 X.x2 X.x3 X.x4 = P at *
  unfold K_main_call1_v4 K_main_call1_v2 K_main_call1_cst_0 K_main_call1_cst
  pointwise
  rw [c]
  rfl

/-- A row over its length. -/
theorem len_apply (P : FVec Ideal S4x4096x16x128 .f32) (n : Fin 4) (t : Fin 4096) (h : Fin 16) (d : Fin 128) (r : Fin 128 → EReal)
    (hr : ∀ d, P (ix4 n t h d) = r d) :
    mulf P (broadcastInDim S4x4096x16x128 ![0, 1, 2, 3] bcast_S4x4096x16x1_S4x4096x16x128_0_1_2_3 (Host.rsqrt (addf
      (broadcastInDim S4x4096x16x1 ![0, 1, 2] bcast_S4x4096x16_S4x4096x16x1_0_1_2 (Host.reduceAdd (mulf P P) (constant S_ .f32 0x00000000#32)
        reducesTo_S4x4096x16x128_S4x4096x16_d3 h_S_))
      (broadcastInDim S4x4096x16x1 ![] bcast_S_S4x4096x16x1 (constant S_ .f32 0x358637BD#32))))) (ix4 n t h d) = ((len1 r d : ℝ) : EReal) := by
  pointwise
  rw [tiny_eq]
  simp only [hr]
  exact len1_eq r d

theorem rowq (n : Fin 4) (t : Fin 4096) (h : Fin 16) (d : Fin 128) :
    (A_main_v35 (F := Ideal) X.x0 X.x1 X.x2 X.x3 X.x4 : S4x4096x16x128.Idx → EReal) (ix4 n t h d)
      = (A_main_v33 (F := Ideal) X.x0 X.x1 X.x2 X.x3 X.x4 : S4x4096x8192.Idx → EReal) (ix3 n t ⟨128 * h.val + d.val, by omega⟩) := by
  unfold A_main_v35 A_main_v34
  pointwise
  exact congrArg (fun a => (A_main_v33 (F := Ideal) X.x0 X.x1 X.x2 X.x3 X.x4 : S4x4096x8192.Idx → EReal) (ix3 n t a)) (Fin.ext (by simp only; omega))

theorem rowk (n : Fin 4) (t : Fin 4096) (h : Fin 16) (d : Fin 128) :
    (A_main_v47 (F := Ideal) X.x0 X.x1 X.x2 X.x3 X.x4 : S4x4096x16x128.Idx → EReal) (ix4 n t h d)
      = (A_main_v33 (F := Ideal) X.x0 X.x1 X.x2 X.x3 X.x4 : S4x4096x8192.Idx → EReal) (ix3 n t ⟨2048 + 128 * h.val + d.val, by omega⟩) := by
  unfold A_main_v47 A_main_v46
  pointwise
  exact congrArg (fun a => (A_main_v33 (F := Ideal) X.x0 X.x1 X.x2 X.x3 X.x4 : S4x4096x8192.Idx → EReal) (ix3 n t a)) (Fin.ext (by simp only; omega))

/-- Scaled, the tokens first. -/
theorem scaled_apply (P : FVec Ideal S4x4096x16x128 .f32) (n : Fin 4) (t : Fin 4096) (h : Fin 16) (d : Fin 128) :
    transpose S4096x4x16x128 [1, 0, 2, 3] (mulf P (broadcastInDim S4x4096x16x128 ![] bcast_S_S4x4096x16x128 (constant S_ .f32 0x3DB504F3#32)))
      transposes_S4x4096x16x128_S4096x4x16x128_1_0_2_3 (ix4 t n h d) = P (ix4 n t h d) * ((scale : ℝ) : EReal) := by
  pointwise
  rw [scale_eq]

theorem turned_apply (P : FVec Ideal S4x4096x16x128 .f32) (n : Fin 4) (t : Fin 4096) (h : Fin 16) (d : Fin 128) :
    transpose S4096x4x16x128 [1, 0, 2, 3] P transposes_S4x4096x16x128_S4096x4x16x128_1_0_2_3 (ix4 t n h d) = P (ix4 n t h d) := by
  pointwise

theorem q_at (n : Fin 4) (t : Fin 4096) (h : Fin 16) (d : Fin 128) :
    (A_main_v78 (F := Ideal) X.x0 X.x1 X.x2 X.x3 X.x4 : S4096x4x16x128.Idx → EReal) (ix4 t n h d) = (((X.data n h).q t d : ℝ) : EReal) := by
  refine (scaled_apply _ n t h d).trans ?_
  rw [Data.q, EReal.coe_mul]
  refine congrArg (fun a : EReal => a * ((scale : ℝ) : EReal)) ?_
  exact len_apply (A_main_v35 (F := Ideal) X.x0 X.x1 X.x2 X.x3 X.x4) n t h d _ fun d => (rowq n t h d).trans (act_at n t _)

theorem k_at (n : Fin 4) (t : Fin 4096) (h : Fin 16) (d : Fin 128) :
    (A_main_v79 (F := Ideal) X.x0 X.x1 X.x2 X.x3 X.x4 : S4096x4x16x128.Idx → EReal) (ix4 t n h d) = (((X.data n h).k t d : ℝ) : EReal) := by
  refine (turned_apply _ n t h d).trans ?_
  exact len_apply (A_main_v47 (F := Ideal) X.x0 X.x1 X.x2 X.x3 X.x4) n t h d _ fun d => (rowk n t h d).trans (act_at n t _)

include R in
theorem v_at (n : Fin 4) (t : Fin 4096) (h : Fin 16) (r : Fin 2) (e : Fin 128) :
    (A_main_v80 (F := Ideal) X.x0 X.x1 X.x2 X.x3 X.x4 : S4096x4x16x2x128.Idx → EReal) (ix5 t n h r e) = (((X.data n h).v r t e : ℝ) : EReal) := by
  refine Eq.trans ?_ ((act_at n t ⟨4096 + 256 * h.val + (128 * r.val + e.val), by omega⟩).trans
    (taps_real (R.data n h).V (R.data n h).WV t (col2 r e)).act)
  unfold A_main_v80 A_main_v57 A_main_v56
  pointwise
  exact congrArg (fun a => (A_main_v33 (F := Ideal) X.x0 X.x1 X.x2 X.x3 X.x4 : S4x4096x8192.Idx → EReal) (ix3 n t a)) (Fin.ext (by simp only; omega))

include R in
theorem g_at (n : Fin 4) (t : Fin 4096) (h : Fin 16) (r : Fin 2) :
    (A_main_v81 (F := Ideal) X.x0 X.x1 X.x2 X.x3 X.x4 : S4096x4x16x2.Idx → EReal) (ix4 t n h r) = (((X.data n h).g r t : ℝ) : EReal) := by
  have hh : (⟨h.val * 2 + r.val, by omega⟩ : Fin 32) = Args.head h r := Fin.ext (by simp only [Args.head]; omega)
  have ha : X.x1 (ix2 ⟨n.val * 4096 + t.val, by omega⟩ ⟨h.val * 2 + r.val, by omega⟩) = (X.data n h).a r t :=
    (at2_eq X.x1 _ _ _ _ (by simp only; omega) (by simp only; omega)).symm
  have hal : X.x3 (ix1 (Args.head h r)) = (X.data n h).al r := rfl
  have hdt : X.x4 (ix1 (Args.head h r)) = (X.data n h).dt r := rfl
  have D := R.data n h
  rw [Data.g, ← decay_real (D.al r) (D.a r t) (D.dt r)]
  unfold A_main_v81 A_main_v75 A_main_v67 A_main_v66 A_main_v65 A_main_v64 A_main_call2_v11 A_main_call2_v10 A_main_call2_v9 A_main_call2_v8
    A_main_call2_v7 A_main_call2_v6 A_main_call2_v4 A_main_call2_v3 A_main_call2_v1 A_main_v63 A_main_v62 A_main_v61 A_main_v60 A_main_v59 A_main_v58
    A_main_v0 K_main_call2_v5 K_main_call2_v2 K_main_call2_v0 K_main_call2_cst soft
  pointwise
  rw [if_neg (fun h => h rfl), ha, hh, hal, hdt]

theorem b_at (n : Fin 4) (t : Fin 4096) (h : Fin 16) (r : Fin 2) :
    (A_main_v82 (F := Ideal) X.x0 X.x1 X.x2 X.x3 X.x4 : S4096x4x16x2.Idx → EReal) (ix4 t n h r) = (((X.data n h).β r t : ℝ) : EReal) := by
  have hb : X.x1 (ix2 ⟨n.val * 4096 + t.val, by omega⟩ ⟨32 + (h.val * 2 + r.val), by omega⟩) = (X.data n h).b r t :=
    (at2_eq X.x1 _ _ _ _ (by simp only; omega) (by simp only; omega)).symm
  unfold A_main_v82 A_main_v76 A_main_v74 A_main_v72 A_main_v70 A_main_v69 A_main_v68
    A_main_v0 K_main_v73 K_main_v71 K_main_cst_5 K_main_cst_6 Data.β
  pointwise
  rw [hb]
  exact logis_real _

end Cert.Proof.Gdn.Ref

end
-- ==== Proof.GdnExit.lean ====
module

public import proofs.«01_k».proof.Proof.GdnEntry
public import proofs.«01_k».proof.Proof.GdnTrips
public import Idealize.ShloMosaic.Lib.StableHlo.ReadAt

@[expose] public section

set_option maxRecDepth 100000
set_option maxHeartbeats 1000000

noncomputable section

/-! What the reference leaves. -/

namespace Cert.Proof.Gdn.Ref

open Cert.ReferenceIdeal Cert.ReferenceIdeal.Gen Cert.ReferenceIdeal.Value Cert.ReferenceIdeal.Step Idealize.ShloMosaic
  Idealize.ShloMosaic.TcCoe Idealize.SL.Sem Idealize.ShloMosaic.StableHlo

/-- The heads' results side by side. -/
theorem joined_apply (Y : FVec Ideal S4x4096x16x2x128 .f32) (i : Fin 16384) (j : Fin 4096) :
    truncf .bf16 (shapeCast S16384x4096 Y shapeCasts_S4x4096x16x2x128_S16384x4096) bitsLt_bf16_f32 (ix2 i j)
      = Y (ix5 ⟨i.val / 4096, by omega⟩ ⟨i.val % 4096, by omega⟩ ⟨j.val / 256, by omega⟩ ⟨j.val % 256 / 128, by omega⟩ ⟨j.val % 128, by omega⟩) := by
  pointwise
  exact congrArg (fun a => Y (ix5 _ _ _ a _)) (Fin.ext (by simp only; omega))

theorem batch_apply (O : FVec Ideal S4096x4x16x2x128 .f32) (n : Fin 4) (t : Fin 4096) (h : Fin 16) (r : Fin 2) (e : Fin 128) :
    transpose S4x4096x16x2x128 [1, 0, 2, 3, 4] O transposes_S4096x4x16x2x128_S4x4096x16x2x128_1_0_2_3_4 (ix5 n t h r e) = O (ix5 t n h r e) := by
  pointwise

/-- A head's read-outs, normed. -/
theorem normed_apply (O : FVec Ideal S4x4096x16x2x128 .f32) (n : Fin 4) (t : Fin 4096) (h : Fin 16) (r : Fin 2) (e : Fin 128) (o : Fin 128 → ℝ)
    (ho : ∀ e, O (ix5 n t h r e) = (o e : EReal)) :
    mulf O (broadcastInDim S4x4096x16x2x128 ![0, 1, 2, 3, 4] bcast_S4x4096x16x2x1_S4x4096x16x2x128_0_1_2_3_4 (Host.rsqrt (addf (Host.divf
      (broadcastInDim S4x4096x16x2x1 ![0, 1, 2, 3] bcast_S4x4096x16x2_S4x4096x16x2x1_0_1_2_3 (Host.reduceAdd (mulf O O) (constant S_ .f32 0x00000000#32)
        reducesTo_S4x4096x16x2x128_S4x4096x16x2_d4 h_S_)) (broadcastInDim S4x4096x16x2x1 ![] bcast_S_S4x4096x16x2x1 (constant S_ .f32 0x43000000#32)))
      (broadcastInDim S4x4096x16x2x1 ![] bcast_S_S4x4096x16x2x1 (constant S_ .f32 0x358637BD#32))))) (ix5 n t h r e)
      = ((o e * (Real.sqrt ((∑ d, o d * o d) * (1 / 128) + tiny))⁻¹ : ℝ) : EReal) := by
  pointwise
  rw [show Ideal.ofBits .f32 1124073472#32 = ((128 : ℝ) : EReal) from width_eq, tiny_eq]
  simp only [ho, ← EReal.coe_mul, coe_sum]
  rw [Ideal.div_coe (by norm_num : (128 : ℝ) ≠ 0), ← EReal.coe_mul, ← EReal.coe_add]
  have hp : 0 < (∑ d, o d * o d) * (1 / 128) + tiny :=
    add_pos_of_nonneg_of_pos (mul_nonneg (Finset.sum_nonneg fun e _ => mul_self_nonneg _) (by norm_num)) tiny_pos
  rw [Ideal.rsqrt_coe, if_neg (not_lt.mpr hp.le), if_neg hp.ne', ← EReal.coe_mul]

/-- The gates' inputs. -/
theorem gates_apply (x : FVec Ideal S16384x12288 .f32) (n : Fin 4) (t : Fin 4096) (h : Fin 16) (r : Fin 2) (e : Fin 128) :
    shapeCast S4x4096x16x2x128 (extractStridedSlice S16384x4096 ![0, 8192] x slices_S16384x12288_S16384x4096_0_8192)
      shapeCasts_S16384x4096_S4x4096x16x2x128 (ix5 n t h r e) = at2 x (4096 * n.val + t.val) (8192 + 256 * h.val + (col2 r e).val) := by
  pointwise
  exact (at2_eq x _ _ _ _ (by simp only; omega) (by simp only [col2]; omega)).symm

/-- Weighed and gated. -/
theorem gated_apply (O Z : FVec Ideal S4x4096x16x2x128 .f32) (g : FVec Ideal S128 .f32) (n : Fin 4) (t : Fin 4096) (h : Fin 16) (r : Fin 2) (e : Fin 128) :
    mulf (mulf O (broadcastInDim S4x4096x16x2x128 ![0, 1, 2, 3, 4] bcast_S1x1x1x1x128_S4x4096x16x2x128_0_1_2_3_4
      (broadcastInDim S1x1x1x1x128 ![4] bcast_S128_S1x1x1x1x128_4 g))) (mulf Z (Host.divf
        (broadcastInDim S4x4096x16x2x128 ![] bcast_S_S4x4096x16x2x128 (constant S_ .f32 0x3F800000#32)) (addf
          (broadcastInDim S4x4096x16x2x128 ![] bcast_S_S4x4096x16x2x128 (constant S_ .f32 0x3F800000#32)) (Host.exp (Host.negf Z))))) (ix5 n t h r e)
      = O (ix5 n t h r e) * g (ix1 e) * (Z (ix5 n t h r e) * Ideal.div 1 (1 + Ideal.exp (-Z (ix5 n t h r e)))) := by
  pointwise

section
variable (m : (ℓ : Loc nD τ sig) → Buf (Elt Ideal) ℓ) (c : Dev nD)

/-- The arguments. -/
def args : Args where
  x0 := m ((c.tc : Thread nD τ).loc main_arg0)
  x1 := m ((c.tc : Thread nD τ).loc main_arg1)
  x2 := m ((c.tc : Thread nD τ).loc main_arg2)
  x3 := m ((c.tc : Thread nD τ).loc main_arg3)
  x4 := m ((c.tc : Thread nD τ).loc main_arg4)
  x5 := m ((c.tc : Thread nD τ).loc main_arg5)

/-- The loop's buffers before its first trip. -/
theorem before_loop :
    entryContents preI m c (Proc.devRef .tc main_v84_0) = A_main_v78 (F := Ideal) (args m c).x0 (args m c).x1 (args m c).x2 (args m c).x3 (args m c).x4
    ∧ entryContents preI m c (Proc.devRef .tc main_v84_1) = A_main_v79 (F := Ideal) (args m c).x0 (args m c).x1 (args m c).x2 (args m c).x3 (args m c).x4
    ∧ entryContents preI m c (Proc.devRef .tc main_v84_2) = A_main_v80 (F := Ideal) (args m c).x0 (args m c).x1 (args m c).x2 (args m c).x3 (args m c).x4
    ∧ entryContents preI m c (Proc.devRef .tc main_v84_3) = A_main_v81 (F := Ideal) (args m c).x0 (args m c).x1 (args m c).x2 (args m c).x3 (args m c).x4
    ∧ entryContents preI m c (Proc.devRef .tc main_v84_4) = A_main_v82 (F := Ideal) (args m c).x0 (args m c).x1 (args m c).x2 (args m c).x3 (args m c).x4
    ∧ entryContents preI m c (Proc.devRef .tc main_v84_5) = word 0
    ∧ entryContents preI m c (Proc.devRef .tc main_v84_6) = K_main_v77 (F := Ideal) := by
  refine ⟨?_, ?_, ?_, ?_, ?_, ?_, ?_⟩
  all_goals (simp only [entryContents, afterL_cons, afterL_nil]; after_reads_simp)
  all_goals rfl

theorem inv_zero (R : (args m c).Real) : Inv (args m c).data 0 (entryContents preI m c) where
  q t n h d := (congrFun (before_loop m c).1 _).trans (q_at n t h d)
  k t n h d := (congrFun (before_loop m c).2.1 _).trans (k_at n t h d)
  v t n h r e := (congrFun (before_loop m c).2.2.1 _).trans (v_at R n t h r e)
  g t n h r := (congrFun (before_loop m c).2.2.2.1 _).trans (g_at R n t h r)
  β t n h r := (congrFun (before_loop m c).2.2.2.2.1 _).trans (b_at n t h r)
  at_j := (before_loop m c).2.2.2.2.2.1
  s n h r d e := by
    refine (congrFun (before_loop m c).2.2.2.2.2.2 _).trans ?_
    unfold K_main_v77 K_main_cst_7
    pointwise
    rfl
  o t n h r e ht := absurd ht (Nat.not_lt_zero _)

/-- The reference's result. -/
theorem result_eq (R : (args m c).Real) : out_main_v104 (STEP^[4096] (entryContents preI m c)) = (args m c).result := by
  have I := inv_iter (inv_zero m c R) 4096 le_rfl
  have h0 := iter_main_arg0 m c 4096
  have h5 := iter_main_arg5 m c 4096
  generalize STEP^[4096] (entryContents preI m c) = W at *
  funext y
  rw [eq_ix2 y]
  unfold out_main_v104
  rw [h0, h5]
  refine (joined_apply _ (y 0) (y 1)).trans ((gated_apply _ _ _ _ _ _ _ _).trans ?_)
  refine congrArg₂ (fun a z : EReal => a * (args m c).x5 (ix1 ⟨(y 1).val % 128, Nat.mod_lt _ (by norm_num)⟩) * (z * Ideal.div 1 (1 + Ideal.exp (-z))))
    (normed_apply _ _ _ _ _ _ _ fun e => (batch_apply _ _ _ _ _ _).trans (I.o _ _ _ _ _ (Fin.isLt _))) (gates_apply _ _ _ _ _ _)

end

end Cert.Proof.Gdn.Ref

end
-- ==== Proof.GdnValue.lean ====
/- THE RECURRENCE: under the precondition the kernel, which takes 256 tokens at a time, leaves what the reference leaves, which takes
   them one by one. -/
module

public import proofs.«01_k».proof.Defs
public import proofs.«01_k».proof.Proof.GdnArray
public import proofs.«01_k».proof.Proof.GdnExit
public import proofs.«01_k».proof.Proof.Gen.KernelIdeal.Value
public import proofs.«01_k».proof.Proof.Gen.Pre_finite

@[expose] public section

set_option maxRecDepth 100000

noncomputable section

namespace Cert.Proof.Gdn

open Idealize.ShloMosaic Idealize.ShloMosaic.TcCoe Idealize.SL.Sem

/-- A number less than infinity. -/
theorem ne_top_of_lt (x : EReal) (h : FloatOps.cmpf (F := Ideal) (φ := .f32) .olt x (Ideal.ofBits .f32 0x7F800000#32) = 1#1) : x ≠ ⊤ := by
  rintro rfl
  rw [show Ideal.ofBits .f32 0x7F800000#32 = ⊤ by simp [Ideal.ofBits, Ideal.ieee],
    show FloatOps.cmpf (F := Ideal) (φ := .f32) .olt (⊤ : EReal) ⊤ = BitVec.ofBool (decide ((⊤ : EReal) < ⊤)) from rfl,
    decide_eq_false (lt_irrefl _)] at h
  exact absurd h (by decide)

/-- A number less than infinity in absolute value is real. -/
theorem real_of_lt (x : EReal) (h : FloatOps.cmpf (F := Ideal) (φ := .f32) .olt (FloatOps.absf (F := Ideal) (φ := .f32) x)
    (Ideal.ofBits .f32 0x7F800000#32) = 1#1) : IsReal x := by
  have lt := ne_top_of_lt _ h
  rw [show FloatOps.absf (F := Ideal) (φ := .f32) x = max x (-x) from rfl] at lt
  refine (EReal.coe_toReal ?_ ?_).symm
  · rintro rfl
    simp at lt
  · rintro rfl
    simp at lt

/-- The precondition, element by element. -/
theorem real_of_pre (x0 : FVec Ideal Cert.Pre_finite.S16384x12288 .f32) (x1 : FVec Ideal Cert.Pre_finite.S16384x128 .f32)
    (x2 : FVec Ideal Cert.Pre_finite.S4x8192 .f32) (x3 x4 : FVec Ideal Cert.Pre_finite.S32 .f32) (x5 : FVec Ideal Cert.Pre_finite.S128 .f32)
    (h0 : (Cert.Pre_finite.fn (F := Ideal) x0 x1 x2 x3 x4 x5).1 = fun _ => 1#1)
    (h1 : (Cert.Pre_finite.fn (F := Ideal) x0 x1 x2 x3 x4 x5).2.1 = fun _ => 1#1)
    (h2 : (Cert.Pre_finite.fn (F := Ideal) x0 x1 x2 x3 x4 x5).2.2.1 = fun _ => 1#1)
    (h3 : (Cert.Pre_finite.fn (F := Ideal) x0 x1 x2 x3 x4 x5).2.2.2.1 = fun _ => 1#1)
    (h4 : (Cert.Pre_finite.fn (F := Ideal) x0 x1 x2 x3 x4 x5).2.2.2.2 = fun _ => 1#1) : (Args.mk x0 x1 x2 x3 x4 x5).Real where
  x0 i j hl hj := by
    by_cases hi : i < 16384
    · rw [at2_eq x0 ⟨i, hi⟩ ⟨4096 + (j - 4096), by omega⟩ _ _ rfl (by simp only; omega)]
      refine real_of_lt _ ?_
      have e := congrFun h0 (ix2 ⟨i, hi⟩ ⟨j - 4096, by omega⟩)
      unfold Cert.Pre_finite.fn at e
      refine Eq.trans ?_ e
      pointwise
    · rw [at2, dif_neg (fun h => hi h.1), ← EReal.coe_zero]
      exact .coe _
  x1 i j hj := by
    by_cases hi : i < 16384
    · rw [at2_eq x1 ⟨i, hi⟩ ⟨j, by omega⟩ _ _ rfl rfl]
      refine ne_top_of_lt _ ?_
      have e := congrFun h1 (ix2 ⟨i, hi⟩ ⟨j, hj⟩)
      unfold Cert.Pre_finite.fn at e
      refine Eq.trans ?_ e
      pointwise
    · rw [at2, dif_neg (fun h => hi h.1)]
      exact EReal.zero_ne_top
  x2 i j hl := by
    by_cases hij : i < 4 ∧ j < 8192
    · rw [at2_eq x2 ⟨i, hij.1⟩ ⟨4096 + (j - 4096), by omega⟩ _ _ rfl (by simp only; omega)]
      refine real_of_lt _ ?_
      have e := congrFun h2 (ix2 ⟨i, hij.1⟩ ⟨j - 4096, by omega⟩)
      unfold Cert.Pre_finite.fn at e
      refine Eq.trans ?_ e
      pointwise
    · rw [at2, dif_neg hij, ← EReal.coe_zero]
      exact .coe _
  x3 i := ne_top_of_lt _ (congrFun h3 (ix1 i))
  x4 i := ne_top_of_lt _ (congrFun h4 (ix1 i))

open Cert.KernelIdeal in
theorem args_real (m : (ℓ : Loc nD τ sig) → Buf (Elt Ideal) ℓ) (h : Pre_KernelIdeal_finite m) (c : Dev nD) : (args m c).Real :=
  real_of_pre _ _ _ _ _ _ (h c).1 (h c).2.1 (h c).2.2.1 (h c).2.2.2.1 (h c).2.2.2.2

/-- The claim: both programs leave the result of the recurrence. -/
theorem algebraic : algebraic_KernelIdeal_ReferenceIdeal_pre_finite :=
  fun m ρ m' ρ' hp hag => ⟨fun c => (args m c).result,
    (θ_run _ _ _).mono (fun _ h c => ⟨(h c).1.trans (final m c (args_real m hp c)), (h c).2⟩) (Cert.KernelIdeal.Value.run_blocks m ρ),
    (θ_run _ _ _).mono (fun _ h c => by
      have e : Ref.args m' c = args m c := by
        unfold Ref.args args
        rw [(hag c).1, (hag c).2.1, (hag c).2.2.1, (hag c).2.2.2.1, (hag c).2.2.2.2.1, (hag c).2.2.2.2.2]
      exact ⟨(h c).1.trans ((Ref.result_eq m' c (e.symm ▸ args_real m hp c)).trans (congrArg Args.result e)), (h c).2⟩)
      (Cert.ReferenceIdeal.Value.run m' ρ')⟩

end Cert.Proof.Gdn

end
-- ==== Proof.FfnUp.lean ====
/- THE GATED UP-PROJECTION OF A HALF-STEP FEED-FORWARD NETWORK: the array that the blocked kernel leaves is, element by
   element, `silu (h · w_gate) * (h · w_up)`, the function `act` below, and so is what the reference leaves. -/
module

public import proofs.«01_k».proof.Defs
public import proofs.«01_k».proof.Proof.Gen.Kernel2Ideal.Value
public import proofs.«01_k».proof.Proof.Gen.Reference2Ideal.Run
public import Idealize.ShloMosaic.Lib.Pipeline.ValueKit

@[expose] public section

set_option maxRecDepth 16384

noncomputable section

namespace Cert.Proof.FfnUp

open Cert.Kernel2Ideal Cert.Kernel2Ideal.Gen Idealize.ShloMosaic Idealize.ShloMosaic.TcCoe Idealize.SL.Sem

/-- Row `r` of `h` times column `q` of a weight. -/
def dotRow (h : FVec Ideal S16384x4096 .bf16) (w : FVec Ideal S4096x11008 .f32) (i : S16384x11008.Idx) : EReal :=
  ∑ k : Fin 4096, h (ix2 (i 0) k) * w (ix2 k (i 1))

/-- The activation: `g * (1 / (1 + exp (-g))) * u` with `g` and `u` the two products. -/
def act (h : FVec Ideal S16384x4096 .bf16) (wg wu : FVec Ideal S4096x11008 .f32) : FVec Ideal S16384x11008 .bf16 :=
  fun i => dotRow h wg i * Ideal.div 1 (1 + Ideal.exp (-dotRow h wg i)) * dotRow h wu i

/-- Which blocks a grid point works on: rows by its first coordinate, columns by its second. -/
theorem idx : ∀ t : Fin cfg0.N,
    win0_0.index t = ![(grid0.coords t 0).val, 0] ∧ win0_1.index t = ![0, (grid0.coords t 1).val]
    ∧ win0_2.index t = ![0, (grid0.coords t 1).val]
    ∧ win0_3.index t = ![(grid0.coords t 0).val, (grid0.coords t 1).val] :=
  (by decide +kernel : ∀ t : Fin grid0.N, _)

section
variable (m : (ℓ : Loc nD τ sig) → Buf (Elt Ideal) ℓ)

/-- The kernel's array after the run is the activation of the argument arrays. -/
theorem final (c : Dev nD) : (dats m 0 c).arrAt 3 cfg0.N
    = act (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3]
  frame_out
  unfold k0_pay1 act dotRow
  pointwise
  simp only [zero_sub]
  blk_point [iblk, V, idx t]

end

/-- The claim: both programs leave the activation. -/
theorem algebraic : algebraic_Kernel2Ideal_Reference2Ideal :=
  fun m ρ m' ρ' _ hag => ⟨fun c => act (m ((c : Thread nD τ).loc main_arg0)) (m ((c : Thread nD τ).loc main_arg1))
      (m ((c : Thread nD τ).loc main_arg2)),
    (θ_run _ _ _).mono (fun _ h c => ⟨(h c).1.trans (final m c), (h c).2⟩) (Cert.Kernel2Ideal.Value.run_blocks m ρ),
    (θ_run _ _ _).mono (fun _ h c => ⟨(h c).1.trans (by
      rw [(hag c).1, (hag c).2.1, (hag c).2.2]
      funext i
      unfold act dotRow
      pointwise), (h c).2⟩) (Cert.Reference2Ideal.Value.run m' ρ')⟩

end Cert.Proof.FfnUp

end
-- ==== Proof.DownResidual.lean ====
/- THE DOWN-PROJECTION OF A HALF-STEP FEED-FORWARD NETWORK, ADDED TO THE RESIDUAL: the array that the blocked kernel
   leaves is `x + 0.5 * (act · w_down)`, and so is what the reference leaves. -/
module

public import proofs.«01_k».proof.Defs
public import proofs.«01_k».proof.Proof.Gen.Kernel3Ideal.Value
public import proofs.«01_k».proof.Proof.Gen.Reference3Ideal.Run
public import Idealize.ShloMosaic.Lib.Pipeline.ValueKit

@[expose] public section

set_option maxRecDepth 16384

noncomputable section

namespace Cert.Proof.DownResidual

open Cert.Kernel3Ideal Cert.Kernel3Ideal.Gen Idealize.ShloMosaic Idealize.ShloMosaic.TcCoe Idealize.SL.Sem

/-- `x + 0.5 * (act · w)`, element by element. -/
def step (a : FVec Ideal S16384x11008 .bf16) (w : FVec Ideal S11008x4096 .f32) (x : FVec Ideal S16384x4096 .f32) :
    FVec Ideal S16384x4096 .f32 :=
  fun i => x i + Ideal.ofBits .f32 0x3F000000#32 * ∑ k : Fin 11008, a (ix2 (i 0) k) * w (ix2 k (i 1))

/-- Which blocks a grid point works on. -/
theorem idx : ∀ t : Fin cfg0.N,
    win0_0.index t = ![(grid0.coords t 0).val, 0] ∧ win0_1.index t = ![0, (grid0.coords t 1).val]
    ∧ win0_2.index t = ![(grid0.coords t 0).val, (grid0.coords t 1).val]
    ∧ win0_3.index t = ![(grid0.coords t 0).val, (grid0.coords t 1).val] :=
  (by decide +kernel : ∀ t : Fin grid0.N, _)

section
variable (m : (ℓ : Loc nD τ sig) → Buf (Elt Ideal) ℓ)

/-- The kernel's array after the run is that function of the argument arrays. -/
theorem final (c : Dev nD) : (dats m 0 c).arrAt 3 cfg0.N
    = step (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  unfold k0_pay1 step
  pointwise
  blk_point [iblk, V, idx t]

end

/-- The claim: both programs leave that function of their arguments. -/
theorem algebraic : algebraic_Kernel3Ideal_Reference3Ideal :=
  fun m ρ m' ρ' _ hag => ⟨fun c => step (m ((c : Thread nD τ).loc main_arg0)) (m ((c : Thread nD τ).loc main_arg1)) (m ((c : Thread nD τ).loc main_arg2)),
    (θ_run _ _ _).mono (fun _ h c => ⟨(h c).1.trans (final m c), (h c).2⟩) (Cert.Kernel3Ideal.Value.run_blocks m ρ),
    (θ_run _ _ _).mono (fun _ h c => ⟨(h c).1.trans (by
      rw [(hag c).1, (hag c).2.1, (hag c).2.2]
      funext i
      unfold step
      pointwise), (h c).2⟩) (Cert.Reference3Ideal.Value.run m' ρ')⟩

end Cert.Proof.DownResidual

end
-- ==== Proof.ProjectGdn.lean ====
/- THE COLUMNS OF THE COMBINED INPUT PROJECTION of the gated DeltaNet branch (its q, k, v and output gate): the array that the
   blocked kernel leaves, which multiplies by rows of the transposed weight, is the columns 0 to 12288 of `h · w_in`. -/
module

public import proofs.«01_k».proof.Defs
public import proofs.«01_k».proof.Proof.Gen.Kernel4Ideal.Value
public import proofs.«01_k».proof.Proof.Gen.Reference4Ideal.Run
public import Idealize.ShloMosaic.Lib.Pipeline.ValueKit

@[expose] public section

set_option maxRecDepth 16384

noncomputable section

namespace Cert.Proof.ProjectGdn

open Cert.Kernel4Ideal Cert.Kernel4Ideal.Gen Idealize.ShloMosaic Idealize.ShloMosaic.TcCoe Idealize.SL.Sem

/-- Columns 0 to 12288 of `h · w`. -/
def columns (h : FVec Ideal S16384x4096 .bf16) (w : FVec Ideal S4096x26688 .f32) : FVec Ideal S16384x12288 .f32 :=
  fun i => ∑ k : Fin 4096, h (ix2 (i 0) k) * w (ix2 k ⟨0 + (i 1).val, by have := (i 1).isLt; simp at this; omega⟩)

/-- Which blocks a grid point works on. -/
theorem idx : ∀ t : Fin cfg0.N,
    win0_0.index t = ![(grid0.coords t 0).val, 0] ∧ win0_1.index t = ![0 + (grid0.coords t 1).val * 512, 0]
    ∧ win0_2.index t = ![(grid0.coords t 0).val, (grid0.coords t 1).val] :=
  (by decide +kernel : ∀ t : Fin grid0.N, _)

section
variable (m : (ℓ : Loc nD τ sig) → Buf (Elt Ideal) ℓ)

/-- The kernel's array after the run is that function of the argument arrays. -/
theorem final (c : Dev nD) : (dats m 0 c).arrAt 2 cfg0.N
    = columns (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold k0_pay1 columns
  pointwise
  blk_point [iblk, V, idx t]
  · refine (Pipeline.Window.rect_emb_val_off win0_1 t _ 1).trans ?_
    show win0_1.index t 1 + x.val = x.val
    rw [(idx t).2.1]
    simp
  · refine (Pipeline.Window.rect_emb_val_off win0_1 t _ 0).trans ?_
    show win0_1.index t 0 + (y 1).val = _
    rw [(idx t).2.1]
    simp [Nat.add_assoc]

end

/-- The claim: both programs leave that function of their arguments. -/
theorem algebraic : algebraic_Kernel4Ideal_Reference4Ideal :=
  fun m ρ m' ρ' _ hag => ⟨fun c => columns (m ((c : Thread nD τ).loc main_arg0)) (m ((c : Thread nD τ).loc main_arg1)),
    (θ_run _ _ _).mono (fun _ h c => ⟨(h c).1.trans (final m c), (h c).2⟩) (Cert.Kernel4Ideal.Value.run_blocks m ρ),
    (θ_run _ _ _).mono (fun _ h c => ⟨(h c).1.trans (by
      rw [(hag c).1, (hag c).2]
      funext i
      unfold columns
      pointwise), (h c).2⟩) (Cert.Reference4Ideal.Value.run m' ρ')⟩

end Cert.Proof.ProjectGdn

end
-- ==== Proof.ProjectMoba.lean ====
/- THE COLUMNS OF THE COMBINED INPUT PROJECTION of the attention branch and of both branch gates: the array that the
   blocked kernel leaves, which multiplies by rows of the transposed weight, is the columns 12352 to 26688 of `h · w_in`. -/
module

public import proofs.«01_k».proof.Defs
public import proofs.«01_k».proof.Proof.Gen.Kernel5Ideal.Value
public import proofs.«01_k».proof.Proof.Gen.Reference5Ideal.Run
public import Idealize.ShloMosaic.Lib.Pipeline.ValueKit

@[expose] public section

set_option maxRecDepth 16384

noncomputable section

namespace Cert.Proof.ProjectMoba

open Cert.Kernel5Ideal Cert.Kernel5Ideal.Gen Idealize.ShloMosaic Idealize.ShloMosaic.TcCoe Idealize.SL.Sem

/-- Columns 12352 to 26688 of `h · w`. -/
def columns (h : FVec Ideal S16384x4096 .bf16) (w : FVec Ideal S4096x26688 .f32) : FVec Ideal S16384x14336 .f32 :=
  fun i => ∑ k : Fin 4096, h (ix2 (i 0) k) * w (ix2 k ⟨12352 + (i 1).val, by have := (i 1).isLt; simp at this; omega⟩)

/-- Which blocks a grid point works on. -/
theorem idx : ∀ t : Fin cfg0.N,
    win0_0.index t = ![(grid0.coords t 0).val, 0] ∧ win0_1.index t = ![12352 + (grid0.coords t 1).val * 512, 0]
    ∧ win0_2.index t = ![(grid0.coords t 0).val, (grid0.coords t 1).val] :=
  (by decide +kernel : ∀ t : Fin grid0.N, _)

section
variable (m : (ℓ : Loc nD τ sig) → Buf (Elt Ideal) ℓ)

/-- The kernel's array after the run is that function of the argument arrays. -/
theorem final (c : Dev nD) : (dats m 0 c).arrAt 2 cfg0.N
    = columns (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold k0_pay1 columns
  pointwise
  blk_point [iblk, V, idx t]
  · refine (Pipeline.Window.rect_emb_val_off win0_1 t _ 1).trans ?_
    show win0_1.index t 1 + x.val = x.val
    rw [(idx t).2.1]
    simp
  · refine (Pipeline.Window.rect_emb_val_off win0_1 t _ 0).trans ?_
    show win0_1.index t 0 + (y 1).val = _
    rw [(idx t).2.1]
    simp [Nat.add_assoc]

end

/-- The claim: both programs leave that function of their arguments. -/
theorem algebraic : algebraic_Kernel5Ideal_Reference5Ideal :=
  fun m ρ m' ρ' _ hag => ⟨fun c => columns (m ((c : Thread nD τ).loc main_arg0)) (m ((c : Thread nD τ).loc main_arg1)),
    (θ_run _ _ _).mono (fun _ h c => ⟨(h c).1.trans (final m c), (h c).2⟩) (Cert.Kernel5Ideal.Value.run_blocks m ρ),
    (θ_run _ _ _).mono (fun _ h c => ⟨(h c).1.trans (by
      rw [(hag c).1, (hag c).2]
      funext i
      unfold columns
      pointwise), (h c).2⟩) (Cert.Reference5Ideal.Value.run m' ρ')⟩

end Cert.Proof.ProjectMoba

end
-- ==== Proof.Merge.lean ====
/- THE GATED MERGE OF THE TWO BRANCHES: the array that the blocked kernel leaves is
   `sigmoid gate_gdn * (o_gdn · w_gdn) + sigmoid gate_moba * (o_moba · w_moba)`, and so is what the reference leaves. -/
module

public import proofs.«01_k».proof.Defs
public import proofs.«01_k».proof.Proof.Gen.Kernel6Ideal.Value
public import proofs.«01_k».proof.Proof.Gen.Reference6Ideal.Run
public import Idealize.ShloMosaic.Lib.Pipeline.ValueKit

@[expose] public section

set_option maxRecDepth 16384

noncomputable section

namespace Cert.Proof.Merge

open Cert.Kernel6Ideal Cert.Kernel6Ideal.Gen Idealize.ShloMosaic Idealize.ShloMosaic.TcCoe Idealize.SL.Sem

/-- `1 / (1 + exp (-g))`. -/
def sigm (g : EReal) : EReal := Ideal.div 1 (1 + Ideal.exp (-g))

/-- The two projected branches, each under its gate: columns 6144 and 10240 on of the projection `p`. -/
def merged (og : FVec Ideal S16384x4096 .bf16) (om : FVec Ideal S16384x2048 .bf16) (wg : FVec Ideal S4096x4096 .f32)
    (wm : FVec Ideal S2048x4096 .f32) (p : FVec Ideal S16384x14336 .f32) : FVec Ideal S16384x4096 .bf16 :=
  fun i =>
    sigm (p (ix2 (i 0) ⟨6144 + (i 1).val, by have := (i 1).isLt; simp at this; omega⟩))
        * (∑ k : Fin 4096, og (ix2 (i 0) k) * wg (ix2 k (i 1)))
      + sigm (p (ix2 (i 0) ⟨10240 + (i 1).val, by have := (i 1).isLt; simp at this; omega⟩))
        * ∑ k : Fin 2048, om (ix2 (i 0) k) * wm (ix2 k (i 1))

/-- Which blocks a grid point works on. -/
theorem idx : ∀ t : Fin cfg0.N,
    win0_0.index t = ![(grid0.coords t 0).val, 0] ∧ win0_1.index t = ![(grid0.coords t 0).val, 0]
    ∧ win0_2.index t = ![0, (grid0.coords t 1).val] ∧ win0_3.index t = ![0, (grid0.coords t 1).val]
    ∧ win0_4.index t = ![(grid0.coords t 0).val, 12 + (grid0.coords t 1).val]
    ∧ win0_5.index t = ![(grid0.coords t 0).val, 20 + (grid0.coords t 1).val]
    ∧ win0_6.index t = ![(grid0.coords t 0).val, (grid0.coords t 1).val] :=
  (by decide +kernel : ∀ t : Fin grid0.N, _)

section
variable (m : (ℓ : Loc nD τ sig) → Buf (Elt Ideal) ℓ)

/-- The kernel's array after the run is that function of the argument arrays. -/
theorem final (c : Dev nD) : (dats m 0 c).arrAt 6 cfg0.N
    = merged (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  unfold k0_pay1 merged sigm
  pointwise
  simp only [zero_sub]
  blk_point [iblk, V, idx t]

end

/-- The claim: both programs leave that function of their arguments. -/
theorem algebraic : algebraic_Kernel6Ideal_Reference6Ideal :=
  fun m ρ m' ρ' _ hag => ⟨fun c => merged (m ((c : Thread nD τ).loc main_arg0)) (m ((c : Thread nD τ).loc main_arg1)) (m ((c : Thread nD τ).loc main_arg2)) (m ((c : Thread nD τ).loc main_arg3)) (m ((c : Thread nD τ).loc main_arg4)),
    (θ_run _ _ _).mono (fun _ h c => ⟨(h c).1.trans (final m c), (h c).2⟩) (Cert.Kernel6Ideal.Value.run_blocks m ρ),
    (θ_run _ _ _).mono (fun _ h c => ⟨(h c).1.trans (by
      rw [(hag c).1, (hag c).2.1, (hag c).2.2.1, (hag c).2.2.2.1, (hag c).2.2.2.2]
      funext i
      unfold merged sigm
      pointwise), (h c).2⟩) (Cert.Reference6Ideal.Value.run m' ρ')⟩

end Cert.Proof.Merge

end
-- ==== Proof.OutResidual.lean ====
/- THE OUTPUT PROJECTION OF THE MERGED BRANCHES, ADDED TO THE RESIDUAL: the array that the blocked kernel leaves is
   `x + y · w_out`, and so is what the reference leaves. -/
module

public import proofs.«01_k».proof.Defs
public import proofs.«01_k».proof.Proof.Gen.Kernel7Ideal.Value
public import proofs.«01_k».proof.Proof.Gen.Reference7Ideal.Run
public import Idealize.ShloMosaic.Lib.Pipeline.ValueKit

@[expose] public section

set_option maxRecDepth 16384

noncomputable section

namespace Cert.Proof.OutResidual

open Cert.Kernel7Ideal Cert.Kernel7Ideal.Gen Idealize.ShloMosaic Idealize.ShloMosaic.TcCoe Idealize.SL.Sem

/-- `x + y · w`, element by element. -/
def step (y : FVec Ideal S16384x4096 .bf16) (w : FVec Ideal S4096x4096 .f32) (x : FVec Ideal S16384x4096 .f32) :
    FVec Ideal S16384x4096 .f32 :=
  fun i => x i + ∑ k : Fin 4096, y (ix2 (i 0) k) * w (ix2 k (i 1))

/-- Which blocks a grid point works on. -/
theorem idx : ∀ t : Fin cfg0.N,
    win0_0.index t = ![(grid0.coords t 0).val, 0] ∧ win0_1.index t = ![0, (grid0.coords t 1).val]
    ∧ win0_2.index t = ![(grid0.coords t 0).val, (grid0.coords t 1).val]
    ∧ win0_3.index t = ![(grid0.coords t 0).val, (grid0.coords t 1).val] :=
  (by decide +kernel : ∀ t : Fin grid0.N, _)

section
variable (m : (ℓ : Loc nD τ sig) → Buf (Elt Ideal) ℓ)

/-- The kernel's array after the run is that function of the argument arrays. -/
theorem final (c : Dev nD) : (dats m 0 c).arrAt 3 cfg0.N
    = step (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  unfold k0_pay1 step
  pointwise
  blk_point [iblk, V, idx t]

end

/-- The claim: both programs leave that function of their arguments. -/
theorem algebraic : algebraic_Kernel7Ideal_Reference7Ideal :=
  fun m ρ m' ρ' _ hag => ⟨fun c => step (m ((c : Thread nD τ).loc main_arg0)) (m ((c : Thread nD τ).loc main_arg1)) (m ((c : Thread nD τ).loc main_arg2)),
    (θ_run _ _ _).mono (fun _ h c => ⟨(h c).1.trans (final m c), (h c).2⟩) (Cert.Kernel7Ideal.Value.run_blocks m ρ),
    (θ_run _ _ _).mono (fun _ h c => ⟨(h c).1.trans (by
      rw [(hag c).1, (hag c).2.1, (hag c).2.2]
      funext i
      unfold step
      pointwise), (h c).2⟩) (Cert.Reference7Ideal.Value.run m' ρ')⟩

end Cert.Proof.OutResidual

end
-- ==== Proof.Norm.lean ====
/- THE ROOT-MEAN-SQUARE NORM: the array that the kernel leaves, rows by blocks, is `x * rsqrt (mean (x * x) + eps) * gain`,
   and so is what the reference leaves. -/
module

public import proofs.«01_k».proof.Defs
public import proofs.«01_k».proof.Proof.Gen.Kernel8Ideal.Value
public import proofs.«01_k».proof.Proof.Gen.Reference8Ideal.Run
public import Idealize.ShloMosaic.Lib.Pipeline.ValueKit

@[expose] public section

set_option maxRecDepth 16384

noncomputable section

namespace Cert.Proof.Norm

open Cert.Kernel8Ideal Cert.Kernel8Ideal.Gen Idealize.ShloMosaic Idealize.ShloMosaic.TcCoe Idealize.SL.Sem

/-- `x * rsqrt (mean (x * x) + eps) * gain`, element by element. -/
def norm (x : FVec Ideal S16384x4096 .f32) (g : FVec Ideal S4096 .f32) : FVec Ideal S16384x4096 .bf16 :=
  fun i => x i * Ideal.rsqrt (Ideal.div (∑ k : Fin 4096, x (ix2 (i 0) k) * x (ix2 (i 0) k)) (Ideal.ofBits .f32 0x45800000#32)
    + Ideal.ofBits .f32 0x358637BD#32) * g (ix1 (i 1))

/-- Which blocks a grid point works on. -/
theorem idx : ∀ t : Fin cfg0.N,
    win0_0.index t = ![(grid0.coords t 0).val, 0] ∧ win0_1.index t = ![0, 0]
    ∧ win0_2.index t = ![(grid0.coords t 0).val, 0] :=
  (by decide +kernel : ∀ t : Fin grid0.N, _)

section
variable (m : (ℓ : Loc nD τ sig) → Buf (Elt Ideal) ℓ)

/-- The kernel's array after the run is that function of the argument arrays. -/
theorem final (c : Dev nD) : (dats m 0 c).arrAt 2 cfg0.N
    = norm (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold k0_pay1 norm
  pointwise
  blk_point [iblk, V, idx t]

end

/-- The claim: both programs leave that function of their arguments. -/
theorem algebraic : algebraic_Kernel8Ideal_Reference8Ideal :=
  fun m ρ m' ρ' _ hag => ⟨fun c => norm (m ((c : Thread nD τ).loc main_arg0)) (m ((c : Thread nD τ).loc main_arg1)),
    (θ_run _ _ _).mono (fun _ h c => ⟨(h c).1.trans (final m c), (h c).2⟩) (Cert.Kernel8Ideal.Value.run_blocks m ρ),
    (θ_run _ _ _).mono (fun _ h c => ⟨(h c).1.trans (by
      rw [(hag c).1, (hag c).2]
      funext i
      unfold norm
      pointwise), (h c).2⟩) (Cert.Reference8Ideal.Value.run m' ρ')⟩

end Cert.Proof.Norm

end
-- ==== Proof.ProjectDecay.lean ====
/- THE DECAY AND BETA COLUMNS OF THE COMBINED INPUT PROJECTION: the array that the blocked kernel leaves is columns
   12288 to 12352 of `h · w_in`, padded with zero columns to the width of a register, and so is what the reference leaves. -/
module

public import proofs.«01_k».proof.Defs
public import proofs.«01_k».proof.Proof.Gen.Kernel9Ideal.Value
public import proofs.«01_k».proof.Proof.Gen.Reference9Ideal.Run
public import Idealize.ShloMosaic.Lib.Pipeline.ValueKit

@[expose] public section

set_option maxRecDepth 16384

noncomputable section

namespace Cert.Proof.ProjectDecay

open Cert.Kernel9Ideal Cert.Kernel9Ideal.Gen Idealize.ShloMosaic Idealize.ShloMosaic.TcCoe Idealize.SL.Sem

/-- A weight's column: one of columns 12288 to 12352 of `w`, and past those 64 a column of zeros. -/
def column (w : FVec Ideal S4096x26688 .f32) (k : Fin 4096) (q : Fin 128) : EReal :=
  if h : q.val < 64 then w (ix2 k ⟨12288 + q.val, by omega⟩) else 0

/-- `h` times those columns. -/
def columns (h : FVec Ideal S16384x4096 .bf16) (w : FVec Ideal S4096x26688 .f32) : FVec Ideal S16384x128 .f32 :=
  fun i => ∑ k : Fin 4096, h (ix2 (i 0) k) * column w k (i 1)

/-- Which blocks a grid point works on. -/
theorem idx : ∀ t : Fin cfg0.N,
    win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The integer zero, as an extended real. -/
theorem zero : (FloatOps.sitofp FTy.f32 (0#32 : BitVec 32) : Idealize.ShloMosaic.Ideal .f32) = (0 : EReal) := by
  show ((((0#32 : BitVec 32).toInt : ℤ) : ℝ) : EReal) = 0
  simp

section
variable (m : (ℓ : Loc nD τ sig) → Buf (Elt Ideal) ℓ)

/-- The weight the region is entered with: its columns of the array, then zero columns. -/
theorem weight (c : Dev nD) : V m c main_v2
    = fun i : S4096x128.Idx => column (m ((c : Thread nD τ).loc main_arg1)) (i 0) (i 1) := by
  entry_read
  simp only [hostOps0, hostOps0_1, hostOps0_2, List.flatten_cons, List.flatten_nil, List.append_nil, List.cons_append,
    List.nil_append, StableHlo.TRef.binary, StableHlo.TRef.nullary, StableHlo.TRef.unary, StableHlo.TRef.toBuf, StableHlo.TRef.ofBuf, cast_eq]
  after_results
  funext i
  unfold column
  pointwise
  split
  · rfl
  · exact zero

/-- The kernel's array after the run is that function of the argument arrays. -/
theorem final (c : Dev nD) : (dats m 0 c).arrAt 2 cfg0.N
    = columns (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold k0_pay1 columns
  pointwise
  have hw : ∀ k : Fin 4096, (iblk m c 1 t (ix2 k (y 1)) : EReal)
      = column (m ((c : Thread nD τ).loc main_arg1)) k (((View.whole main_v3).slice (win0_2.rect t)).emb y 1) := fun k => by
    show V m c main_v2 (((View.whole main_v2).slice (win0_1.rect t)).emb (ix2 k (y 1))) = _
    rw [weight]
    refine congrArg₂ (column _) (Fin.ext ?_) (Fin.ext ?_)
    all_goals blk_ext [idx t]
  refine Fin.sum_fin_congr fun k => ?_
  rw [hw k]
  congr 1
  blk_point [iblk, V, idx t]

end

/-- The claim: both programs leave that function of their arguments. -/
theorem algebraic : algebraic_Kernel9Ideal_Reference9Ideal :=
  fun m ρ m' ρ' _ hag => ⟨fun c => columns (m ((c : Thread nD τ).loc main_arg0)) (m ((c : Thread nD τ).loc main_arg1)),
    (θ_run _ _ _).mono (fun _ h c => ⟨(h c).1.trans (final m c), (h c).2⟩) (Cert.Kernel9Ideal.Value.run_blocks m ρ),
    (θ_run _ _ _).mono (fun _ h c => ⟨(h c).1.trans (by
      rw [(hag c).1, (hag c).2]
      funext i
      unfold columns
      pointwise
      unfold column
      split
      · simp only [dif_pos]
      · rw [zero]
        simp), (h c).2⟩) (Cert.Reference9Ideal.Value.run m' ρ')⟩

end Cert.Proof.ProjectDecay

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.GdnValue
public import proofs.«01_k».proof.Proof.FfnUp
public import proofs.«01_k».proof.Proof.DownResidual
public import proofs.«01_k».proof.Proof.ProjectGdn
public import proofs.«01_k».proof.Proof.ProjectMoba
public import proofs.«01_k».proof.Proof.Merge
public import proofs.«01_k».proof.Proof.OutResidual
public import proofs.«01_k».proof.Proof.Norm
public import proofs.«01_k».proof.Proof.ProjectDecay
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Pre_finite.Gen.facts,
    fun m ρ _ => Cert.Kernel.Gen.frame m ρ, fun m ρ _ => Cert.KernelIdeal.Gen.frame m ρ, fun m ρ _ => Cert.KernelIdeal.Gen.frame m ρ,
    fun m ρ _ => (θ_run _ _ _).mono (fun r h => ⟨fun c => (h c).2, sem_eq_zero_of_no_sems (by decide) r.2⟩) (Cert.ReferenceIdeal.Value.run m ρ),
    fun m ρ _ => (θ_run _ _ _).mono (fun r h => ⟨fun c => (h c).2, sem_eq_zero_of_no_sems (by decide) r.2⟩) (Cert.ReferenceIdeal.Value.run m ρ),
    fun m ρ _ => Cert.Kernel2.Gen.frame m ρ, fun m ρ _ => Cert.Kernel2Ideal.Gen.frame m ρ,
    fun m ρ _ => (θ_run _ _ _).mono (fun r h => ⟨fun c => (h c).2, sem_eq_zero_of_no_sems (by decide) r.2⟩) (Cert.Reference2Ideal.Value.run m ρ),
    fun m ρ _ => Cert.Kernel3.Gen.frame m ρ, fun m ρ _ => Cert.Kernel3Ideal.Gen.frame m ρ,
    fun m ρ _ => (θ_run _ _ _).mono (fun r h => ⟨fun c => (h c).2, sem_eq_zero_of_no_sems (by decide) r.2⟩) (Cert.Reference3Ideal.Value.run m ρ),
    fun m ρ _ => Cert.Kernel4.Gen.frame m ρ, fun m ρ _ => Cert.Kernel4Ideal.Gen.frame m ρ,
    fun m ρ _ => (θ_run _ _ _).mono (fun r h => ⟨fun c => (h c).2, sem_eq_zero_of_no_sems (by decide) r.2⟩) (Cert.Reference4Ideal.Value.run m ρ),
    fun m ρ _ => Cert.Kernel5.Gen.frame m ρ, fun m ρ _ => Cert.Kernel5Ideal.Gen.frame m ρ,
    fun m ρ _ => (θ_run _ _ _).mono (fun r h => ⟨fun c => (h c).2, sem_eq_zero_of_no_sems (by decide) r.2⟩) (Cert.Reference5Ideal.Value.run m ρ),
    fun m ρ _ => Cert.Kernel6.Gen.frame m ρ, fun m ρ _ => Cert.Kernel6Ideal.Gen.frame m ρ,
    fun m ρ _ => (θ_run _ _ _).mono (fun r h => ⟨fun c => (h c).2, sem_eq_zero_of_no_sems (by decide) r.2⟩) (Cert.Reference6Ideal.Value.run m ρ),
    fun m ρ _ => Cert.Kernel7.Gen.frame m ρ, fun m ρ _ => Cert.Kernel7Ideal.Gen.frame m ρ,
    fun m ρ _ => (θ_run _ _ _).mono (fun r h => ⟨fun c => (h c).2, sem_eq_zero_of_no_sems (by decide) r.2⟩) (Cert.Reference7Ideal.Value.run m ρ),
    fun m ρ _ => Cert.Kernel8.Gen.frame m ρ, fun m ρ _ => Cert.Kernel8Ideal.Gen.frame m ρ,
    fun m ρ _ => (θ_run _ _ _).mono (fun r h => ⟨fun c => (h c).2, sem_eq_zero_of_no_sems (by decide) r.2⟩) (Cert.Reference8Ideal.Value.run m ρ),
    fun m ρ _ => Cert.Kernel9.Gen.frame m ρ, fun m ρ _ => Cert.Kernel9Ideal.Gen.frame m ρ,
    fun m ρ _ => (θ_run _ _ _).mono (fun r h => ⟨fun c => (h c).2, sem_eq_zero_of_no_sems (by decide) r.2⟩) (Cert.Reference9Ideal.Value.run m ρ),
    trivial, Gdn.algebraic,
    trivial, FfnUp.algebraic,
    trivial, DownResidual.algebraic,
    trivial, ProjectGdn.algebraic,
    trivial, ProjectMoba.algebraic,
    trivial, Merge.algebraic,
    trivial, OutResidual.algebraic,
    trivial, Norm.algebraic,
    trivial, ProjectDecay.algebraic⟩

end Cert.Proof

end
